-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Postmix (m : (ℓ : Loc Cert.Postmix.nD Cert.Postmix.τ Cert.Postmix.sig) → Buf (Elt Bits) ℓ) : Prop :=
  True

def Pre_PostmixIdeal (m : (ℓ : Loc Cert.PostmixIdeal.nD Cert.PostmixIdeal.τ Cert.PostmixIdeal.sig) → Buf (Elt Ideal) ℓ) : Prop :=
  True

def Pre_PostmixRefIdeal (m : (ℓ : Loc Cert.PostmixRefIdeal.nD Cert.PostmixRefIdeal.τ Cert.PostmixRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsIdeal_finite [hPre_finite : Cert.Pre_finite.Facts] (m : (ℓ : Loc Cert.LogitsIdeal.nD Cert.LogitsIdeal.τ Cert.LogitsIdeal.sig) → Buf (Elt Ideal) ℓ) : Prop :=
  ∀ c : Dev Cert.LogitsIdeal.nD,
    (Cert.Pre_finite.fn (F := Ideal) (m ((c.tc : Thread Cert.LogitsIdeal.nD Cert.LogitsIdeal.τ).loc Cert.LogitsIdeal.main_arg0)) (m ((c.tc : Thread Cert.LogitsIdeal.nD Cert.LogitsIdeal.τ).loc Cert.LogitsIdeal.main_arg1)) (m ((c.tc : Thread Cert.LogitsIdeal.nD Cert.LogitsIdeal.τ).loc Cert.LogitsIdeal.main_arg2)) (m ((c.tc : Thread Cert.LogitsIdeal.nD Cert.LogitsIdeal.τ).loc Cert.LogitsIdeal.main_arg3)) (m ((c.tc : Thread Cert.LogitsIdeal.nD Cert.LogitsIdeal.τ).loc Cert.LogitsIdeal.main_arg4)) (m ((c.tc : Thread Cert.LogitsIdeal.nD Cert.LogitsIdeal.τ).loc Cert.LogitsIdeal.main_arg5)) (m ((c.tc : Thread Cert.LogitsIdeal.nD Cert.LogitsIdeal.τ).loc Cert.LogitsIdeal.main_arg6)) (m ((c.tc : Thread Cert.LogitsIdeal.nD Cert.LogitsIdeal.τ).loc Cert.LogitsIdeal.main_arg7)) (m ((c.tc : Thread Cert.LogitsIdeal.nD Cert.LogitsIdeal.τ).loc Cert.LogitsIdeal.main_arg8)) (m ((c.tc : Thread Cert.LogitsIdeal.nD Cert.LogitsIdeal.τ).loc Cert.LogitsIdeal.main_arg9)) (m ((c.tc : Thread Cert.LogitsIdeal.nD Cert.LogitsIdeal.τ).loc Cert.LogitsIdeal.main_arg10)) (m ((c.tc : Thread Cert.LogitsIdeal.nD Cert.LogitsIdeal.τ).loc Cert.LogitsIdeal.main_arg11))) = (fun _ => 1#1)

def Pre_LogitsRefIdeal (m : (ℓ : Loc Cert.LogitsRefIdeal.nD Cert.LogitsRefIdeal.τ Cert.LogitsRefIdeal.sig) → Buf (Elt Ideal) ℓ) : Prop :=
  True

def Pre_LogitsRefIdeal_finite [hPre_finite : Cert.Pre_finite.Facts] (m : (ℓ : Loc Cert.LogitsRefIdeal.nD Cert.LogitsRefIdeal.τ Cert.LogitsRefIdeal.sig) → Buf (Elt Ideal) ℓ) : Prop :=
  ∀ c : Dev Cert.LogitsRefIdeal.nD,
    (Cert.Pre_finite.fn (F := Ideal) (m ((c.tc : Thread Cert.LogitsRefIdeal.nD Cert.LogitsRefIdeal.τ).loc Cert.LogitsRefIdeal.main_arg0)) (m ((c.tc : Thread Cert.LogitsRefIdeal.nD Cert.LogitsRefIdeal.τ).loc Cert.LogitsRefIdeal.main_arg1)) (m ((c.tc : Thread Cert.LogitsRefIdeal.nD Cert.LogitsRefIdeal.τ).loc Cert.LogitsRefIdeal.main_arg2)) (m ((c.tc : Thread Cert.LogitsRefIdeal.nD Cert.LogitsRefIdeal.τ).loc Cert.LogitsRefIdeal.main_arg3)) (m ((c.tc : Thread Cert.LogitsRefIdeal.nD Cert.LogitsRefIdeal.τ).loc Cert.LogitsRefIdeal.main_arg4)) (m ((c.tc : Thread Cert.LogitsRefIdeal.nD Cert.LogitsRefIdeal.τ).loc Cert.LogitsRefIdeal.main_arg5)) (m ((c.tc : Thread Cert.LogitsRefIdeal.nD Cert.LogitsRefIdeal.τ).loc Cert.LogitsRefIdeal.main_arg6)) (m ((c.tc : Thread Cert.LogitsRefIdeal.nD Cert.LogitsRefIdeal.τ).loc Cert.LogitsRefIdeal.main_arg7)) (m ((c.tc : Thread Cert.LogitsRefIdeal.nD Cert.LogitsRefIdeal.τ).loc Cert.LogitsRefIdeal.main_arg8)) (m ((c.tc : Thread Cert.LogitsRefIdeal.nD Cert.LogitsRefIdeal.τ).loc Cert.LogitsRefIdeal.main_arg9)) (m ((c.tc : Thread Cert.LogitsRefIdeal.nD Cert.LogitsRefIdeal.τ).loc Cert.LogitsRefIdeal.main_arg10)) (m ((c.tc : Thread Cert.LogitsRefIdeal.nD Cert.LogitsRefIdeal.τ).loc Cert.LogitsRefIdeal.main_arg11))) = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_above [hPre_above : Cert.Pre_above.Facts] (m : (ℓ : Loc Cert.RouteIdeal.nD Cert.RouteIdeal.τ Cert.RouteIdeal.sig) → Buf (Elt Ideal) ℓ) : Prop :=
  ∀ c : Dev Cert.RouteIdeal.nD,
    (Cert.Pre_above.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_above [hPre_above : Cert.Pre_above.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_above.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9)
      ∧ r.2.mem ((c.tc : Thread Cert.Moe.nD Cert.Moe.τ).loc Cert.Moe.main_arg10) = m ((c.tc : Thread Cert.Moe.nD Cert.Moe.τ).loc Cert.Moe.main_arg10)
      ∧ r.2.mem ((c.tc : Thread Cert.Moe.nD Cert.Moe.τ).loc Cert.Moe.main_arg11) = m ((c.tc : Thread Cert.Moe.nD Cert.Moe.τ).loc Cert.Moe.main_arg11))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10)
      ∧ r.2.mem ((c.tc : Thread Cert.MoeIdeal.nD Cert.MoeIdeal.τ).loc Cert.MoeIdeal.main_arg11) = m ((c.tc : Thread Cert.MoeIdeal.nD Cert.MoeIdeal.τ).loc Cert.MoeIdeal.main_arg11))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10)
      ∧ r.2.mem ((c.tc : Thread Cert.MoeRefIdeal.nD Cert.MoeRefIdeal.τ).loc Cert.MoeRefIdeal.main_arg11) = m ((c.tc : Thread Cert.MoeRefIdeal.nD Cert.MoeRefIdeal.τ).loc Cert.MoeRefIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Postmix [hPostmix : Cert.Postmix.Facts] : Prop :=
  ∀ (m : (ℓ : Loc Cert.Postmix.nD Cert.Postmix.τ Cert.Postmix.sig) → Buf (Elt Bits) ℓ) (g : Dev Cert.Postmix.nD → PrngReg), Pre_Postmix m →
    θ_run (Cert.Postmix.defs (F := Bits)) (onTc (τ := Cert.Postmix.τ) (Cert.Postmix.main (F := Bits))) ⟨m, fun _ => 0, g⟩ (fun r => (∀ c : Dev Cert.Postmix.nD,
      r.2.mem ((c.tc : Thread Cert.Postmix.nD Cert.Postmix.τ).loc Cert.Postmix.main_arg0) = m ((c.tc : Thread Cert.Postmix.nD Cert.Postmix.τ).loc Cert.Postmix.main_arg0)
      ∧ r.2.mem ((c.tc : Thread Cert.Postmix.nD Cert.Postmix.τ).loc Cert.Postmix.main_arg1) = m ((c.tc : Thread Cert.Postmix.nD Cert.Postmix.τ).loc Cert.Postmix.main_arg1)
      ∧ r.2.mem ((c.tc : Thread Cert.Postmix.nD Cert.Postmix.τ).loc Cert.Postmix.main_arg2) = m ((c.tc : Thread Cert.Postmix.nD Cert.Postmix.τ).loc Cert.Postmix.main_arg2)
      ∧ r.2.mem ((c.tc : Thread Cert.Postmix.nD Cert.Postmix.τ).loc Cert.Postmix.main_arg3) = m ((c.tc : Thread Cert.Postmix.nD Cert.Postmix.τ).loc Cert.Postmix.main_arg3)
      ∧ r.2.mem ((c.tc : Thread Cert.Postmix.nD Cert.Postmix.τ).loc Cert.Postmix.main_arg4) = m ((c.tc : Thread Cert.Postmix.nD Cert.Postmix.τ).loc Cert.Postmix.main_arg4)
      ∧ r.2.mem ((c.tc : Thread Cert.Postmix.nD Cert.Postmix.τ).loc Cert.Postmix.main_arg5) = m ((c.tc : Thread Cert.Postmix.nD Cert.Postmix.τ).loc Cert.Postmix.main_arg5)
      ∧ r.2.mem ((c.tc : Thread Cert.Postmix.nD Cert.Postmix.τ).loc Cert.Postmix.main_arg6) = m ((c.tc : Thread Cert.Postmix.nD Cert.Postmix.τ).loc Cert.Postmix.main_arg6)
      ∧ r.2.mem ((c.tc : Thread Cert.Postmix.nD Cert.Postmix.τ).loc Cert.Postmix.main_arg7) = m ((c.tc : Thread Cert.Postmix.nD Cert.Postmix.τ).loc Cert.Postmix.main_arg7)
      ∧ r.2.mem ((c.tc : Thread Cert.Postmix.nD Cert.Postmix.τ).loc Cert.Postmix.main_arg8) = m ((c.tc : Thread Cert.Postmix.nD Cert.Postmix.τ).loc Cert.Postmix.main_arg8)
      ∧ r.2.mem ((c.tc : Thread Cert.Postmix.nD Cert.Postmix.τ).loc Cert.Postmix.main_arg9) = m ((c.tc : Thread Cert.Postmix.nD Cert.Postmix.τ).loc Cert.Postmix.main_arg9)
      ∧ r.2.mem ((c.tc : Thread Cert.Postmix.nD Cert.Postmix.τ).loc Cert.Postmix.main_arg10) = m ((c.tc : Thread Cert.Postmix.nD Cert.Postmix.τ).loc Cert.Postmix.main_arg10)
      ∧ r.2.mem ((c.tc : Thread Cert.Postmix.nD Cert.Postmix.τ).loc Cert.Postmix.main_arg11) = m ((c.tc : Thread Cert.Postmix.nD Cert.Postmix.τ).loc Cert.Postmix.main_arg11))
      ∧ r.2.sem = fun _ => 0)

def quiescent_PostmixIdeal [hPostmixIdeal : Cert.PostmixIdeal.Facts] : Prop :=
  ∀ (m : (ℓ : Loc Cert.PostmixIdeal.nD Cert.PostmixIdeal.τ Cert.PostmixIdeal.sig) → Buf (Elt Ideal) ℓ) (g : Dev Cert.PostmixIdeal.nD → PrngReg), Pre_PostmixIdeal m →
    θ_run (Cert.PostmixIdeal.defs (F := Ideal)) (onTc (τ := Cert.PostmixIdeal.τ) (Cert.PostmixIdeal.main (F := Ideal))) ⟨m, fun _ => 0, g⟩ (fun r => (∀ c : Dev Cert.PostmixIdeal.nD,
      r.2.mem ((c.tc : Thread Cert.PostmixIdeal.nD Cert.PostmixIdeal.τ).loc Cert.PostmixIdeal.main_arg0) = m ((c.tc : Thread Cert.PostmixIdeal.nD Cert.PostmixIdeal.τ).loc Cert.PostmixIdeal.main_arg0)
      ∧ r.2.mem ((c.tc : Thread Cert.PostmixIdeal.nD Cert.PostmixIdeal.τ).loc Cert.PostmixIdeal.main_arg1) = m ((c.tc : Thread Cert.PostmixIdeal.nD Cert.PostmixIdeal.τ).loc Cert.PostmixIdeal.main_arg1)
      ∧ r.2.mem ((c.tc : Thread Cert.PostmixIdeal.nD Cert.PostmixIdeal.τ).loc Cert.PostmixIdeal.main_arg2) = m ((c.tc : Thread Cert.PostmixIdeal.nD Cert.PostmixIdeal.τ).loc Cert.PostmixIdeal.main_arg2)
      ∧ r.2.mem ((c.tc : Thread Cert.PostmixIdeal.nD Cert.PostmixIdeal.τ).loc Cert.PostmixIdeal.main_arg3) = m ((c.tc : Thread Cert.PostmixIdeal.nD Cert.PostmixIdeal.τ).loc Cert.PostmixIdeal.main_arg3)
      ∧ r.2.mem ((c.tc : Thread Cert.PostmixIdeal.nD Cert.PostmixIdeal.τ).loc Cert.PostmixIdeal.main_arg4) = m ((c.tc : Thread Cert.PostmixIdeal.nD Cert.PostmixIdeal.τ).loc Cert.PostmixIdeal.main_arg4)
      ∧ r.2.mem ((c.tc : Thread Cert.PostmixIdeal.nD Cert.PostmixIdeal.τ).loc Cert.PostmixIdeal.main_arg5) = m ((c.tc : Thread Cert.PostmixIdeal.nD Cert.PostmixIdeal.τ).loc Cert.PostmixIdeal.main_arg5)
      ∧ r.2.mem ((c.tc : Thread Cert.PostmixIdeal.nD Cert.PostmixIdeal.τ).loc Cert.PostmixIdeal.main_arg6) = m ((c.tc : Thread Cert.PostmixIdeal.nD Cert.PostmixIdeal.τ).loc Cert.PostmixIdeal.main_arg6)
      ∧ r.2.mem ((c.tc : Thread Cert.PostmixIdeal.nD Cert.PostmixIdeal.τ).loc Cert.PostmixIdeal.main_arg7) = m ((c.tc : Thread Cert.PostmixIdeal.nD Cert.PostmixIdeal.τ).loc Cert.PostmixIdeal.main_arg7)
      ∧ r.2.mem ((c.tc : Thread Cert.PostmixIdeal.nD Cert.PostmixIdeal.τ).loc Cert.PostmixIdeal.main_arg8) = m ((c.tc : Thread Cert.PostmixIdeal.nD Cert.PostmixIdeal.τ).loc Cert.PostmixIdeal.main_arg8)
      ∧ r.2.mem ((c.tc : Thread Cert.PostmixIdeal.nD Cert.PostmixIdeal.τ).loc Cert.PostmixIdeal.main_arg9) = m ((c.tc : Thread Cert.PostmixIdeal.nD Cert.PostmixIdeal.τ).loc Cert.PostmixIdeal.main_arg9)
      ∧ r.2.mem ((c.tc : Thread Cert.PostmixIdeal.nD Cert.PostmixIdeal.τ).loc Cert.PostmixIdeal.main_arg10) = m ((c.tc : Thread Cert.PostmixIdeal.nD Cert.PostmixIdeal.τ).loc Cert.PostmixIdeal.main_arg10)
      ∧ r.2.mem ((c.tc : Thread Cert.PostmixIdeal.nD Cert.PostmixIdeal.τ).loc Cert.PostmixIdeal.main_arg11) = m ((c.tc : Thread Cert.PostmixIdeal.nD Cert.PostmixIdeal.τ).loc Cert.PostmixIdeal.main_arg11))
      ∧ r.2.sem = fun _ => 0)

def quiescent_PostmixRefIdeal [hPostmixRefIdeal : Cert.PostmixRefIdeal.Facts] : Prop :=
  ∀ (m : (ℓ : Loc Cert.PostmixRefIdeal.nD Cert.PostmixRefIdeal.τ Cert.PostmixRefIdeal.sig) → Buf (Elt Ideal) ℓ) (g : Dev Cert.PostmixRefIdeal.nD → PrngReg), Pre_PostmixRefIdeal m →
    θ_run (Cert.PostmixRefIdeal.defs (F := Ideal)) (onTc (τ := Cert.PostmixRefIdeal.τ) (Cert.PostmixRefIdeal.main (F := Ideal))) ⟨m, fun _ => 0, g⟩ (fun r => (∀ c : Dev Cert.PostmixRefIdeal.nD,
      r.2.mem ((c.tc : Thread Cert.PostmixRefIdeal.nD Cert.PostmixRefIdeal.τ).loc Cert.PostmixRefIdeal.main_arg0) = m ((c.tc : Thread Cert.PostmixRefIdeal.nD Cert.PostmixRefIdeal.τ).loc Cert.PostmixRefIdeal.main_arg0)
      ∧ r.2.mem ((c.tc : Thread Cert.PostmixRefIdeal.nD Cert.PostmixRefIdeal.τ).loc Cert.PostmixRefIdeal.main_arg1) = m ((c.tc : Thread Cert.PostmixRefIdeal.nD Cert.PostmixRefIdeal.τ).loc Cert.PostmixRefIdeal.main_arg1)
      ∧ r.2.mem ((c.tc : Thread Cert.PostmixRefIdeal.nD Cert.PostmixRefIdeal.τ).loc Cert.PostmixRefIdeal.main_arg2) = m ((c.tc : Thread Cert.PostmixRefIdeal.nD Cert.PostmixRefIdeal.τ).loc Cert.PostmixRefIdeal.main_arg2)
      ∧ r.2.mem ((c.tc : Thread Cert.PostmixRefIdeal.nD Cert.PostmixRefIdeal.τ).loc Cert.PostmixRefIdeal.main_arg3) = m ((c.tc : Thread Cert.PostmixRefIdeal.nD Cert.PostmixRefIdeal.τ).loc Cert.PostmixRefIdeal.main_arg3)
      ∧ r.2.mem ((c.tc : Thread Cert.PostmixRefIdeal.nD Cert.PostmixRefIdeal.τ).loc Cert.PostmixRefIdeal.main_arg4) = m ((c.tc : Thread Cert.PostmixRefIdeal.nD Cert.PostmixRefIdeal.τ).loc Cert.PostmixRefIdeal.main_arg4)
      ∧ r.2.mem ((c.tc : Thread Cert.PostmixRefIdeal.nD Cert.PostmixRefIdeal.τ).loc Cert.PostmixRefIdeal.main_arg5) = m ((c.tc : Thread Cert.PostmixRefIdeal.nD Cert.PostmixRefIdeal.τ).loc Cert.PostmixRefIdeal.main_arg5)
      ∧ r.2.mem ((c.tc : Thread Cert.PostmixRefIdeal.nD Cert.PostmixRefIdeal.τ).loc Cert.PostmixRefIdeal.main_arg6) = m ((c.tc : Thread Cert.PostmixRefIdeal.nD Cert.PostmixRefIdeal.τ).loc Cert.PostmixRefIdeal.main_arg6)
      ∧ r.2.mem ((c.tc : Thread Cert.PostmixRefIdeal.nD Cert.PostmixRefIdeal.τ).loc Cert.PostmixRefIdeal.main_arg7) = m ((c.tc : Thread Cert.PostmixRefIdeal.nD Cert.PostmixRefIdeal.τ).loc Cert.PostmixRefIdeal.main_arg7)
      ∧ r.2.mem ((c.tc : Thread Cert.PostmixRefIdeal.nD Cert.PostmixRefIdeal.τ).loc Cert.PostmixRefIdeal.main_arg8) = m ((c.tc : Thread Cert.PostmixRefIdeal.nD Cert.PostmixRefIdeal.τ).loc Cert.PostmixRefIdeal.main_arg8)
      ∧ r.2.mem ((c.tc : Thread Cert.PostmixRefIdeal.nD Cert.PostmixRefIdeal.τ).loc Cert.PostmixRefIdeal.main_arg9) = m ((c.tc : Thread Cert.PostmixRefIdeal.nD Cert.PostmixRefIdeal.τ).loc Cert.PostmixRefIdeal.main_arg9)
      ∧ r.2.mem ((c.tc : Thread Cert.PostmixRefIdeal.nD Cert.PostmixRefIdeal.τ).loc Cert.PostmixRefIdeal.main_arg10) = m ((c.tc : Thread Cert.PostmixRefIdeal.nD Cert.PostmixRefIdeal.τ).loc Cert.PostmixRefIdeal.main_arg10)
      ∧ r.2.mem ((c.tc : Thread Cert.PostmixRefIdeal.nD Cert.PostmixRefIdeal.τ).loc Cert.PostmixRefIdeal.main_arg11) = m ((c.tc : Thread Cert.PostmixRefIdeal.nD Cert.PostmixRefIdeal.τ).loc Cert.PostmixRefIdeal.main_arg11))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4)
      ∧ r.2.mem ((c.tc : Thread Cert.Ada.nD Cert.Ada.τ).loc Cert.Ada.main_arg5) = m ((c.tc : Thread Cert.Ada.nD Cert.Ada.τ).loc Cert.Ada.main_arg5)
      ∧ r.2.mem ((c.tc : Thread Cert.Ada.nD Cert.Ada.τ).loc Cert.Ada.main_arg6) = m ((c.tc : Thread Cert.Ada.nD Cert.Ada.τ).loc Cert.Ada.main_arg6)
      ∧ r.2.mem ((c.tc : Thread Cert.Ada.nD Cert.Ada.τ).loc Cert.Ada.main_arg7) = m ((c.tc : Thread Cert.Ada.nD Cert.Ada.τ).loc Cert.Ada.main_arg7)
      ∧ r.2.mem ((c.tc : Thread Cert.Ada.nD Cert.Ada.τ).loc Cert.Ada.main_arg8) = m ((c.tc : Thread Cert.Ada.nD Cert.Ada.τ).loc Cert.Ada.main_arg8)
      ∧ r.2.mem ((c.tc : Thread Cert.Ada.nD Cert.Ada.τ).loc Cert.Ada.main_arg9) = m ((c.tc : Thread Cert.Ada.nD Cert.Ada.τ).loc Cert.Ada.main_arg9))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4)
      ∧ r.2.mem ((c.tc : Thread Cert.AdaIdeal.nD Cert.AdaIdeal.τ).loc Cert.AdaIdeal.main_arg5) = m ((c.tc : Thread Cert.AdaIdeal.nD Cert.AdaIdeal.τ).loc Cert.AdaIdeal.main_arg5)
      ∧ r.2.mem ((c.tc : Thread Cert.AdaIdeal.nD Cert.AdaIdeal.τ).loc Cert.AdaIdeal.main_arg6) = m ((c.tc : Thread Cert.AdaIdeal.nD Cert.AdaIdeal.τ).loc Cert.AdaIdeal.main_arg6)
      ∧ r.2.mem ((c.tc : Thread Cert.AdaIdeal.nD Cert.AdaIdeal.τ).loc Cert.AdaIdeal.main_arg7) = m ((c.tc : Thread Cert.AdaIdeal.nD Cert.AdaIdeal.τ).loc Cert.AdaIdeal.main_arg7)
      ∧ r.2.mem ((c.tc : Thread Cert.AdaIdeal.nD Cert.AdaIdeal.τ).loc Cert.AdaIdeal.main_arg8) = m ((c.tc : Thread Cert.AdaIdeal.nD Cert.AdaIdeal.τ).loc Cert.AdaIdeal.main_arg8)
      ∧ r.2.mem ((c.tc : Thread Cert.AdaIdeal.nD Cert.AdaIdeal.τ).loc Cert.AdaIdeal.main_arg9) = m ((c.tc : Thread Cert.AdaIdeal.nD Cert.AdaIdeal.τ).loc Cert.AdaIdeal.main_arg9))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4)
      ∧ r.2.mem ((c.tc : Thread Cert.AdaRefIdeal.nD Cert.AdaRefIdeal.τ).loc Cert.AdaRefIdeal.main_arg5) = m ((c.tc : Thread Cert.AdaRefIdeal.nD Cert.AdaRefIdeal.τ).loc Cert.AdaRefIdeal.main_arg5)
      ∧ r.2.mem ((c.tc : Thread Cert.AdaRefIdeal.nD Cert.AdaRefIdeal.τ).loc Cert.AdaRefIdeal.main_arg6) = m ((c.tc : Thread Cert.AdaRefIdeal.nD Cert.AdaRefIdeal.τ).loc Cert.AdaRefIdeal.main_arg6)
      ∧ r.2.mem ((c.tc : Thread Cert.AdaRefIdeal.nD Cert.AdaRefIdeal.τ).loc Cert.AdaRefIdeal.main_arg7) = m ((c.tc : Thread Cert.AdaRefIdeal.nD Cert.AdaRefIdeal.τ).loc Cert.AdaRefIdeal.main_arg7)
      ∧ r.2.mem ((c.tc : Thread Cert.AdaRefIdeal.nD Cert.AdaRefIdeal.τ).loc Cert.AdaRefIdeal.main_arg8) = m ((c.tc : Thread Cert.AdaRefIdeal.nD Cert.AdaRefIdeal.τ).loc Cert.AdaRefIdeal.main_arg8)
      ∧ r.2.mem ((c.tc : Thread Cert.AdaRefIdeal.nD Cert.AdaRefIdeal.τ).loc Cert.AdaRefIdeal.main_arg9) = m ((c.tc : Thread Cert.AdaRefIdeal.nD Cert.AdaRefIdeal.τ).loc Cert.AdaRefIdeal.main_arg9))
      ∧ r.2.sem = fun _ => 0)

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2)
      ∧ r.2.mem ((c.tc : Thread Cert.Logits.nD Cert.Logits.τ).loc Cert.Logits.main_arg3) = m ((c.tc : Thread Cert.Logits.nD Cert.Logits.τ).loc Cert.Logits.main_arg3)
      ∧ r.2.mem ((c.tc : Thread Cert.Logits.nD Cert.Logits.τ).loc Cert.Logits.main_arg4) = m ((c.tc : Thread Cert.Logits.nD Cert.Logits.τ).loc Cert.Logits.main_arg4)
      ∧ r.2.mem ((c.tc : Thread Cert.Logits.nD Cert.Logits.τ).loc Cert.Logits.main_arg5) = m ((c.tc : Thread Cert.Logits.nD Cert.Logits.τ).loc Cert.Logits.main_arg5)
      ∧ r.2.mem ((c.tc : Thread Cert.Logits.nD Cert.Logits.τ).loc Cert.Logits.main_arg6) = m ((c.tc : Thread Cert.Logits.nD Cert.Logits.τ).loc Cert.Logits.main_arg6)
      ∧ r.2.mem ((c.tc : Thread Cert.Logits.nD Cert.Logits.τ).loc Cert.Logits.main_arg7) = m ((c.tc : Thread Cert.Logits.nD Cert.Logits.τ).loc Cert.Logits.main_arg7)
      ∧ r.2.mem ((c.tc : Thread Cert.Logits.nD Cert.Logits.τ).loc Cert.Logits.main_arg8) = m ((c.tc : Thread Cert.Logits.nD Cert.Logits.τ).loc Cert.Logits.main_arg8)
      ∧ r.2.mem ((c.tc : Thread Cert.Logits.nD Cert.Logits.τ).loc Cert.Logits.main_arg9) = m ((c.tc : Thread Cert.Logits.nD Cert.Logits.τ).loc Cert.Logits.main_arg9)
      ∧ r.2.mem ((c.tc : Thread Cert.Logits.nD Cert.Logits.τ).loc Cert.Logits.main_arg10) = m ((c.tc : Thread Cert.Logits.nD Cert.Logits.τ).loc Cert.Logits.main_arg10)
      ∧ r.2.mem ((c.tc : Thread Cert.Logits.nD Cert.Logits.τ).loc Cert.Logits.main_arg11) = m ((c.tc : Thread Cert.Logits.nD Cert.Logits.τ).loc Cert.Logits.main_arg11))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
      ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
      ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5)
      ∧ r.2.mem ((c.tc : Thread Cert.LogitsIdeal.nD Cert.LogitsIdeal.τ).loc Cert.LogitsIdeal.main_arg6) = m ((c.tc : Thread Cert.LogitsIdeal.nD Cert.LogitsIdeal.τ).loc Cert.LogitsIdeal.main_arg6)
      ∧ r.2.mem ((c.tc : Thread Cert.LogitsIdeal.nD Cert.LogitsIdeal.τ).loc Cert.LogitsIdeal.main_arg7) = m ((c.tc : Thread Cert.LogitsIdeal.nD Cert.LogitsIdeal.τ).loc Cert.LogitsIdeal.main_arg7)
      ∧ r.2.mem ((c.tc : Thread Cert.LogitsIdeal.nD Cert.LogitsIdeal.τ).loc Cert.LogitsIdeal.main_arg8) = m ((c.tc : Thread Cert.LogitsIdeal.nD Cert.LogitsIdeal.τ).loc Cert.LogitsIdeal.main_arg8)
      ∧ r.2.mem ((c.tc : Thread Cert.LogitsIdeal.nD Cert.LogitsIdeal.τ).loc Cert.LogitsIdeal.main_arg9) = m ((c.tc : Thread Cert.LogitsIdeal.nD Cert.LogitsIdeal.τ).loc Cert.LogitsIdeal.main_arg9)
      ∧ r.2.mem ((c.tc : Thread Cert.LogitsIdeal.nD Cert.LogitsIdeal.τ).loc Cert.LogitsIdeal.main_arg10) = m ((c.tc : Thread Cert.LogitsIdeal.nD Cert.LogitsIdeal.τ).loc Cert.LogitsIdeal.main_arg10)
      ∧ r.2.mem ((c.tc : Thread Cert.LogitsIdeal.nD Cert.LogitsIdeal.τ).loc Cert.LogitsIdeal.main_arg11) = m ((c.tc : Thread Cert.LogitsIdeal.nD Cert.LogitsIdeal.τ).loc Cert.LogitsIdeal.main_arg11))
      ∧ r.2.sem = fun _ => 0)

def quiescent_LogitsIdeal_pre_finite [hLogitsIdeal : Cert.LogitsIdeal.Facts] [hPre_finite : Cert.Pre_finite.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal_finite m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
      ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
      ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5)
      ∧ r.2.mem ((c.tc : Thread Cert.LogitsIdeal.nD Cert.LogitsIdeal.τ).loc Cert.LogitsIdeal.main_arg6) = m ((c.tc : Thread Cert.LogitsIdeal.nD Cert.LogitsIdeal.τ).loc Cert.LogitsIdeal.main_arg6)
      ∧ r.2.mem ((c.tc : Thread Cert.LogitsIdeal.nD Cert.LogitsIdeal.τ).loc Cert.LogitsIdeal.main_arg7) = m ((c.tc : Thread Cert.LogitsIdeal.nD Cert.LogitsIdeal.τ).loc Cert.LogitsIdeal.main_arg7)
      ∧ r.2.mem ((c.tc : Thread Cert.LogitsIdeal.nD Cert.LogitsIdeal.τ).loc Cert.LogitsIdeal.main_arg8) = m ((c.tc : Thread Cert.LogitsIdeal.nD Cert.LogitsIdeal.τ).loc Cert.LogitsIdeal.main_arg8)
      ∧ r.2.mem ((c.tc : Thread Cert.LogitsIdeal.nD Cert.LogitsIdeal.τ).loc Cert.LogitsIdeal.main_arg9) = m ((c.tc : Thread Cert.LogitsIdeal.nD Cert.LogitsIdeal.τ).loc Cert.LogitsIdeal.main_arg9)
      ∧ r.2.mem ((c.tc : Thread Cert.LogitsIdeal.nD Cert.LogitsIdeal.τ).loc Cert.LogitsIdeal.main_arg10) = m ((c.tc : Thread Cert.LogitsIdeal.nD Cert.LogitsIdeal.τ).loc Cert.LogitsIdeal.main_arg10)
      ∧ r.2.mem ((c.tc : Thread Cert.LogitsIdeal.nD Cert.LogitsIdeal.τ).loc Cert.LogitsIdeal.main_arg11) = m ((c.tc : Thread Cert.LogitsIdeal.nD Cert.LogitsIdeal.τ).loc Cert.LogitsIdeal.main_arg11))
      ∧ r.2.sem = fun _ => 0)

def quiescent_LogitsRefIdeal [hLogitsRefIdeal : Cert.LogitsRefIdeal.Facts] : Prop :=
  ∀ (m : (ℓ : Loc Cert.LogitsRefIdeal.nD Cert.LogitsRefIdeal.τ Cert.LogitsRefIdeal.sig) → Buf (Elt Ideal) ℓ) (g : Dev Cert.LogitsRefIdeal.nD → PrngReg), Pre_LogitsRefIdeal m →
    θ_run (Cert.LogitsRefIdeal.defs (F := Ideal)) (onTc (τ := Cert.LogitsRefIdeal.τ) (Cert.LogitsRefIdeal.main (F := Ideal))) ⟨m, fun _ => 0, g⟩ (fun r => (∀ c : Dev Cert.LogitsRefIdeal.nD,
      r.2.mem ((c.tc : Thread Cert.LogitsRefIdeal.nD Cert.LogitsRefIdeal.τ).loc Cert.LogitsRefIdeal.main_arg0) = m ((c.tc : Thread Cert.LogitsRefIdeal.nD Cert.LogitsRefIdeal.τ).loc Cert.LogitsRefIdeal.main_arg0)
      ∧ r.2.mem ((c.tc : Thread Cert.LogitsRefIdeal.nD Cert.LogitsRefIdeal.τ).loc Cert.LogitsRefIdeal.main_arg1) = m ((c.tc : Thread Cert.LogitsRefIdeal.nD Cert.LogitsRefIdeal.τ).loc Cert.LogitsRefIdeal.main_arg1)
      ∧ r.2.mem ((c.tc : Thread Cert.LogitsRefIdeal.nD Cert.LogitsRefIdeal.τ).loc Cert.LogitsRefIdeal.main_arg2) = m ((c.tc : Thread Cert.LogitsRefIdeal.nD Cert.LogitsRefIdeal.τ).loc Cert.LogitsRefIdeal.main_arg2)
      ∧ r.2.mem ((c.tc : Thread Cert.LogitsRefIdeal.nD Cert.LogitsRefIdeal.τ).loc Cert.LogitsRefIdeal.main_arg3) = m ((c.tc : Thread Cert.LogitsRefIdeal.nD Cert.LogitsRefIdeal.τ).loc Cert.LogitsRefIdeal.main_arg3)
      ∧ r.2.mem ((c.tc : Thread Cert.LogitsRefIdeal.nD Cert.LogitsRefIdeal.τ).loc Cert.LogitsRefIdeal.main_arg4) = m ((c.tc : Thread Cert.LogitsRefIdeal.nD Cert.LogitsRefIdeal.τ).loc Cert.LogitsRefIdeal.main_arg4)
      ∧ r.2.mem ((c.tc : Thread Cert.LogitsRefIdeal.nD Cert.LogitsRefIdeal.τ).loc Cert.LogitsRefIdeal.main_arg5) = m ((c.tc : Thread Cert.LogitsRefIdeal.nD Cert.LogitsRefIdeal.τ).loc Cert.LogitsRefIdeal.main_arg5)
      ∧ r.2.mem ((c.tc : Thread Cert.LogitsRefIdeal.nD Cert.LogitsRefIdeal.τ).loc Cert.LogitsRefIdeal.main_arg6) = m ((c.tc : Thread Cert.LogitsRefIdeal.nD Cert.LogitsRefIdeal.τ).loc Cert.LogitsRefIdeal.main_arg6)
      ∧ r.2.mem ((c.tc : Thread Cert.LogitsRefIdeal.nD Cert.LogitsRefIdeal.τ).loc Cert.LogitsRefIdeal.main_arg7) = m ((c.tc : Thread Cert.LogitsRefIdeal.nD Cert.LogitsRefIdeal.τ).loc Cert.LogitsRefIdeal.main_arg7)
      ∧ r.2.mem ((c.tc : Thread Cert.LogitsRefIdeal.nD Cert.LogitsRefIdeal.τ).loc Cert.LogitsRefIdeal.main_arg8) = m ((c.tc : Thread Cert.LogitsRefIdeal.nD Cert.LogitsRefIdeal.τ).loc Cert.LogitsRefIdeal.main_arg8)
      ∧ r.2.mem ((c.tc : Thread Cert.LogitsRefIdeal.nD Cert.LogitsRefIdeal.τ).loc Cert.LogitsRefIdeal.main_arg9) = m ((c.tc : Thread Cert.LogitsRefIdeal.nD Cert.LogitsRefIdeal.τ).loc Cert.LogitsRefIdeal.main_arg9)
      ∧ r.2.mem ((c.tc : Thread Cert.LogitsRefIdeal.nD Cert.LogitsRefIdeal.τ).loc Cert.LogitsRefIdeal.main_arg10) = m ((c.tc : Thread Cert.LogitsRefIdeal.nD Cert.LogitsRefIdeal.τ).loc Cert.LogitsRefIdeal.main_arg10)
      ∧ r.2.mem ((c.tc : Thread Cert.LogitsRefIdeal.nD Cert.LogitsRefIdeal.τ).loc Cert.LogitsRefIdeal.main_arg11) = m ((c.tc : Thread Cert.LogitsRefIdeal.nD Cert.LogitsRefIdeal.τ).loc Cert.LogitsRefIdeal.main_arg11))
      ∧ r.2.sem = fun _ => 0)

def quiescent_LogitsRefIdeal_pre_finite [hLogitsRefIdeal : Cert.LogitsRefIdeal.Facts] [hPre_finite : Cert.Pre_finite.Facts] : Prop :=
  ∀ (m : (ℓ : Loc Cert.LogitsRefIdeal.nD Cert.LogitsRefIdeal.τ Cert.LogitsRefIdeal.sig) → Buf (Elt Ideal) ℓ) (g : Dev Cert.LogitsRefIdeal.nD → PrngReg), Pre_LogitsRefIdeal_finite m →
    θ_run (Cert.LogitsRefIdeal.defs (F := Ideal)) (onTc (τ := Cert.LogitsRefIdeal.τ) (Cert.LogitsRefIdeal.main (F := Ideal))) ⟨m, fun _ => 0, g⟩ (fun r => (∀ c : Dev Cert.LogitsRefIdeal.nD,
      r.2.mem ((c.tc : Thread Cert.LogitsRefIdeal.nD Cert.LogitsRefIdeal.τ).loc Cert.LogitsRefIdeal.main_arg0) = m ((c.tc : Thread Cert.LogitsRefIdeal.nD Cert.LogitsRefIdeal.τ).loc Cert.LogitsRefIdeal.main_arg0)
      ∧ r.2.mem ((c.tc : Thread Cert.LogitsRefIdeal.nD Cert.LogitsRefIdeal.τ).loc Cert.LogitsRefIdeal.main_arg1) = m ((c.tc : Thread Cert.LogitsRefIdeal.nD Cert.LogitsRefIdeal.τ).loc Cert.LogitsRefIdeal.main_arg1)
      ∧ r.2.mem ((c.tc : Thread Cert.LogitsRefIdeal.nD Cert.LogitsRefIdeal.τ).loc Cert.LogitsRefIdeal.main_arg2) = m ((c.tc : Thread Cert.LogitsRefIdeal.nD Cert.LogitsRefIdeal.τ).loc Cert.LogitsRefIdeal.main_arg2)
      ∧ r.2.mem ((c.tc : Thread Cert.LogitsRefIdeal.nD Cert.LogitsRefIdeal.τ).loc Cert.LogitsRefIdeal.main_arg3) = m ((c.tc : Thread Cert.LogitsRefIdeal.nD Cert.LogitsRefIdeal.τ).loc Cert.LogitsRefIdeal.main_arg3)
      ∧ r.2.mem ((c.tc : Thread Cert.LogitsRefIdeal.nD Cert.LogitsRefIdeal.τ).loc Cert.LogitsRefIdeal.main_arg4) = m ((c.tc : Thread Cert.LogitsRefIdeal.nD Cert.LogitsRefIdeal.τ).loc Cert.LogitsRefIdeal.main_arg4)
      ∧ r.2.mem ((c.tc : Thread Cert.LogitsRefIdeal.nD Cert.LogitsRefIdeal.τ).loc Cert.LogitsRefIdeal.main_arg5) = m ((c.tc : Thread Cert.LogitsRefIdeal.nD Cert.LogitsRefIdeal.τ).loc Cert.LogitsRefIdeal.main_arg5)
      ∧ r.2.mem ((c.tc : Thread Cert.LogitsRefIdeal.nD Cert.LogitsRefIdeal.τ).loc Cert.LogitsRefIdeal.main_arg6) = m ((c.tc : Thread Cert.LogitsRefIdeal.nD Cert.LogitsRefIdeal.τ).loc Cert.LogitsRefIdeal.main_arg6)
      ∧ r.2.mem ((c.tc : Thread Cert.LogitsRefIdeal.nD Cert.LogitsRefIdeal.τ).loc Cert.LogitsRefIdeal.main_arg7) = m ((c.tc : Thread Cert.LogitsRefIdeal.nD Cert.LogitsRefIdeal.τ).loc Cert.LogitsRefIdeal.main_arg7)
      ∧ r.2.mem ((c.tc : Thread Cert.LogitsRefIdeal.nD Cert.LogitsRefIdeal.τ).loc Cert.LogitsRefIdeal.main_arg8) = m ((c.tc : Thread Cert.LogitsRefIdeal.nD Cert.LogitsRefIdeal.τ).loc Cert.LogitsRefIdeal.main_arg8)
      ∧ r.2.mem ((c.tc : Thread Cert.LogitsRefIdeal.nD Cert.LogitsRefIdeal.τ).loc Cert.LogitsRefIdeal.main_arg9) = m ((c.tc : Thread Cert.LogitsRefIdeal.nD Cert.LogitsRefIdeal.τ).loc Cert.LogitsRefIdeal.main_arg9)
      ∧ r.2.mem ((c.tc : Thread Cert.LogitsRefIdeal.nD Cert.LogitsRefIdeal.τ).loc Cert.LogitsRefIdeal.main_arg10) = m ((c.tc : Thread Cert.LogitsRefIdeal.nD Cert.LogitsRefIdeal.τ).loc Cert.LogitsRefIdeal.main_arg10)
      ∧ r.2.mem ((c.tc : Thread Cert.LogitsRefIdeal.nD Cert.LogitsRefIdeal.τ).loc Cert.LogitsRefIdeal.main_arg11) = m ((c.tc : Thread Cert.LogitsRefIdeal.nD Cert.LogitsRefIdeal.τ).loc Cert.LogitsRefIdeal.main_arg11))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteIdeal_pre_above [hRouteIdeal : Cert.RouteIdeal.Facts] [hPre_above : Cert.Pre_above.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_above m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1))
      ∧ r.2.sem = fun _ => 0)

def quiescent_RouteRefIdeal_pre_above [hRouteRefIdeal : Cert.RouteRefIdeal.Facts] [hPre_above : Cert.Pre_above.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_above m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)
      ∧ m' ((c.tc : Thread Cert.MoeRefIdeal.nD Cert.MoeRefIdeal.τ).loc Cert.MoeRefIdeal.main_arg10) = m ((c.tc : Thread Cert.MoeIdeal.nD Cert.MoeIdeal.τ).loc Cert.MoeIdeal.main_arg10)
      ∧ m' ((c.tc : Thread Cert.MoeRefIdeal.nD Cert.MoeRefIdeal.τ).loc Cert.MoeRefIdeal.main_arg11) = m ((c.tc : Thread Cert.MoeIdeal.nD Cert.MoeIdeal.τ).loc Cert.MoeIdeal.main_arg11)) →
    ∃ (v0 : (c : Dev Cert.MoeIdeal.nD) → Buf (Elt Ideal) ((c.tc : Thread Cert.MoeIdeal.nD Cert.MoeIdeal.τ).loc Cert.MoeIdeal.main_v5)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
          ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10)
          ∧ r.2.mem ((c.tc : Thread Cert.MoeIdeal.nD Cert.MoeIdeal.τ).loc Cert.MoeIdeal.main_arg11) = m ((c.tc : Thread Cert.MoeIdeal.nD Cert.MoeIdeal.τ).loc Cert.MoeIdeal.main_arg11))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v51) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9)
          ∧ r.2.mem ((c.tc : Thread Cert.MoeRefIdeal.nD Cert.MoeRefIdeal.τ).loc Cert.MoeRefIdeal.main_arg10) = m' ((c.tc : Thread Cert.MoeRefIdeal.nD Cert.MoeRefIdeal.τ).loc Cert.MoeRefIdeal.main_arg10)
          ∧ r.2.mem ((c.tc : Thread Cert.MoeRefIdeal.nD Cert.MoeRefIdeal.τ).loc Cert.MoeRefIdeal.main_arg11) = m' ((c.tc : Thread Cert.MoeRefIdeal.nD Cert.MoeRefIdeal.τ).loc Cert.MoeRefIdeal.main_arg11))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v37) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Postmix_PostmixIdeal : Prop :=
  True

def algebraic_PostmixIdeal_PostmixRefIdeal [hPostmixIdeal : Cert.PostmixIdeal.Facts] [hPostmixRefIdeal : Cert.PostmixRefIdeal.Facts] : Prop :=
  ∀ (m : (ℓ : Loc Cert.PostmixIdeal.nD Cert.PostmixIdeal.τ Cert.PostmixIdeal.sig) → Buf (Elt Ideal) ℓ) (g : Dev Cert.PostmixIdeal.nD → PrngReg)
    (m' : (ℓ : Loc Cert.PostmixRefIdeal.nD Cert.PostmixRefIdeal.τ Cert.PostmixRefIdeal.sig) → Buf (Elt Ideal) ℓ) (g' : Dev Cert.PostmixRefIdeal.nD → PrngReg), Pre_PostmixIdeal m →
    (∀ c : Dev Cert.PostmixIdeal.nD,
      m' ((c.tc : Thread Cert.PostmixRefIdeal.nD Cert.PostmixRefIdeal.τ).loc Cert.PostmixRefIdeal.main_arg0) = m ((c.tc : Thread Cert.PostmixIdeal.nD Cert.PostmixIdeal.τ).loc Cert.PostmixIdeal.main_arg0)
      ∧ m' ((c.tc : Thread Cert.PostmixRefIdeal.nD Cert.PostmixRefIdeal.τ).loc Cert.PostmixRefIdeal.main_arg1) = m ((c.tc : Thread Cert.PostmixIdeal.nD Cert.PostmixIdeal.τ).loc Cert.PostmixIdeal.main_arg1)
      ∧ m' ((c.tc : Thread Cert.PostmixRefIdeal.nD Cert.PostmixRefIdeal.τ).loc Cert.PostmixRefIdeal.main_arg2) = m ((c.tc : Thread Cert.PostmixIdeal.nD Cert.PostmixIdeal.τ).loc Cert.PostmixIdeal.main_arg2)
      ∧ m' ((c.tc : Thread Cert.PostmixRefIdeal.nD Cert.PostmixRefIdeal.τ).loc Cert.PostmixRefIdeal.main_arg3) = m ((c.tc : Thread Cert.PostmixIdeal.nD Cert.PostmixIdeal.τ).loc Cert.PostmixIdeal.main_arg3)
      ∧ m' ((c.tc : Thread Cert.PostmixRefIdeal.nD Cert.PostmixRefIdeal.τ).loc Cert.PostmixRefIdeal.main_arg4) = m ((c.tc : Thread Cert.PostmixIdeal.nD Cert.PostmixIdeal.τ).loc Cert.PostmixIdeal.main_arg4)
      ∧ m' ((c.tc : Thread Cert.PostmixRefIdeal.nD Cert.PostmixRefIdeal.τ).loc Cert.PostmixRefIdeal.main_arg5) = m ((c.tc : Thread Cert.PostmixIdeal.nD Cert.PostmixIdeal.τ).loc Cert.PostmixIdeal.main_arg5)
      ∧ m' ((c.tc : Thread Cert.PostmixRefIdeal.nD Cert.PostmixRefIdeal.τ).loc Cert.PostmixRefIdeal.main_arg6) = m ((c.tc : Thread Cert.PostmixIdeal.nD Cert.PostmixIdeal.τ).loc Cert.PostmixIdeal.main_arg6)
      ∧ m' ((c.tc : Thread Cert.PostmixRefIdeal.nD Cert.PostmixRefIdeal.τ).loc Cert.PostmixRefIdeal.main_arg7) = m ((c.tc : Thread Cert.PostmixIdeal.nD Cert.PostmixIdeal.τ).loc Cert.PostmixIdeal.main_arg7)
      ∧ m' ((c.tc : Thread Cert.PostmixRefIdeal.nD Cert.PostmixRefIdeal.τ).loc Cert.PostmixRefIdeal.main_arg8) = m ((c.tc : Thread Cert.PostmixIdeal.nD Cert.PostmixIdeal.τ).loc Cert.PostmixIdeal.main_arg8)
      ∧ m' ((c.tc : Thread Cert.PostmixRefIdeal.nD Cert.PostmixRefIdeal.τ).loc Cert.PostmixRefIdeal.main_arg9) = m ((c.tc : Thread Cert.PostmixIdeal.nD Cert.PostmixIdeal.τ).loc Cert.PostmixIdeal.main_arg9)
      ∧ m' ((c.tc : Thread Cert.PostmixRefIdeal.nD Cert.PostmixRefIdeal.τ).loc Cert.PostmixRefIdeal.main_arg10) = m ((c.tc : Thread Cert.PostmixIdeal.nD Cert.PostmixIdeal.τ).loc Cert.PostmixIdeal.main_arg10)
      ∧ m' ((c.tc : Thread Cert.PostmixRefIdeal.nD Cert.PostmixRefIdeal.τ).loc Cert.PostmixRefIdeal.main_arg11) = m ((c.tc : Thread Cert.PostmixIdeal.nD Cert.PostmixIdeal.τ).loc Cert.PostmixIdeal.main_arg11)) →
    ∃ (v0 : (c : Dev Cert.PostmixIdeal.nD) → Buf (Elt Ideal) ((c.tc : Thread Cert.PostmixIdeal.nD Cert.PostmixIdeal.τ).loc Cert.PostmixIdeal.main_v11_0)) (v1 : (c : Dev Cert.PostmixIdeal.nD) → Buf (Elt Ideal) ((c.tc : Thread Cert.PostmixIdeal.nD Cert.PostmixIdeal.τ).loc Cert.PostmixIdeal.main_v11_1)),
      θ_run (Cert.PostmixIdeal.defs (F := Ideal)) (onTc (τ := Cert.PostmixIdeal.τ) (Cert.PostmixIdeal.main (F := Ideal))) ⟨m, fun _ => 0, g⟩ (fun r => ∀ c : Dev Cert.PostmixIdeal.nD,
          r.2.mem ((c.tc : Thread Cert.PostmixIdeal.nD Cert.PostmixIdeal.τ).loc Cert.PostmixIdeal.main_v11_0) = v0 c
          ∧ r.2.mem ((c.tc : Thread Cert.PostmixIdeal.nD Cert.PostmixIdeal.τ).loc Cert.PostmixIdeal.main_v11_1) = v1 c
          ∧ r.2.mem ((c.tc : Thread Cert.PostmixIdeal.nD Cert.PostmixIdeal.τ).loc Cert.PostmixIdeal.main_arg0) = m ((c.tc : Thread Cert.PostmixIdeal.nD Cert.PostmixIdeal.τ).loc Cert.PostmixIdeal.main_arg0)
          ∧ r.2.mem ((c.tc : Thread Cert.PostmixIdeal.nD Cert.PostmixIdeal.τ).loc Cert.PostmixIdeal.main_arg1) = m ((c.tc : Thread Cert.PostmixIdeal.nD Cert.PostmixIdeal.τ).loc Cert.PostmixIdeal.main_arg1)
          ∧ r.2.mem ((c.tc : Thread Cert.PostmixIdeal.nD Cert.PostmixIdeal.τ).loc Cert.PostmixIdeal.main_arg2) = m ((c.tc : Thread Cert.PostmixIdeal.nD Cert.PostmixIdeal.τ).loc Cert.PostmixIdeal.main_arg2)
          ∧ r.2.mem ((c.tc : Thread Cert.PostmixIdeal.nD Cert.PostmixIdeal.τ).loc Cert.PostmixIdeal.main_arg3) = m ((c.tc : Thread Cert.PostmixIdeal.nD Cert.PostmixIdeal.τ).loc Cert.PostmixIdeal.main_arg3)
          ∧ r.2.mem ((c.tc : Thread Cert.PostmixIdeal.nD Cert.PostmixIdeal.τ).loc Cert.PostmixIdeal.main_arg4) = m ((c.tc : Thread Cert.PostmixIdeal.nD Cert.PostmixIdeal.τ).loc Cert.PostmixIdeal.main_arg4)
          ∧ r.2.mem ((c.tc : Thread Cert.PostmixIdeal.nD Cert.PostmixIdeal.τ).loc Cert.PostmixIdeal.main_arg5) = m ((c.tc : Thread Cert.PostmixIdeal.nD Cert.PostmixIdeal.τ).loc Cert.PostmixIdeal.main_arg5)
          ∧ r.2.mem ((c.tc : Thread Cert.PostmixIdeal.nD Cert.PostmixIdeal.τ).loc Cert.PostmixIdeal.main_arg6) = m ((c.tc : Thread Cert.PostmixIdeal.nD Cert.PostmixIdeal.τ).loc Cert.PostmixIdeal.main_arg6)
          ∧ r.2.mem ((c.tc : Thread Cert.PostmixIdeal.nD Cert.PostmixIdeal.τ).loc Cert.PostmixIdeal.main_arg7) = m ((c.tc : Thread Cert.PostmixIdeal.nD Cert.PostmixIdeal.τ).loc Cert.PostmixIdeal.main_arg7)
          ∧ r.2.mem ((c.tc : Thread Cert.PostmixIdeal.nD Cert.PostmixIdeal.τ).loc Cert.PostmixIdeal.main_arg8) = m ((c.tc : Thread Cert.PostmixIdeal.nD Cert.PostmixIdeal.τ).loc Cert.PostmixIdeal.main_arg8)
          ∧ r.2.mem ((c.tc : Thread Cert.PostmixIdeal.nD Cert.PostmixIdeal.τ).loc Cert.PostmixIdeal.main_arg9) = m ((c.tc : Thread Cert.PostmixIdeal.nD Cert.PostmixIdeal.τ).loc Cert.PostmixIdeal.main_arg9)
          ∧ r.2.mem ((c.tc : Thread Cert.PostmixIdeal.nD Cert.PostmixIdeal.τ).loc Cert.PostmixIdeal.main_arg10) = m ((c.tc : Thread Cert.PostmixIdeal.nD Cert.PostmixIdeal.τ).loc Cert.PostmixIdeal.main_arg10)
          ∧ r.2.mem ((c.tc : Thread Cert.PostmixIdeal.nD Cert.PostmixIdeal.τ).loc Cert.PostmixIdeal.main_arg11) = m ((c.tc : Thread Cert.PostmixIdeal.nD Cert.PostmixIdeal.τ).loc Cert.PostmixIdeal.main_arg11))
      ∧ θ_run (Cert.PostmixRefIdeal.defs (F := Ideal)) (onTc (τ := Cert.PostmixRefIdeal.τ) (Cert.PostmixRefIdeal.main (F := Ideal))) ⟨m', fun _ => 0, g'⟩ (fun r => ∀ c : Dev Cert.PostmixRefIdeal.nD,
          r.2.mem ((c.tc : Thread Cert.PostmixRefIdeal.nD Cert.PostmixRefIdeal.τ).loc Cert.PostmixRefIdeal.main_v63) = v0 c
          ∧ r.2.mem ((c.tc : Thread Cert.PostmixRefIdeal.nD Cert.PostmixRefIdeal.τ).loc Cert.PostmixRefIdeal.main_v65) = v1 c
          ∧ r.2.mem ((c.tc : Thread Cert.PostmixRefIdeal.nD Cert.PostmixRefIdeal.τ).loc Cert.PostmixRefIdeal.main_arg0) = m' ((c.tc : Thread Cert.PostmixRefIdeal.nD Cert.PostmixRefIdeal.τ).loc Cert.PostmixRefIdeal.main_arg0)
          ∧ r.2.mem ((c.tc : Thread Cert.PostmixRefIdeal.nD Cert.PostmixRefIdeal.τ).loc Cert.PostmixRefIdeal.main_arg1) = m' ((c.tc : Thread Cert.PostmixRefIdeal.nD Cert.PostmixRefIdeal.τ).loc Cert.PostmixRefIdeal.main_arg1)
          ∧ r.2.mem ((c.tc : Thread Cert.PostmixRefIdeal.nD Cert.PostmixRefIdeal.τ).loc Cert.PostmixRefIdeal.main_arg2) = m' ((c.tc : Thread Cert.PostmixRefIdeal.nD Cert.PostmixRefIdeal.τ).loc Cert.PostmixRefIdeal.main_arg2)
          ∧ r.2.mem ((c.tc : Thread Cert.PostmixRefIdeal.nD Cert.PostmixRefIdeal.τ).loc Cert.PostmixRefIdeal.main_arg3) = m' ((c.tc : Thread Cert.PostmixRefIdeal.nD Cert.PostmixRefIdeal.τ).loc Cert.PostmixRefIdeal.main_arg3)
          ∧ r.2.mem ((c.tc : Thread Cert.PostmixRefIdeal.nD Cert.PostmixRefIdeal.τ).loc Cert.PostmixRefIdeal.main_arg4) = m' ((c.tc : Thread Cert.PostmixRefIdeal.nD Cert.PostmixRefIdeal.τ).loc Cert.PostmixRefIdeal.main_arg4)
          ∧ r.2.mem ((c.tc : Thread Cert.PostmixRefIdeal.nD Cert.PostmixRefIdeal.τ).loc Cert.PostmixRefIdeal.main_arg5) = m' ((c.tc : Thread Cert.PostmixRefIdeal.nD Cert.PostmixRefIdeal.τ).loc Cert.PostmixRefIdeal.main_arg5)
          ∧ r.2.mem ((c.tc : Thread Cert.PostmixRefIdeal.nD Cert.PostmixRefIdeal.τ).loc Cert.PostmixRefIdeal.main_arg6) = m' ((c.tc : Thread Cert.PostmixRefIdeal.nD Cert.PostmixRefIdeal.τ).loc Cert.PostmixRefIdeal.main_arg6)
          ∧ r.2.mem ((c.tc : Thread Cert.PostmixRefIdeal.nD Cert.PostmixRefIdeal.τ).loc Cert.PostmixRefIdeal.main_arg7) = m' ((c.tc : Thread Cert.PostmixRefIdeal.nD Cert.PostmixRefIdeal.τ).loc Cert.PostmixRefIdeal.main_arg7)
          ∧ r.2.mem ((c.tc : Thread Cert.PostmixRefIdeal.nD Cert.PostmixRefIdeal.τ).loc Cert.PostmixRefIdeal.main_arg8) = m' ((c.tc : Thread Cert.PostmixRefIdeal.nD Cert.PostmixRefIdeal.τ).loc Cert.PostmixRefIdeal.main_arg8)
          ∧ r.2.mem ((c.tc : Thread Cert.PostmixRefIdeal.nD Cert.PostmixRefIdeal.τ).loc Cert.PostmixRefIdeal.main_arg9) = m' ((c.tc : Thread Cert.PostmixRefIdeal.nD Cert.PostmixRefIdeal.τ).loc Cert.PostmixRefIdeal.main_arg9)
          ∧ r.2.mem ((c.tc : Thread Cert.PostmixRefIdeal.nD Cert.PostmixRefIdeal.τ).loc Cert.PostmixRefIdeal.main_arg10) = m' ((c.tc : Thread Cert.PostmixRefIdeal.nD Cert.PostmixRefIdeal.τ).loc Cert.PostmixRefIdeal.main_arg10)
          ∧ r.2.mem ((c.tc : Thread Cert.PostmixRefIdeal.nD Cert.PostmixRefIdeal.τ).loc Cert.PostmixRefIdeal.main_arg11) = m' ((c.tc : Thread Cert.PostmixRefIdeal.nD Cert.PostmixRefIdeal.τ).loc Cert.PostmixRefIdeal.main_arg11))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)
      ∧ m' ((c.tc : Thread Cert.AdaRefIdeal.nD Cert.AdaRefIdeal.τ).loc Cert.AdaRefIdeal.main_arg5) = m ((c.tc : Thread Cert.AdaIdeal.nD Cert.AdaIdeal.τ).loc Cert.AdaIdeal.main_arg5)
      ∧ m' ((c.tc : Thread Cert.AdaRefIdeal.nD Cert.AdaRefIdeal.τ).loc Cert.AdaRefIdeal.main_arg6) = m ((c.tc : Thread Cert.AdaIdeal.nD Cert.AdaIdeal.τ).loc Cert.AdaIdeal.main_arg6)
      ∧ m' ((c.tc : Thread Cert.AdaRefIdeal.nD Cert.AdaRefIdeal.τ).loc Cert.AdaRefIdeal.main_arg7) = m ((c.tc : Thread Cert.AdaIdeal.nD Cert.AdaIdeal.τ).loc Cert.AdaIdeal.main_arg7)
      ∧ m' ((c.tc : Thread Cert.AdaRefIdeal.nD Cert.AdaRefIdeal.τ).loc Cert.AdaRefIdeal.main_arg8) = m ((c.tc : Thread Cert.AdaIdeal.nD Cert.AdaIdeal.τ).loc Cert.AdaIdeal.main_arg8)
      ∧ m' ((c.tc : Thread Cert.AdaRefIdeal.nD Cert.AdaRefIdeal.τ).loc Cert.AdaRefIdeal.main_arg9) = m ((c.tc : Thread Cert.AdaIdeal.nD Cert.AdaIdeal.τ).loc Cert.AdaIdeal.main_arg9)) →
    ∃ (v0 : (c : Dev Cert.AdaIdeal.nD) → Buf (Elt Ideal) ((c.tc : Thread Cert.AdaIdeal.nD Cert.AdaIdeal.τ).loc Cert.AdaIdeal.main_v1_0)) (v1 : (c : Dev Cert.AdaIdeal.nD) → Buf (Elt Ideal) ((c.tc : Thread Cert.AdaIdeal.nD Cert.AdaIdeal.τ).loc Cert.AdaIdeal.main_v1_1)) (v2 : (c : Dev Cert.AdaIdeal.nD) → Buf (Elt Ideal) ((c.tc : Thread Cert.AdaIdeal.nD Cert.AdaIdeal.τ).loc Cert.AdaIdeal.main_v1_2)) (v3 : (c : Dev Cert.AdaIdeal.nD) → Buf (Elt Ideal) ((c.tc : Thread Cert.AdaIdeal.nD Cert.AdaIdeal.τ).loc Cert.AdaIdeal.main_v1_3)) (v4 : (c : Dev Cert.AdaIdeal.nD) → Buf (Elt Ideal) ((c.tc : Thread Cert.AdaIdeal.nD Cert.AdaIdeal.τ).loc Cert.AdaIdeal.main_v1_4)) (v5 : (c : Dev Cert.AdaIdeal.nD) → Buf (Elt Ideal) ((c.tc : Thread Cert.AdaIdeal.nD Cert.AdaIdeal.τ).loc Cert.AdaIdeal.main_v1_5)) (v6 : (c : Dev Cert.AdaIdeal.nD) → Buf (Elt Ideal) ((c.tc : Thread Cert.AdaIdeal.nD Cert.AdaIdeal.τ).loc Cert.AdaIdeal.main_v1_6)) (v7 : (c : Dev Cert.AdaIdeal.nD) → Buf (Elt Ideal) ((c.tc : Thread Cert.AdaIdeal.nD Cert.AdaIdeal.τ).loc Cert.AdaIdeal.main_v1_7)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1_0) = v0 c
          ∧ r.2.mem ((c.tc : Thread Cert.AdaIdeal.nD Cert.AdaIdeal.τ).loc Cert.AdaIdeal.main_v1_1) = v1 c
          ∧ r.2.mem ((c.tc : Thread Cert.AdaIdeal.nD Cert.AdaIdeal.τ).loc Cert.AdaIdeal.main_v1_2) = v2 c
          ∧ r.2.mem ((c.tc : Thread Cert.AdaIdeal.nD Cert.AdaIdeal.τ).loc Cert.AdaIdeal.main_v1_3) = v3 c
          ∧ r.2.mem ((c.tc : Thread Cert.AdaIdeal.nD Cert.AdaIdeal.τ).loc Cert.AdaIdeal.main_v1_4) = v4 c
          ∧ r.2.mem ((c.tc : Thread Cert.AdaIdeal.nD Cert.AdaIdeal.τ).loc Cert.AdaIdeal.main_v1_5) = v5 c
          ∧ r.2.mem ((c.tc : Thread Cert.AdaIdeal.nD Cert.AdaIdeal.τ).loc Cert.AdaIdeal.main_v1_6) = v6 c
          ∧ r.2.mem ((c.tc : Thread Cert.AdaIdeal.nD Cert.AdaIdeal.τ).loc Cert.AdaIdeal.main_v1_7) = v7 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4)
          ∧ r.2.mem ((c.tc : Thread Cert.AdaIdeal.nD Cert.AdaIdeal.τ).loc Cert.AdaIdeal.main_arg5) = m ((c.tc : Thread Cert.AdaIdeal.nD Cert.AdaIdeal.τ).loc Cert.AdaIdeal.main_arg5)
          ∧ r.2.mem ((c.tc : Thread Cert.AdaIdeal.nD Cert.AdaIdeal.τ).loc Cert.AdaIdeal.main_arg6) = m ((c.tc : Thread Cert.AdaIdeal.nD Cert.AdaIdeal.τ).loc Cert.AdaIdeal.main_arg6)
          ∧ r.2.mem ((c.tc : Thread Cert.AdaIdeal.nD Cert.AdaIdeal.τ).loc Cert.AdaIdeal.main_arg7) = m ((c.tc : Thread Cert.AdaIdeal.nD Cert.AdaIdeal.τ).loc Cert.AdaIdeal.main_arg7)
          ∧ r.2.mem ((c.tc : Thread Cert.AdaIdeal.nD Cert.AdaIdeal.τ).loc Cert.AdaIdeal.main_arg8) = m ((c.tc : Thread Cert.AdaIdeal.nD Cert.AdaIdeal.τ).loc Cert.AdaIdeal.main_arg8)
          ∧ r.2.mem ((c.tc : Thread Cert.AdaIdeal.nD Cert.AdaIdeal.τ).loc Cert.AdaIdeal.main_arg9) = m ((c.tc : Thread Cert.AdaIdeal.nD Cert.AdaIdeal.τ).loc Cert.AdaIdeal.main_arg9))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_v5) = v1 c
          ∧ r.2.mem ((c.tc : Thread Cert.AdaRefIdeal.nD Cert.AdaRefIdeal.τ).loc Cert.AdaRefIdeal.main_v6) = v2 c
          ∧ r.2.mem ((c.tc : Thread Cert.AdaRefIdeal.nD Cert.AdaRefIdeal.τ).loc Cert.AdaRefIdeal.main_v7) = v3 c
          ∧ r.2.mem ((c.tc : Thread Cert.AdaRefIdeal.nD Cert.AdaRefIdeal.τ).loc Cert.AdaRefIdeal.main_v8) = v4 c
          ∧ r.2.mem ((c.tc : Thread Cert.AdaRefIdeal.nD Cert.AdaRefIdeal.τ).loc Cert.AdaRefIdeal.main_v9) = v5 c
          ∧ r.2.mem ((c.tc : Thread Cert.AdaRefIdeal.nD Cert.AdaRefIdeal.τ).loc Cert.AdaRefIdeal.main_v10) = v6 c
          ∧ r.2.mem ((c.tc : Thread Cert.AdaRefIdeal.nD Cert.AdaRefIdeal.τ).loc Cert.AdaRefIdeal.main_v11) = v7 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4)
          ∧ r.2.mem ((c.tc : Thread Cert.AdaRefIdeal.nD Cert.AdaRefIdeal.τ).loc Cert.AdaRefIdeal.main_arg5) = m' ((c.tc : Thread Cert.AdaRefIdeal.nD Cert.AdaRefIdeal.τ).loc Cert.AdaRefIdeal.main_arg5)
          ∧ r.2.mem ((c.tc : Thread Cert.AdaRefIdeal.nD Cert.AdaRefIdeal.τ).loc Cert.AdaRefIdeal.main_arg6) = m' ((c.tc : Thread Cert.AdaRefIdeal.nD Cert.AdaRefIdeal.τ).loc Cert.AdaRefIdeal.main_arg6)
          ∧ r.2.mem ((c.tc : Thread Cert.AdaRefIdeal.nD Cert.AdaRefIdeal.τ).loc Cert.AdaRefIdeal.main_arg7) = m' ((c.tc : Thread Cert.AdaRefIdeal.nD Cert.AdaRefIdeal.τ).loc Cert.AdaRefIdeal.main_arg7)
          ∧ r.2.mem ((c.tc : Thread Cert.AdaRefIdeal.nD Cert.AdaRefIdeal.τ).loc Cert.AdaRefIdeal.main_arg8) = m' ((c.tc : Thread Cert.AdaRefIdeal.nD Cert.AdaRefIdeal.τ).loc Cert.AdaRefIdeal.main_arg8)
          ∧ r.2.mem ((c.tc : Thread Cert.AdaRefIdeal.nD Cert.AdaRefIdeal.τ).loc Cert.AdaRefIdeal.main_arg9) = m' ((c.tc : Thread Cert.AdaRefIdeal.nD Cert.AdaRefIdeal.τ).loc Cert.AdaRefIdeal.main_arg9))

def preserves_Logits_LogitsIdeal : Prop :=
  True

def algebraic_LogitsIdeal_LogitsRefIdeal_pre_finite [hLogitsIdeal : Cert.LogitsIdeal.Facts] [hLogitsRefIdeal : Cert.LogitsRefIdeal.Facts] [hPre_finite : Cert.Pre_finite.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsRefIdeal.nD Cert.LogitsRefIdeal.τ Cert.LogitsRefIdeal.sig) → Buf (Elt Ideal) ℓ) (g' : Dev Cert.LogitsRefIdeal.nD → PrngReg), Pre_LogitsIdeal_finite m →
    (∀ c : Dev Cert.LogitsIdeal.nD,
      m' ((c.tc : Thread Cert.LogitsRefIdeal.nD Cert.LogitsRefIdeal.τ).loc Cert.LogitsRefIdeal.main_arg0) = m ((c.tc : Thread Cert.LogitsIdeal.nD Cert.LogitsIdeal.τ).loc Cert.LogitsIdeal.main_arg0)
      ∧ m' ((c.tc : Thread Cert.LogitsRefIdeal.nD Cert.LogitsRefIdeal.τ).loc Cert.LogitsRefIdeal.main_arg1) = m ((c.tc : Thread Cert.LogitsIdeal.nD Cert.LogitsIdeal.τ).loc Cert.LogitsIdeal.main_arg1)
      ∧ m' ((c.tc : Thread Cert.LogitsRefIdeal.nD Cert.LogitsRefIdeal.τ).loc Cert.LogitsRefIdeal.main_arg2) = m ((c.tc : Thread Cert.LogitsIdeal.nD Cert.LogitsIdeal.τ).loc Cert.LogitsIdeal.main_arg2)
      ∧ m' ((c.tc : Thread Cert.LogitsRefIdeal.nD Cert.LogitsRefIdeal.τ).loc Cert.LogitsRefIdeal.main_arg3) = m ((c.tc : Thread Cert.LogitsIdeal.nD Cert.LogitsIdeal.τ).loc Cert.LogitsIdeal.main_arg3)
      ∧ m' ((c.tc : Thread Cert.LogitsRefIdeal.nD Cert.LogitsRefIdeal.τ).loc Cert.LogitsRefIdeal.main_arg4) = m ((c.tc : Thread Cert.LogitsIdeal.nD Cert.LogitsIdeal.τ).loc Cert.LogitsIdeal.main_arg4)
      ∧ m' ((c.tc : Thread Cert.LogitsRefIdeal.nD Cert.LogitsRefIdeal.τ).loc Cert.LogitsRefIdeal.main_arg5) = m ((c.tc : Thread Cert.LogitsIdeal.nD Cert.LogitsIdeal.τ).loc Cert.LogitsIdeal.main_arg5)
      ∧ m' ((c.tc : Thread Cert.LogitsRefIdeal.nD Cert.LogitsRefIdeal.τ).loc Cert.LogitsRefIdeal.main_arg6) = m ((c.tc : Thread Cert.LogitsIdeal.nD Cert.LogitsIdeal.τ).loc Cert.LogitsIdeal.main_arg6)
      ∧ m' ((c.tc : Thread Cert.LogitsRefIdeal.nD Cert.LogitsRefIdeal.τ).loc Cert.LogitsRefIdeal.main_arg7) = m ((c.tc : Thread Cert.LogitsIdeal.nD Cert.LogitsIdeal.τ).loc Cert.LogitsIdeal.main_arg7)
      ∧ m' ((c.tc : Thread Cert.LogitsRefIdeal.nD Cert.LogitsRefIdeal.τ).loc Cert.LogitsRefIdeal.main_arg8) = m ((c.tc : Thread Cert.LogitsIdeal.nD Cert.LogitsIdeal.τ).loc Cert.LogitsIdeal.main_arg8)
      ∧ m' ((c.tc : Thread Cert.LogitsRefIdeal.nD Cert.LogitsRefIdeal.τ).loc Cert.LogitsRefIdeal.main_arg9) = m ((c.tc : Thread Cert.LogitsIdeal.nD Cert.LogitsIdeal.τ).loc Cert.LogitsIdeal.main_arg9)
      ∧ m' ((c.tc : Thread Cert.LogitsRefIdeal.nD Cert.LogitsRefIdeal.τ).loc Cert.LogitsRefIdeal.main_arg10) = m ((c.tc : Thread Cert.LogitsIdeal.nD Cert.LogitsIdeal.τ).loc Cert.LogitsIdeal.main_arg10)
      ∧ m' ((c.tc : Thread Cert.LogitsRefIdeal.nD Cert.LogitsRefIdeal.τ).loc Cert.LogitsRefIdeal.main_arg11) = m ((c.tc : Thread Cert.LogitsIdeal.nD Cert.LogitsIdeal.τ).loc Cert.LogitsIdeal.main_arg11)) →
    ∃ (v0 : (c : Dev Cert.LogitsIdeal.nD) → Buf (Elt Ideal) ((c.tc : Thread Cert.LogitsIdeal.nD Cert.LogitsIdeal.τ).loc Cert.LogitsIdeal.main_v11_2)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v11_2) = v0 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
          ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
          ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
          ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5)
          ∧ r.2.mem ((c.tc : Thread Cert.LogitsIdeal.nD Cert.LogitsIdeal.τ).loc Cert.LogitsIdeal.main_arg6) = m ((c.tc : Thread Cert.LogitsIdeal.nD Cert.LogitsIdeal.τ).loc Cert.LogitsIdeal.main_arg6)
          ∧ r.2.mem ((c.tc : Thread Cert.LogitsIdeal.nD Cert.LogitsIdeal.τ).loc Cert.LogitsIdeal.main_arg7) = m ((c.tc : Thread Cert.LogitsIdeal.nD Cert.LogitsIdeal.τ).loc Cert.LogitsIdeal.main_arg7)
          ∧ r.2.mem ((c.tc : Thread Cert.LogitsIdeal.nD Cert.LogitsIdeal.τ).loc Cert.LogitsIdeal.main_arg8) = m ((c.tc : Thread Cert.LogitsIdeal.nD Cert.LogitsIdeal.τ).loc Cert.LogitsIdeal.main_arg8)
          ∧ r.2.mem ((c.tc : Thread Cert.LogitsIdeal.nD Cert.LogitsIdeal.τ).loc Cert.LogitsIdeal.main_arg9) = m ((c.tc : Thread Cert.LogitsIdeal.nD Cert.LogitsIdeal.τ).loc Cert.LogitsIdeal.main_arg9)
          ∧ r.2.mem ((c.tc : Thread Cert.LogitsIdeal.nD Cert.LogitsIdeal.τ).loc Cert.LogitsIdeal.main_arg10) = m ((c.tc : Thread Cert.LogitsIdeal.nD Cert.LogitsIdeal.τ).loc Cert.LogitsIdeal.main_arg10)
          ∧ r.2.mem ((c.tc : Thread Cert.LogitsIdeal.nD Cert.LogitsIdeal.τ).loc Cert.LogitsIdeal.main_arg11) = m ((c.tc : Thread Cert.LogitsIdeal.nD Cert.LogitsIdeal.τ).loc Cert.LogitsIdeal.main_arg11))
      ∧ θ_run (Cert.LogitsRefIdeal.defs (F := Ideal)) (onTc (τ := Cert.LogitsRefIdeal.τ) (Cert.LogitsRefIdeal.main (F := Ideal))) ⟨m', fun _ => 0, g'⟩ (fun r => ∀ c : Dev Cert.LogitsRefIdeal.nD,
          r.2.mem ((c.tc : Thread Cert.LogitsRefIdeal.nD Cert.LogitsRefIdeal.τ).loc Cert.LogitsRefIdeal.main_v67) = v0 c
          ∧ r.2.mem ((c.tc : Thread Cert.LogitsRefIdeal.nD Cert.LogitsRefIdeal.τ).loc Cert.LogitsRefIdeal.main_arg0) = m' ((c.tc : Thread Cert.LogitsRefIdeal.nD Cert.LogitsRefIdeal.τ).loc Cert.LogitsRefIdeal.main_arg0)
          ∧ r.2.mem ((c.tc : Thread Cert.LogitsRefIdeal.nD Cert.LogitsRefIdeal.τ).loc Cert.LogitsRefIdeal.main_arg1) = m' ((c.tc : Thread Cert.LogitsRefIdeal.nD Cert.LogitsRefIdeal.τ).loc Cert.LogitsRefIdeal.main_arg1)
          ∧ r.2.mem ((c.tc : Thread Cert.LogitsRefIdeal.nD Cert.LogitsRefIdeal.τ).loc Cert.LogitsRefIdeal.main_arg2) = m' ((c.tc : Thread Cert.LogitsRefIdeal.nD Cert.LogitsRefIdeal.τ).loc Cert.LogitsRefIdeal.main_arg2)
          ∧ r.2.mem ((c.tc : Thread Cert.LogitsRefIdeal.nD Cert.LogitsRefIdeal.τ).loc Cert.LogitsRefIdeal.main_arg3) = m' ((c.tc : Thread Cert.LogitsRefIdeal.nD Cert.LogitsRefIdeal.τ).loc Cert.LogitsRefIdeal.main_arg3)
          ∧ r.2.mem ((c.tc : Thread Cert.LogitsRefIdeal.nD Cert.LogitsRefIdeal.τ).loc Cert.LogitsRefIdeal.main_arg4) = m' ((c.tc : Thread Cert.LogitsRefIdeal.nD Cert.LogitsRefIdeal.τ).loc Cert.LogitsRefIdeal.main_arg4)
          ∧ r.2.mem ((c.tc : Thread Cert.LogitsRefIdeal.nD Cert.LogitsRefIdeal.τ).loc Cert.LogitsRefIdeal.main_arg5) = m' ((c.tc : Thread Cert.LogitsRefIdeal.nD Cert.LogitsRefIdeal.τ).loc Cert.LogitsRefIdeal.main_arg5)
          ∧ r.2.mem ((c.tc : Thread Cert.LogitsRefIdeal.nD Cert.LogitsRefIdeal.τ).loc Cert.LogitsRefIdeal.main_arg6) = m' ((c.tc : Thread Cert.LogitsRefIdeal.nD Cert.LogitsRefIdeal.τ).loc Cert.LogitsRefIdeal.main_arg6)
          ∧ r.2.mem ((c.tc : Thread Cert.LogitsRefIdeal.nD Cert.LogitsRefIdeal.τ).loc Cert.LogitsRefIdeal.main_arg7) = m' ((c.tc : Thread Cert.LogitsRefIdeal.nD Cert.LogitsRefIdeal.τ).loc Cert.LogitsRefIdeal.main_arg7)
          ∧ r.2.mem ((c.tc : Thread Cert.LogitsRefIdeal.nD Cert.LogitsRefIdeal.τ).loc Cert.LogitsRefIdeal.main_arg8) = m' ((c.tc : Thread Cert.LogitsRefIdeal.nD Cert.LogitsRefIdeal.τ).loc Cert.LogitsRefIdeal.main_arg8)
          ∧ r.2.mem ((c.tc : Thread Cert.LogitsRefIdeal.nD Cert.LogitsRefIdeal.τ).loc Cert.LogitsRefIdeal.main_arg9) = m' ((c.tc : Thread Cert.LogitsRefIdeal.nD Cert.LogitsRefIdeal.τ).loc Cert.LogitsRefIdeal.main_arg9)
          ∧ r.2.mem ((c.tc : Thread Cert.LogitsRefIdeal.nD Cert.LogitsRefIdeal.τ).loc Cert.LogitsRefIdeal.main_arg10) = m' ((c.tc : Thread Cert.LogitsRefIdeal.nD Cert.LogitsRefIdeal.τ).loc Cert.LogitsRefIdeal.main_arg10)
          ∧ r.2.mem ((c.tc : Thread Cert.LogitsRefIdeal.nD Cert.LogitsRefIdeal.τ).loc Cert.LogitsRefIdeal.main_arg11) = m' ((c.tc : Thread Cert.LogitsRefIdeal.nD Cert.LogitsRefIdeal.τ).loc Cert.LogitsRefIdeal.main_arg11))

def preserves_Route_RouteIdeal : Prop :=
  True

def algebraic_RouteIdeal_RouteRefIdeal_pre_above [hRouteIdeal : Cert.RouteIdeal.Facts] [hRouteRefIdeal : Cert.RouteRefIdeal.Facts] [hPre_above : Cert.Pre_above.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_above m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)) →
    ∃ (v0 : (c : Dev Cert.RouteIdeal.nD) → Buf (Elt Ideal) ((c.tc : Thread Cert.RouteIdeal.nD Cert.RouteIdeal.τ).loc Cert.RouteIdeal.main_v1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v1) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v32) = v0 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1))

def Claim : Prop :=
  ∃ (hMoe : Cert.Moe.Facts) (hMoeIdeal : Cert.MoeIdeal.Facts) (hMoeRefIdeal : Cert.MoeRefIdeal.Facts) (hInproj : Cert.Inproj.Facts) (hInprojIdeal : Cert.InprojIdeal.Facts) (hInprojRefIdeal : Cert.InprojRefIdeal.Facts) (hPostmix : Cert.Postmix.Facts) (hPostmixIdeal : Cert.PostmixIdeal.Facts) (hPostmixRefIdeal : Cert.PostmixRefIdeal.Facts) (hAda : Cert.Ada.Facts) (hAdaIdeal : Cert.AdaIdeal.Facts) (hAdaRefIdeal : Cert.AdaRefIdeal.Facts) (hLogits : Cert.Logits.Facts) (hLogitsIdeal : Cert.LogitsIdeal.Facts) (hLogitsRefIdeal : Cert.LogitsRefIdeal.Facts) (hRoute : Cert.Route.Facts) (hRouteIdeal : Cert.RouteIdeal.Facts) (hRouteRefIdeal : Cert.RouteRefIdeal.Facts) (hPre_finite : Cert.Pre_finite.Facts) (hPre_above : Cert.Pre_above.Facts),
    quiescent_Moe (hMoe := hMoe)
    ∧ quiescent_MoeIdeal (hMoeIdeal := hMoeIdeal)
    ∧ quiescent_MoeRefIdeal (hMoeRefIdeal := hMoeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Postmix (hPostmix := hPostmix)
    ∧ quiescent_PostmixIdeal (hPostmixIdeal := hPostmixIdeal)
    ∧ quiescent_PostmixRefIdeal (hPostmixRefIdeal := hPostmixRefIdeal)
    ∧ quiescent_Ada (hAda := hAda)
    ∧ quiescent_AdaIdeal (hAdaIdeal := hAdaIdeal)
    ∧ quiescent_AdaRefIdeal (hAdaRefIdeal := hAdaRefIdeal)
    ∧ quiescent_Logits (hLogits := hLogits)
    ∧ quiescent_LogitsIdeal (hLogitsIdeal := hLogitsIdeal)
    ∧ quiescent_LogitsIdeal_pre_finite (hLogitsIdeal := hLogitsIdeal) (hPre_finite := hPre_finite)
    ∧ quiescent_LogitsRefIdeal (hLogitsRefIdeal := hLogitsRefIdeal)
    ∧ quiescent_LogitsRefIdeal_pre_finite (hLogitsRefIdeal := hLogitsRefIdeal) (hPre_finite := hPre_finite)
    ∧ quiescent_Route (hRoute := hRoute)
    ∧ quiescent_RouteIdeal (hRouteIdeal := hRouteIdeal)
    ∧ quiescent_RouteIdeal_pre_above (hRouteIdeal := hRouteIdeal) (hPre_above := hPre_above)
    ∧ quiescent_RouteRefIdeal (hRouteRefIdeal := hRouteRefIdeal)
    ∧ quiescent_RouteRefIdeal_pre_above (hRouteRefIdeal := hRouteRefIdeal) (hPre_above := hPre_above)
    ∧ preserves_Moe_MoeIdeal
    ∧ algebraic_MoeIdeal_MoeRefIdeal (hMoeIdeal := hMoeIdeal) (hMoeRefIdeal := hMoeRefIdeal)
    ∧ preserves_Inproj_InprojIdeal
    ∧ algebraic_InprojIdeal_InprojRefIdeal (hInprojIdeal := hInprojIdeal) (hInprojRefIdeal := hInprojRefIdeal)
    ∧ preserves_Postmix_PostmixIdeal
    ∧ algebraic_PostmixIdeal_PostmixRefIdeal (hPostmixIdeal := hPostmixIdeal) (hPostmixRefIdeal := hPostmixRefIdeal)
    ∧ preserves_Ada_AdaIdeal
    ∧ algebraic_AdaIdeal_AdaRefIdeal (hAdaIdeal := hAdaIdeal) (hAdaRefIdeal := hAdaRefIdeal)
    ∧ preserves_Logits_LogitsIdeal
    ∧ algebraic_LogitsIdeal_LogitsRefIdeal_pre_finite (hLogitsIdeal := hLogitsIdeal) (hLogitsRefIdeal := hLogitsRefIdeal) (hPre_finite := hPre_finite)
    ∧ preserves_Route_RouteIdeal
    ∧ algebraic_RouteIdeal_RouteRefIdeal_pre_above (hRouteIdeal := hRouteIdeal) (hRouteRefIdeal := hRouteRefIdeal) (hPre_above := hPre_above)
-- ==== Pre_above.lean ====
abbrev S16384x128 : Shape := ⟨2, ![16384, 128]⟩
abbrev S64 : Shape := ⟨1, ![64]⟩
abbrev S16384x64 : Shape := ⟨2, ![16384, 64]⟩
abbrev S_ : Shape := ⟨0, ![]⟩

class Facts : Prop where
  slices_S16384x128_S16384x64_0_0 : S16384x128.Slices ![0, 0] S16384x64
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S16384x128 .f32) (main_arg1 : FVec F S64 .f32) : IVec S_ 1 :=
  let main_v0 : FVec F S16384x64 .f32 := (extractStridedSlice S16384x64 ![0, 0] · slices_S16384x128_S16384x64_0_0) main_arg0
  let main_cst : FVec F S_ .f32 := constant S_ .f32 0xFF800000#32
  let main_v1 : FVec F S16384x64 .f32 := broadcastInDim S16384x64 ![] bcast_S_S16384x64 main_cst
  let main_v2 : IVec S16384x64 1 := cmpf .ogt main_v0 main_v1
  let main_c : IVec S_ 1 := constantI S_ 1 1#1
  let main_v3 : IVec S_ 1 := (fun x v => Host.reduce IntOp.andi x v reducesTo_S16384x64_S_d0_1 h_S_) main_v2 main_c
  let main_cst_0 : FVec F S_ .f32 := constant S_ .f32 0xFF800000#32
  let main_v4 : FVec F S64 .f32 := broadcastInDim S64 ![] bcast_S_S64 main_cst_0
  let main_v5 : IVec S64 1 := cmpf .ogt main_arg1 main_v4
  let main_c_1 : IVec S_ 1 := constantI S_ 1 1#1
  let main_v6 : IVec S_ 1 := (fun x v => Host.reduce IntOp.andi x v reducesTo_S64_S_d0 h_S_) main_v5 main_c_1
  let main_v7 : IVec S_ 1 := andi main_v3 main_v6
  main_v7
-- ==== Pre_finite.lean ====
abbrev S16384x1024 : Shape := ⟨2, ![16384, 1024]⟩
abbrev S16384x7168 : Shape := ⟨2, ![16384, 7168]⟩
abbrev S8x2048x1024 : Shape := ⟨3, ![8, 2048, 1024]⟩
abbrev S8x1024 : Shape := ⟨2, ![8, 1024]⟩
abbrev S1024 : Shape := ⟨1, ![1024]⟩
abbrev S1024x1024 : Shape := ⟨2, ![1024, 1024]⟩
abbrev S1024x64 : Shape := ⟨2, ![1024, 64]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x7168 : S_.BroadcastsInDim S16384x7168 (![] : Fin 0 → Fin S16384x7168.rank)
  reducesTo_S16384x7168_S_d0_1 : S16384x7168.ReducesTo [0, 1] S_
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part3 {F : FTy → Type} [FloatOps F] (main_arg10 : FVec F S1024x1024 .bf16) (main_arg11 : FVec F S1024x64 .f32) (main_v47 : IVec S_ 1) (main_v51 : IVec S1024x1024 1) : IVec S_ 1 :=
  let main_c_18 : IVec S_ 1 := constantI S_ 1 1#1
  let main_v52 : IVec S_ 1 := (fun x v => Host.reduce IntOp.andi x v reducesTo_S1024x1024_S_d0_1 h_S_) main_v51 main_c_18
  let main_v53 : IVec S_ 1 := andi main_v47 main_v52
  let main_v54 : FVec F S1024x1024 .f32 := (extf .f32 · bitsLt_bf16_f32) main_arg10
  let main_v55 : FVec F S1024x1024 .f32 := Host.absf main_v54
  let main_cst_19 : FVec F S_ .f32 := constant S_ .f32 0x7F800000#32
  let main_v56 : FVec F S1024x1024 .f32 := broadcastInDim S1024x1024 ![] bcast_S_S1024x1024 main_cst_19
  let main_v57 : IVec S1024x1024 1 := cmpf .olt main_v55 main_v56
  let main_c_20 : IVec S_ 1 := constantI S_ 1 1#1
  let main_v58 : IVec S_ 1 := (fun x v => Host.reduce IntOp.andi x v reducesTo_S1024x1024_S_d0_1 h_S_) main_v57 main_c_20
  let main_v59 : IVec S_ 1 := andi main_v53 main_v58
  let main_v60 : FVec F S1024x64 .f32 := Host.absf main_arg11
  let main_cst_21 : FVec F S_ .f32 := constant S_ .f32 0x7F800000#32
  let main_v61 : FVec F S1024x64 .f32 := broadcastInDim S1024x64 ![] bcast_S_S1024x64 main_cst_21
  let main_v62 : IVec S1024x64 1 := cmpf .olt main_v60 main_v61
  let main_c_22 : IVec S_ 1 := constantI S_ 1 1#1
  let main_v63 : IVec S_ 1 := (fun x v => Host.reduce IntOp.andi x v reducesTo_S1024x64_S_d0_1 h_S_) main_v62 main_c_22
  let main_v64 : IVec S_ 1 := andi main_v59 main_v63
  main_v64

def fn_part2 {F : FTy → Type} [FloatOps F] (main_arg7 : FVec F S1024 .f32) (main_arg8 : FVec F S1024 .f32) (main_arg9 : FVec F S1024x1024 .bf16) (main_arg10 : FVec F S1024x1024 .bf16) (main_arg11 : FVec F S1024x64 .f32) (main_v32 : IVec S_ 1) (main_v33 : FVec F S8x1024 .f32) (main_cst_11 : FVec F S_ .f32) : IVec S_ 1 :=
  let main_v34 : FVec F S8x1024 .f32 := broadcastInDim S8x1024 ![] bcast_S_S8x1024 main_cst_11
  let main_v35 : IVec S8x1024 1 := cmpf .olt main_v33 main_v34
  let main_c_12 : IVec S_ 1 := constantI S_ 1 1#1
  let main_v36 : IVec S_ 1 := (fun x v => Host.reduce IntOp.andi x v reducesTo_S8x1024_S_d0_1 h_S_) main_v35 main_c_12
  let main_v37 : IVec S_ 1 := andi main_v32 main_v36
  let main_v38 : FVec F S1024 .f32 := Host.absf main_arg7
  let main_cst_13 : FVec F S_ .f32 := constant S_ .f32 0x7F800000#32
  let main_v39 : FVec F S1024 .f32 := broadcastInDim S1024 ![] bcast_S_S1024 main_cst_13
  let main_v40 : IVec S1024 1 := cmpf .olt main_v38 main_v39
  let main_c_14 : IVec S_ 1 := constantI S_ 1 1#1
  let main_v41 : IVec S_ 1 := (fun x v => Host.reduce IntOp.andi x v reducesTo_S1024_S_d0 h_S_) main_v40 main_c_14
  let main_v42 : IVec S_ 1 := andi main_v37 main_v41
  let main_v43 : FVec F S1024 .f32 := Host.absf main_arg8
  let main_cst_15 : FVec F S_ .f32 := constant S_ .f32 0x7F800000#32
  let main_v44 : FVec F S1024 .f32 := broadcastInDim S1024 ![] bcast_S_S1024 main_cst_15
  let main_v45 : IVec S1024 1 := cmpf .olt main_v43 main_v44
  let main_c_16 : IVec S_ 1 := constantI S_ 1 1#1
  let main_v46 : IVec S_ 1 := (fun x v => Host.reduce IntOp.andi x v reducesTo_S1024_S_d0 h_S_) main_v45 main_c_16
  let main_v47 : IVec S_ 1 := andi main_v42 main_v46
  let main_v48 : FVec F S1024x1024 .f32 := (extf .f32 · bitsLt_bf16_f32) main_arg9
  let main_v49 : FVec F S1024x1024 .f32 := Host.absf main_v48
  let main_cst_17 : FVec F S_ .f32 := constant S_ .f32 0x7F800000#32
  let main_v50 : FVec F S1024x1024 .f32 := broadcastInDim S1024x1024 ![] bcast_S_S1024x1024 main_cst_17
  let main_v51 : IVec S1024x1024 1 := cmpf .olt main_v49 main_v50
  fn_part3 (F := F) main_arg10 main_arg11 main_v47 main_v51

def fn_part1 {F : FTy → Type} [FloatOps F] (main_arg3 : FVec F S8x2048x1024 .f32) (main_arg4 : FVec F S8x1024 .f32) (main_arg5 : FVec F S8x1024 .f32) (main_arg6 : FVec F S8x1024 .f32) (main_arg7 : FVec F S1024 .f32) (main_arg8 : FVec F S1024 .f32) (main_arg9 : FVec F S1024x1024 .bf16) (main_arg10 : FVec F S1024x1024 .bf16) (main_arg11 : FVec F S1024x64 .f32) (main_v11 : IVec S_ 1) (main_v16 : IVec S_ 1) : IVec S_ 1 :=
  let main_v17 : IVec S_ 1 := andi main_v11 main_v16
  let main_v18 : FVec F S8x2048x1024 .f32 := Host.absf main_arg3
  let main_cst_5 : FVec F S_ .f32 := constant S_ .f32 0x7F800000#32
  let main_v19 : FVec F S8x2048x1024 .f32 := broadcastInDim S8x2048x1024 ![] bcast_S_S8x2048x1024 main_cst_5
  let main_v20 : IVec S8x2048x1024 1 := cmpf .olt main_v18 main_v19
  let main_c_6 : IVec S_ 1 := constantI S_ 1 1#1
  let main_v21 : IVec S_ 1 := (fun x v => Host.reduce IntOp.andi x v reducesTo_S8x2048x1024_S_d0_1_2 h_S_) main_v20 main_c_6
  let main_v22 : IVec S_ 1 := andi main_v17 main_v21
  let main_v23 : FVec F S8x1024 .f32 := Host.absf main_arg4
  let main_cst_7 : FVec F S_ .f32 := constant S_ .f32 0x7F800000#32
  let main_v24 : FVec F S8x1024 .f32 := broadcastInDim S8x1024 ![] bcast_S_S8x1024 main_cst_7
  let main_v25 : IVec S8x1024 1 := cmpf .olt main_v23 main_v24
  let main_c_8 : IVec S_ 1 := constantI S_ 1 1#1
  let main_v26 : IVec S_ 1 := (fun x v => Host.reduce IntOp.andi x v reducesTo_S8x1024_S_d0_1 h_S_) main_v25 main_c_8
  let main_v27 : IVec S_ 1 := andi main_v22 main_v26
  let main_v28 : FVec F S8x1024 .f32 := Host.absf main_arg5
  let main_cst_9 : FVec F S_ .f32 := constant S_ .f32 0x7F800000#32
  let main_v29 : FVec F S8x1024 .f32 := broadcastInDim S8x1024 ![] bcast_S_S8x1024 main_cst_9
  let main_v30 : IVec S8x1024 1 := cmpf .olt main_v28 main_v29
  let main_c_10 : IVec S_ 1 := constantI S_ 1 1#1
  let main_v31 : IVec S_ 1 := (fun x v => Host.reduce IntOp.andi x v reducesTo_S8x1024_S_d0_1 h_S_) main_v30 main_c_10
  let main_v32 : IVec S_ 1 := andi main_v27 main_v31
  let main_v33 : FVec F S8x1024 .f32 := Host.absf main_arg6
  let main_cst_11 : FVec F S_ .f32 := constant S_ .f32 0x7F800000#32
  fn_part2 (F := F) main_arg7 main_arg8 main_arg9 main_arg10 main_arg11 main_v32 main_v33 main_cst_11

def fn {F : FTy → Type} [FloatOps F] (main_arg0 : FVec F S16384x1024 .bf16) (main_arg1 : FVec F S16384x1024 .bf16) (main_arg2 : FVec F S16384x7168 .bf16) (main_arg3 : FVec F S8x2048x1024 .f32) (main_arg4 : FVec F S8x1024 .f32) (main_arg5 : FVec F S8x1024 .f32) (main_arg6 : FVec F S8x1024 .f32) (main_arg7 : FVec F S1024 .f32) (main_arg8 : FVec F S1024 .f32) (main_arg9 : FVec F S1024x1024 .bf16) (main_arg10 : FVec F S1024x1024 .bf16) (main_arg11 : FVec F S1024x64 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_c_0 : IVec S_ 1 := constantI S_ 1 1#1
  let main_v5 : IVec S_ 1 := andi main_c_0 main_v4
  let main_v6 : FVec F S16384x1024 .f32 := (extf .f32 · bitsLt_bf16_f32) main_arg1
  let main_v7 : FVec F S16384x1024 .f32 := Host.absf main_v6
  let main_cst_1 : FVec F S_ .f32 := constant S_ .f32 0x7F800000#32
  let main_v8 : FVec F S16384x1024 .f32 := broadcastInDim S16384x1024 ![] bcast_S_S16384x1024 main_cst_1
  let main_v9 : IVec S16384x1024 1 := cmpf .olt main_v7 main_v8
  let main_c_2 : IVec S_ 1 := constantI S_ 1 1#1
  let main_v10 : IVec S_ 1 := (fun x v => Host.reduce IntOp.andi x v reducesTo_S16384x1024_S_d0_1 h_S_) main_v9 main_c_2
  let main_v11 : IVec S_ 1 := andi main_v5 main_v10
  let main_v12 : FVec F S16384x7168 .f32 := (extf .f32 · bitsLt_bf16_f32) main_arg2
  let main_v13 : FVec F S16384x7168 .f32 := Host.absf main_v12
  let main_cst_3 : FVec F S_ .f32 := constant S_ .f32 0x7F800000#32
  let main_v14 : FVec F S16384x7168 .f32 := broadcastInDim S16384x7168 ![] bcast_S_S16384x7168 main_cst_3
  let main_v15 : IVec S16384x7168 1 := cmpf .olt main_v13 main_v14
  let main_c_4 : IVec S_ 1 := constantI S_ 1 1#1
  let main_v16 : IVec S_ 1 := (fun x v => Host.reduce IntOp.andi x v reducesTo_S16384x7168_S_d0_1 h_S_) main_v15 main_c_4
  fn_part1 (F := F) main_arg3 main_arg4 main_arg5 main_arg6 main_arg7 main_arg8 main_arg9 main_arg10 main_arg11 main_v11 main_v16
-- ==== Moe.lean ====
abbrev S16384x1024 : Shape := ⟨2, ![16384, 1024]⟩
abbrev S16384x64 : Shape := ⟨2, ![16384, 64]⟩
abbrev S8x1024 : Shape := ⟨2, ![8, 1024]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S1024 : Shape := ⟨1, ![1024]⟩
abbrev S_ : Shape := ⟨0, ![]⟩
abbrev S16384x65 : Shape := ⟨2, ![16384, 65]⟩
abbrev S16384x128 : Shape := ⟨2, ![16384, 128]⟩
abbrev S8x1x1024 : Shape := ⟨3, ![8, 1, 1024]⟩
abbrev S1x1024 : Shape := ⟨2, ![1, 1024]⟩
abbrev S1024x1024 : Shape := ⟨2, ![1024, 1024]⟩
abbrev S1024x128 : Shape := ⟨2, ![1024, 128]⟩
abbrev S1x1x1024 : Shape := ⟨3, ![1, 1, 1024]⟩
abbrev S1x1024x256 : Shape := ⟨3, ![1, 1024, 256]⟩
abbrev S1x256x1024 : Shape := ⟨3, ![1, 256, 1024]⟩
abbrev S1024x1 : Shape := ⟨2, ![1024, 1]⟩
abbrev S1024x1280 : Shape := ⟨2, ![1024, 1280]⟩
abbrev S1280x1024 : Shape := ⟨2, ![1280, 1024]⟩

abbrev nBuf : Space → Nat
  | .hbm => 20
  | .vmem => 46
  | .smem => 0
  | _ => 0

abbrev bufTy : (tb : Table) → Fin (tcTables nBuf tb) → BufTy
  | .hbm, ⟨0, _⟩ => ⟨S16384x1024, .bf16⟩
  | .hbm, ⟨1, _⟩ => ⟨S16384x64, .f32⟩
  | .hbm, ⟨2, _⟩ => ⟨S16384x1024, .f32⟩
  | .hbm, ⟨3, _⟩ => ⟨S8x1024, .f32⟩
  | .hbm, ⟨4, _⟩ => ⟨S64x1024x256, .bf16⟩
  | .hbm, ⟨5, _⟩ => ⟨S64x1024x256, .bf16⟩
  | .hbm, ⟨6, _⟩ => ⟨S64x256x1024, .bf16⟩
  | .hbm, ⟨7, _⟩ => ⟨S1024x256, .bf16⟩
  | .hbm, ⟨8, _⟩ => ⟨S1024x256, .bf16⟩
  | .hbm, ⟨9, _⟩ => ⟨S256x1024, .bf16⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S16384x65, .f32⟩
  | .hbm, ⟨14, _⟩ => ⟨S_, .f32⟩
  | .hbm, ⟨15, _⟩ => ⟨S16384x128, .f32⟩
  | .hbm, ⟨16, _⟩ => ⟨S8x1x1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x1024x256, .bf16⟩
  | .local _ .vmem, ⟨22, _⟩ => ⟨S1x1024x256, .bf16⟩
  | .local _ .vmem, ⟨23, _⟩ => ⟨S1x1024x256, .bf16⟩
  | .local _ .vmem, ⟨24, _⟩ => ⟨S1x1024x256, .bf16⟩
  | .local _ .vmem, ⟨25, _⟩ => ⟨S1x1024x256, .bf16⟩
  | .local _ .vmem, ⟨26, _⟩ => ⟨S1x1024x256, .bf16⟩
  | .local _ .vmem, ⟨27, _⟩ => ⟨S1x1024x256, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x256x1024, .bf16⟩
  | .local _ .vmem, ⟨32, _⟩ => ⟨S1x256x1024, .bf16⟩
  | .local _ .vmem, ⟨33, _⟩ => ⟨S1x256x1024, .bf16⟩
  | .local _ .vmem, ⟨34, _⟩ => ⟨S1x256x1024, .bf16⟩
  | .local _ .vmem, ⟨35, _⟩ => ⟨S1x256x1024, .bf16⟩
  | .local _ .vmem, ⟨36, _⟩ => ⟨S1x256x1024, .bf16⟩
  | .local _ .vmem, ⟨37, _⟩ => ⟨S1x256x1024, .bf16⟩
  | .local _ .vmem, ⟨38, _⟩ => ⟨S1024x256, .bf16⟩
  | .local _ .vmem, ⟨39, _⟩ => ⟨S1024x256, .bf16⟩
  | .local _ .vmem, ⟨40, _⟩ => ⟨S256x1024, .bf16⟩
  | .local _ .vmem, ⟨41, _⟩ => ⟨S1x1024, .f32⟩
  | .local _ .vmem, ⟨42, _⟩ => ⟨S1x1024, .f32⟩
  | .local _ .vmem, ⟨43, _⟩ => ⟨S1024x1024, .f32⟩
  | .local _ .vmem, ⟨44, _⟩ => ⟨S1024x1024, .f32⟩
  | .local _ .vmem, ⟨45, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg20_0 : Ref sig .tc := ⟨.vmem, 39, rfl⟩
abbrev cc0_stg21_0 : Ref sig .tc := ⟨.vmem, 40, rfl⟩
abbrev cc0_stg22_0 : Ref sig .tc := ⟨.vmem, 41, rfl⟩
abbrev cc0_stg23_0 : Ref sig .tc := ⟨.vmem, 42, rfl⟩
abbrev cc0_stg24_0 : Ref sig .tc := ⟨.vmem, 43, rfl⟩
abbrev cc0_stg24_1 : Ref sig .tc := ⟨.vmem, 44, rfl⟩
abbrev cc0_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem20_0 : DmaSem sig := 39
abbrev cc0_sem21_0 : DmaSem sig := 40
abbrev cc0_sem22_0 : DmaSem sig := 41
abbrev cc0_sem23_0 : DmaSem sig := 42
abbrev cc0_sem24_0 : DmaSem sig := 43
abbrev cc0_sem24_1 : DmaSem sig := 44

abbrev nD : Nat := 1
abbrev τ : Topo := Topo.v7x

variable {F : FTy → Type} [FloatOps F]

abbrev grid0 : Pipeline.Grid := ⟨2, ![16, 13], ![false, false]⟩

def k0_cond2 (i : grid0.Coords) : BitVec 1 :=
  let arg1 : BitVec 32 := BitVec.ofNat 32 (i 1).val
  let c12_i32 : BitVec 32 := 12#32
  let v0 : BitVec 1 := Scalar.cmpi .eq arg1 c12_i32
  let v132 : BitVec 32 := Scalar.extui v0
  let c0_i32_84 : BitVec 32 := 0#32
  let v133 : BitVec 1 := Scalar.cmpi .ne v132 c0_i32_84
  v133

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c0_i32 : BitVec 32 := 0#32
  let v1 : BitVec 32 := Scalar.addi v0 c0_i32
  let c63_i32 : BitVec 32 := 63#32
  let v2 : BitVec 32 := Scalar.minsi v1 c63_i32
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.addi v0 c1_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c2_i32 : BitVec 32 := 2#32
  let v1 : BitVec 32 := Scalar.addi v0 c2_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c3_i32 : BitVec 32 := 3#32
  let v1 : BitVec 32 := Scalar.addi v0 c3_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c4_i32 : BitVec 32 := 4#32
  let v1 : BitVec 32 := Scalar.addi v0 c4_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c0_i32 : BitVec 32 := 0#32
  let v1 : BitVec 32 := Scalar.addi v0 c0_i32
  let c63_i32 : BitVec 32 := 63#32
  let v2 : BitVec 32 := Scalar.minsi v1 c63_i32
  let c0_i32_0 : BitVec 32 := 0#32
  let c0_i32_1 : BitVec 32 := 0#32
  let c0_i32_2 : BitVec 32 := 0#32
  ![v2.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.addi v0 c1_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c2_i32 : BitVec 32 := 2#32
  let v1 : BitVec 32 := Scalar.addi v0 c2_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c3_i32 : BitVec 32 := 3#32
  let v1 : BitVec 32 := Scalar.addi v0 c3_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c4_i32 : BitVec 32 := 4#32
  let v1 : BitVec 32 := Scalar.addi v0 c4_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c0_i32 : BitVec 32 := 0#32
  let v1 : BitVec 32 := Scalar.addi v0 c0_i32
  let c63_i32 : BitVec 32 := 63#32
  let v2 : BitVec 32 := Scalar.minsi v1 c63_i32
  let c0_i32_0 : BitVec 32 := 0#32
  let c0_i32_1 : BitVec 32 := 0#32
  let c0_i32_2 : BitVec 32 := 0#32
  ![v2.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.addi v0 c1_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c2_i32 : BitVec 32 := 2#32
  let v1 : BitVec 32 := Scalar.addi v0 c2_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c3_i32 : BitVec 32 := 3#32
  let v1 : BitVec 32 := Scalar.addi v0 c3_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c4_i32 : BitVec 32 := 4#32
  let v1 : BitVec 32 := Scalar.addi v0 c4_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![v2.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 1 → Memref sig .tc .vmem S1024x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S256x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 2 → Memref sig .tc .vmem S1024x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]
-- ==== MoeRefIdeal.lean ====
abbrev S16384x1024 : Shape := ⟨2, ![16384, 1024]⟩
abbrev S16384x64 : Shape := ⟨2, ![16384, 64]⟩
abbrev S8x1024 : Shape := ⟨2, ![8, 1024]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S1024 : Shape := ⟨1, ![1024]⟩
abbrev S16384x64x256 : Shape := ⟨3, ![16384, 64, 256]⟩
abbrev S_ : Shape := ⟨0, ![]⟩
abbrev S16384x64x1 : Shape := ⟨3, ![16384, 64, 1]⟩
abbrev S16384x256 : Shape := ⟨2, ![16384, 256]⟩
abbrev S8x2048x1024 : Shape := ⟨3, ![8, 2048, 1024]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x64, .f32⟩
  | .hbm, ⟨2, _⟩ => ⟨S16384x1024, .f32⟩
  | .hbm, ⟨3, _⟩ => ⟨S8x1024, .f32⟩
  | .hbm, ⟨4, _⟩ => ⟨S64x1024x256, .bf16⟩
  | .hbm, ⟨5, _⟩ => ⟨S64x1024x256, .bf16⟩
  | .hbm, ⟨6, _⟩ => ⟨S64x256x1024, .bf16⟩
  | .hbm, ⟨7, _⟩ => ⟨S1024x256, .bf16⟩
  | .hbm, ⟨8, _⟩ => ⟨S1024x256, .bf16⟩
  | .hbm, ⟨9, _⟩ => ⟨S256x1024, .bf16⟩
  | .hbm, ⟨10, _⟩ => ⟨S1024, .f32⟩
  | .hbm, ⟨11, _⟩ => ⟨S1024, .f32⟩
  | .hbm, ⟨12, _⟩ => ⟨S16384x1024, .f32⟩
  | .hbm, ⟨13, _⟩ => ⟨S64x1024x256, .f32⟩
  | .hbm, ⟨14, _⟩ => ⟨S64x1024x256, .f32⟩
  | .hbm, ⟨15, _⟩ => ⟨S64x256x1024, .f32⟩
  | .hbm, ⟨16, _⟩ => ⟨S1024x256, .f32⟩
  | .hbm, ⟨17, _⟩ => ⟨S1024x256, .f32⟩
  | .hbm, ⟨18, _⟩ => ⟨S256x1024, .f32⟩
  | .hbm, ⟨19, _⟩ => ⟨S16384x64x256, .f32⟩
  | .hbm, ⟨20, _⟩ => ⟨S16384x64x256, .f32⟩
  | .hbm, ⟨21, _⟩ => ⟨S16384x64x256, .f32⟩
  | .hbm, ⟨22, _⟩ => ⟨S16384x64x256, .f32⟩
  | .hbm, ⟨23, _⟩ => ⟨S_, .f32⟩
  | .hbm, ⟨24, _⟩ => ⟨S16384x64x256, .f32⟩
  | .hbm, ⟨25, _⟩ => ⟨S16384x64x256, .f32⟩
  | .hbm, ⟨26, _⟩ => ⟨S_, .f32⟩
  | .hbm, ⟨27, _⟩ => ⟨S16384x64x256, .f32⟩
  | .hbm, ⟨28, _⟩ => ⟨S16384x64x256, .f32⟩
  | .hbm, ⟨29, _⟩ => ⟨S16384x64x256, .f32⟩
  | .hbm, ⟨30, _⟩ => ⟨S16384x64x256, .f32⟩
  | .hbm, ⟨31, _⟩ => ⟨S16384x64x1, .f32⟩
  | .hbm, ⟨32, _⟩ => ⟨S16384x64x256, .f32⟩
  | .hbm, ⟨33, _⟩ => ⟨S16384x64x256, .f32⟩
  | .hbm, ⟨34, _⟩ => ⟨S16384x1024, .f32⟩
  | .hbm, ⟨35, _⟩ => ⟨S16384x256, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S_, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x1024, .f32⟩
  | .hbm, ⟨48, _⟩ => ⟨S16384x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S8x1x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x1024, .f32⟩
  | .hbm, ⟨78, _⟩ => ⟨S8x2048x1024, .f32⟩
  | .hbm, ⟨79, _⟩ => ⟨S1x1x1024, .f32⟩
  | .hbm, ⟨80, _⟩ => ⟨S8x2048x1024, .f32⟩
  | .hbm, ⟨81, _⟩ => ⟨S8x2048x1024, .f32⟩
  | .hbm, ⟨82, _⟩ => ⟨S1x1x1024, .f32⟩
  | .hbm, ⟨83, _⟩ => ⟨S8x2048x1024, .f32⟩
  | .hbm, ⟨84, _⟩ => ⟨S8x2048x1024, .f32⟩
  | .hbm, ⟨85, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_0 : Ref sig .tc := ⟨.hbm, 58, rfl⟩
abbrev main_v29 : Ref sig .tc := ⟨.hbm, 59, rfl⟩
abbrev main_v30 : Ref sig .tc := ⟨.hbm, 60, rfl⟩
abbrev main_cst_1 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_2 : Ref sig .tc := ⟨.hbm, 67, rfl⟩
abbrev main_v36 : Ref sig .tc := ⟨.hbm, 68, rfl⟩
abbrev main_v37 : Ref sig .tc := ⟨.hbm, 69, rfl⟩
abbrev main_cst_3 : Ref sig .tc := ⟨.hbm, 70, rfl⟩
abbrev main_v38 : Ref sig .tc := ⟨.hbm, 71, rfl⟩
abbrev main_v39 : Ref sig .tc := ⟨.hbm, 72, rfl⟩
abbrev main_cst_4 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩

abbrev nD : Nat := 1
abbrev τ : Topo := Topo.v7x

variable {F : FTy → Type} [FloatOps F]
-- ==== Inproj.lean ====
abbrev S8x2048x1024 : Shape := ⟨3, ![8, 2048, 1024]⟩
abbrev S8x1024 : Shape := ⟨2, ![8, 1024]⟩
abbrev S1024x7168 : Shape := ⟨2, ![1024, 7168]⟩
abbrev S16384x1024 : Shape := ⟨2, ![16384, 1024]⟩
abbrev S8x1x1024 : Shape := ⟨3, ![8, 1, 1024]⟩
abbrev S16384x7168 : Shape := ⟨2, ![16384, 7168]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x1024, .f32⟩
  | .hbm, ⟨3, _⟩ => ⟨S1024x7168, .bf16⟩
  | .hbm, ⟨4, _⟩ => ⟨S16384x1024, .f32⟩
  | .hbm, ⟨5, _⟩ => ⟨S8x1x1024, .f32⟩
  | .hbm, ⟨6, _⟩ => ⟨S8x1x1024, .f32⟩
  | .hbm, ⟨7, _⟩ => ⟨S16384x7168, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x7168, .bf16⟩
  | .local _ .vmem, ⟨7, _⟩ => ⟨S1024x7168, .bf16⟩
  | .local _ .vmem, ⟨8, _⟩ => ⟨S1024x7168, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojRefIdeal.lean ====
abbrev S8x2048x1024 : Shape := ⟨3, ![8, 2048, 1024]⟩
abbrev S8x1024 : Shape := ⟨2, ![8, 1024]⟩
abbrev S1024x7168 : Shape := ⟨2, ![1024, 7168]⟩
abbrev S_ : Shape := ⟨0, ![]⟩
abbrev S8x2048 : Shape := ⟨2, ![8, 2048]⟩
abbrev S8x2048x1 : Shape := ⟨3, ![8, 2048, 1]⟩
abbrev S8x1x1024 : Shape := ⟨3, ![8, 1, 1024]⟩
abbrev S8x2048x7168 : Shape := ⟨3, ![8, 2048, 7168]⟩
abbrev S7168 : Shape := ⟨1, ![7168]⟩
abbrev S16384x7168 : Shape := ⟨2, ![16384, 7168]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x1024, .f32⟩
  | .hbm, ⟨3, _⟩ => ⟨S1024x7168, .bf16⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S1024x7168, .f32⟩
  | .hbm, ⟨35, _⟩ => ⟨S8x2048x7168, .f32⟩
  | .hbm, ⟨36, _⟩ => ⟨S7168, .i32⟩
  | .hbm, ⟨37, _⟩ => ⟨S_, .i32⟩
  | .hbm, ⟨38, _⟩ => ⟨S7168, .i32⟩
  | .hbm, ⟨39, _⟩ => ⟨S7168, .i1⟩
  | .hbm, ⟨40, _⟩ => ⟨S8x2048x7168, .f32⟩
  | .hbm, ⟨41, _⟩ => ⟨S8x2048x7168, .f32⟩
  | .hbm, ⟨42, _⟩ => ⟨S_, .f32⟩
  | .hbm, ⟨43, _⟩ => ⟨S8x2048x7168, .f32⟩
  | .hbm, ⟨44, _⟩ => ⟨S8x2048x7168, .f32⟩
  | .hbm, ⟨45, _⟩ => ⟨S_, .f32⟩
  | .hbm, ⟨46, _⟩ => ⟨S8x2048x7168, .f32⟩
  | .hbm, ⟨47, _⟩ => ⟨S8x2048x7168, .f32⟩
  | .hbm, ⟨48, _⟩ => ⟨S8x2048x7168, .i1⟩
  | .hbm, ⟨49, _⟩ => ⟨S8x2048x7168, .f32⟩
  | .hbm, ⟨50, _⟩ => ⟨S16384x7168, .f32⟩
  | .hbm, ⟨51, _⟩ => ⟨S16384x7168, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_call0_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Postmix.lean ====
abbrev S16384x1024 : Shape := ⟨2, ![16384, 1024]⟩
abbrev S16384x7168 : Shape := ⟨2, ![16384, 7168]⟩
abbrev S8x2048x1024 : Shape := ⟨3, ![8, 2048, 1024]⟩
abbrev S8x1024 : Shape := ⟨2, ![8, 1024]⟩
abbrev S1024 : Shape := ⟨1, ![1024]⟩
abbrev S1024x1024 : Shape := ⟨2, ![1024, 1024]⟩
abbrev S1024x64 : Shape := ⟨2, ![1024, 64]⟩
abbrev S8x1x1024 : Shape := ⟨3, ![8, 1, 1024]⟩
abbrev S1x1024 : Shape := ⟨2, ![1, 1024]⟩
abbrev S1024x128 : Shape := ⟨2, ![1024, 128]⟩
abbrev S16384x128 : Shape := ⟨2, ![16384, 128]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 26
  | .vmem => 25
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x7168, .bf16⟩
  | .hbm, ⟨3, _⟩ => ⟨S8x2048x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x64, .f32⟩
  | .hbm, ⟨12, _⟩ => ⟨S1024x64, .bf16⟩
  | .hbm, ⟨13, _⟩ => ⟨S1024x64, .f32⟩
  | .hbm, ⟨14, _⟩ => ⟨S1024x64, .f32⟩
  | .hbm, ⟨15, _⟩ => ⟨S1024x64, .bf16⟩
  | .hbm, ⟨16, _⟩ => ⟨S16384x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S1x1024, .f32⟩
  | .hbm, ⟨21, _⟩ => ⟨S1x1024, .f32⟩
  | .hbm, ⟨22, _⟩ => ⟨S1024x128, .bf16⟩
  | .hbm, ⟨23, _⟩ => ⟨S16384x1024, .f32⟩
  | .hbm, ⟨24, _⟩ => ⟨S16384x1024, .bf16⟩
  | .hbm, ⟨25, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x128, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x128, .f32⟩
  | .local _ .vmem, ⟨24, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PostmixRefIdeal.lean ====
abbrev S16384x1024 : Shape := ⟨2, ![16384, 1024]⟩
abbrev S16384x7168 : Shape := ⟨2, ![16384, 7168]⟩
abbrev S8x2048x1024 : Shape := ⟨3, ![8, 2048, 1024]⟩
abbrev S8x1024 : Shape := ⟨2, ![8, 1024]⟩
abbrev S1024 : Shape := ⟨1, ![1024]⟩
abbrev S1024x1024 : Shape := ⟨2, ![1024, 1024]⟩
abbrev S1024x64 : Shape := ⟨2, ![1024, 64]⟩
abbrev S_ : Shape := ⟨0, ![]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x7168, .bf16⟩
  | .hbm, ⟨3, _⟩ => ⟨S8x2048x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x64, .f32⟩
  | .hbm, ⟨12, _⟩ => ⟨S16384x1024, .bf16⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S1024x1024, .f32⟩
  | .hbm, ⟨17, _⟩ => ⟨S1024x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S8x2048x1024, .f32⟩
  | .hbm, ⟨23, _⟩ => ⟨S_, .f32⟩
  | .hbm, ⟨24, _⟩ => ⟨S8x2048x1024, .f32⟩
  | .hbm, ⟨25, _⟩ => ⟨S8x2048x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1, .f32⟩
  | .hbm, ⟨76, _⟩ => ⟨S8x2048x1024, .f32⟩
  | .hbm, ⟨77, _⟩ => ⟨S8x2048x1024, .f32⟩
  | .hbm, ⟨78, _⟩ => ⟨S8x1x1024, .f32⟩
  | .hbm, ⟨79, _⟩ => ⟨S_, .f32⟩
  | .hbm, ⟨80, _⟩ => ⟨S8x1x1024, .f32⟩
  | .hbm, ⟨81, _⟩ => ⟨S8x1x1024, .f32⟩
  | .hbm, ⟨82, _⟩ => ⟨S8x2048x1024, .f32⟩
  | .hbm, ⟨83, _⟩ => ⟨S8x2048x1024, .f32⟩
  | .hbm, ⟨84, _⟩ => ⟨S8x1x1024, .f32⟩
  | .hbm, ⟨85, _⟩ => ⟨S8x2048x1024, .f32⟩
  | .hbm, ⟨86, _⟩ => ⟨S8x2048x1024, .f32⟩
  | .hbm, ⟨87, _⟩ => ⟨S16384x1024, .f32⟩
  | .hbm, ⟨88, _⟩ => ⟨S16384x1024, .f32⟩
  | .hbm, ⟨89, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Ada.lean ====
abbrev S8x1024 : Shape := ⟨2, ![8, 1024]⟩
abbrev S1024x6144 : Shape := ⟨2, ![1024, 6144]⟩
abbrev S6144 : Shape := ⟨1, ![6144]⟩
abbrev S1024x7168 : Shape := ⟨2, ![1024, 7168]⟩
abbrev S1024x1024 : Shape := ⟨2, ![1024, 1024]⟩
abbrev S1024x256 : Shape := ⟨2, ![1024, 256]⟩
abbrev S256x1024 : Shape := ⟨2, ![256, 1024]⟩
abbrev S1x6144 : Shape := ⟨2, ![1, 6144]⟩
abbrev S8x6144 : Shape := ⟨2, ![8, 6144]⟩
abbrev S1024x768 : Shape := ⟨2, ![1024, 768]⟩
abbrev S1x768 : Shape := ⟨2, ![1, 768]⟩
abbrev S128x7168 : Shape := ⟨2, ![128, 7168]⟩
abbrev S128x1024 : Shape := ⟨2, ![128, 1024]⟩
abbrev S128x256 : Shape := ⟨2, ![128, 256]⟩
abbrev S32x1024 : Shape := ⟨2, ![32, 1024]⟩
abbrev S8x768 : Shape := ⟨2, ![8, 768]⟩

abbrev nBuf : Space → Nat
  | .hbm => 19
  | .vmem => 35
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1024x7168, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S1x6144, .f32⟩
  | .hbm, ⟨11, _⟩ => ⟨S8x6144, .f32⟩
  | .hbm, ⟨12, _⟩ => ⟨S1024x7168, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x256, .bf16⟩
  | .hbm, ⟨17, _⟩ => ⟨S1024x256, .bf16⟩
  | .hbm, ⟨18, _⟩ => ⟨S256x1024, .bf16⟩
  | .local _ .vmem, ⟨0, _⟩ => ⟨S8x1024, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S128x7168, .f32⟩
  | .local _ .vmem, ⟨6, _⟩ => ⟨S128x7168, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S32x1024, .f32⟩
  | .local _ .vmem, ⟨18, _⟩ => ⟨S32x1024, .f32⟩
  | .local _ .vmem, ⟨19, _⟩ => ⟨S8x768, .f32⟩
  | .local _ .vmem, ⟨20, _⟩ => ⟨S8x768, .f32⟩
  | .local _ .vmem, ⟨21, _⟩ => ⟨S128x7168, .bf16⟩
  | .local _ .vmem, ⟨22, _⟩ => ⟨S128x7168, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S128x1024, .bf16⟩
  | .local _ .vmem, ⟨28, _⟩ => ⟨S128x1024, .bf16⟩
  | .local _ .vmem, ⟨29, _⟩ => ⟨S128x256, .bf16⟩
  | .local _ .vmem, ⟨30, _⟩ => ⟨S128x256, .bf16⟩
  | .local _ .vmem, ⟨31, _⟩ => ⟨S128x256, .bf16⟩
  | .local _ .vmem, ⟨32, _⟩ => ⟨S128x256, .bf16⟩
  | .local _ .vmem, ⟨33, _⟩ => ⟨S32x1024, .bf16⟩
  | .local _ .vmem, ⟨34, _⟩ => ⟨S32x1024, .bf16⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x7168 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== AdaRefIdeal.lean ====
abbrev S8x1024 : Shape := ⟨2, ![8, 1024]⟩
abbrev S1024x6144 : Shape := ⟨2, ![1024, 6144]⟩
abbrev S6144 : Shape := ⟨1, ![6144]⟩
abbrev S1024x7168 : Shape := ⟨2, ![1024, 7168]⟩
abbrev S1024x1024 : Shape := ⟨2, ![1024, 1024]⟩
abbrev S1024x256 : Shape := ⟨2, ![1024, 256]⟩
abbrev S256x1024 : Shape := ⟨2, ![256, 1024]⟩
abbrev S_ : Shape := ⟨0, ![]⟩
abbrev S8x6144 : Shape := ⟨2, ![8, 6144]⟩
abbrev S1x6144 : Shape := ⟨2, ![1, 6144]⟩

abbrev nBuf : Space → Nat
  | .hbm => 30
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1024x7168, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x6144, .f32⟩
  | .hbm, ⟨20, _⟩ => ⟨S1x6144, .f32⟩
  | .hbm, ⟨21, _⟩ => ⟨S8x6144, .f32⟩
  | .hbm, ⟨22, _⟩ => ⟨S8x6144, .f32⟩
  | .hbm, ⟨23, _⟩ => ⟨S1024x7168, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1024x256, .bf16⟩
  | .hbm, ⟨28, _⟩ => ⟨S1024x256, .bf16⟩
  | .hbm, ⟨29, _⟩ => ⟨S256x1024, .bf16⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩

abbrev nD : Nat := 1
abbrev τ : Topo := Topo.v7x

variable {F : FTy → Type} [FloatOps F]
-- ==== Logits.lean ====
abbrev S16384x1024 : Shape := ⟨2, ![16384, 1024]⟩
abbrev S16384x7168 : Shape := ⟨2, ![16384, 7168]⟩
abbrev S8x2048x1024 : Shape := ⟨3, ![8, 2048, 1024]⟩
abbrev S8x1024 : Shape := ⟨2, ![8, 1024]⟩
abbrev S1024 : Shape := ⟨1, ![1024]⟩
abbrev S1024x1024 : Shape := ⟨2, ![1024, 1024]⟩
abbrev S1024x64 : Shape := ⟨2, ![1024, 64]⟩
abbrev S8x1x1024 : Shape := ⟨3, ![8, 1, 1024]⟩
abbrev S1x1024 : Shape := ⟨2, ![1, 1024]⟩
abbrev S1024x128 : Shape := ⟨2, ![1024, 128]⟩
abbrev S16384x128 : Shape := ⟨2, ![16384, 128]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 26
  | .vmem => 25
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x7168, .bf16⟩
  | .hbm, ⟨3, _⟩ => ⟨S8x2048x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x64, .f32⟩
  | .hbm, ⟨12, _⟩ => ⟨S1024x64, .bf16⟩
  | .hbm, ⟨13, _⟩ => ⟨S1024x64, .f32⟩
  | .hbm, ⟨14, _⟩ => ⟨S1024x64, .f32⟩
  | .hbm, ⟨15, _⟩ => ⟨S1024x64, .bf16⟩
  | .hbm, ⟨16, _⟩ => ⟨S16384x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S1x1024, .f32⟩
  | .hbm, ⟨21, _⟩ => ⟨S1x1024, .f32⟩
  | .hbm, ⟨22, _⟩ => ⟨S1024x128, .bf16⟩
  | .hbm, ⟨23, _⟩ => ⟨S16384x1024, .f32⟩
  | .hbm, ⟨24, _⟩ => ⟨S16384x1024, .bf16⟩
  | .hbm, ⟨25, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x128, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x128, .f32⟩
  | .local _ .vmem, ⟨24, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== LogitsRefIdeal.lean ====
abbrev S16384x1024 : Shape := ⟨2, ![16384, 1024]⟩
abbrev S16384x7168 : Shape := ⟨2, ![16384, 7168]⟩
abbrev S8x2048x1024 : Shape := ⟨3, ![8, 2048, 1024]⟩
abbrev S8x1024 : Shape := ⟨2, ![8, 1024]⟩
abbrev S1024 : Shape := ⟨1, ![1024]⟩
abbrev S1024x1024 : Shape := ⟨2, ![1024, 1024]⟩
abbrev S1024x64 : Shape := ⟨2, ![1024, 64]⟩
abbrev S_ : Shape := ⟨0, ![]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x7168, .bf16⟩
  | .hbm, ⟨3, _⟩ => ⟨S8x2048x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x64, .f32⟩
  | .hbm, ⟨12, _⟩ => ⟨S16384x1024, .bf16⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S1024x1024, .f32⟩
  | .hbm, ⟨17, _⟩ => ⟨S1024x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S8x2048x1024, .f32⟩
  | .hbm, ⟨23, _⟩ => ⟨S_, .f32⟩
  | .hbm, ⟨24, _⟩ => ⟨S8x2048x1024, .f32⟩
  | .hbm, ⟨25, _⟩ => ⟨S8x2048x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1, .f32⟩
  | .hbm, ⟨76, _⟩ => ⟨S8x2048x1024, .f32⟩
  | .hbm, ⟨77, _⟩ => ⟨S8x2048x1024, .f32⟩
  | .hbm, ⟨78, _⟩ => ⟨S8x1x1024, .f32⟩
  | .hbm, ⟨79, _⟩ => ⟨S_, .f32⟩
  | .hbm, ⟨80, _⟩ => ⟨S8x1x1024, .f32⟩
  | .hbm, ⟨81, _⟩ => ⟨S8x1x1024, .f32⟩
  | .hbm, ⟨82, _⟩ => ⟨S8x2048x1024, .f32⟩
  | .hbm, ⟨83, _⟩ => ⟨S8x2048x1024, .f32⟩
  | .hbm, ⟨84, _⟩ => ⟨S8x1x1024, .f32⟩
  | .hbm, ⟨85, _⟩ => ⟨S8x2048x1024, .f32⟩
  | .hbm, ⟨86, _⟩ => ⟨S8x2048x1024, .f32⟩
  | .hbm, ⟨87, _⟩ => ⟨S16384x1024, .f32⟩
  | .hbm, ⟨88, _⟩ => ⟨S16384x64, .f32⟩
  | .hbm, ⟨89, _⟩ => ⟨S1x16384x1x64, .f32⟩
  | .hbm, ⟨90, _⟩ => ⟨S1x16384x2x64, .f32⟩
  | .hbm, ⟨91, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Route.lean ====
abbrev S16384x128 : Shape := ⟨2, ![16384, 128]⟩
abbrev S64 : Shape := ⟨1, ![64]⟩
abbrev S64x1 : Shape := ⟨2, ![64, 1]⟩
abbrev S2048x128 : Shape := ⟨2, ![2048, 128]⟩
abbrev S128x2048 : Shape := ⟨2, ![128, 2048]⟩
abbrev S64x2048 : Shape := ⟨2, ![64, 2048]⟩
abbrev S8x8x2048 : Shape := ⟨3, ![8, 8, 2048]⟩
abbrev S8x2048 : Shape := ⟨2, ![8, 2048]⟩
abbrev S8x1x2048 : Shape := ⟨3, ![8, 1, 2048]⟩
abbrev S1x2048 : Shape := ⟨2, ![1, 2048]⟩
abbrev S1x1x2048 : Shape := ⟨3, ![1, 1, 2048]⟩

abbrev nBuf : Space → Nat
  | .hbm => 4
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S64, .f32⟩
  | .hbm, ⟨2, _⟩ => ⟨S64x1, .f32⟩
  | .hbm, ⟨3, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S64x1, .f32⟩
  | .local _ .vmem, ⟨3, _⟩ => ⟨S2048x128, .f32⟩
  | .local _ .vmem, ⟨4, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RouteRefIdeal.lean ====
abbrev S16384x128 : Shape := ⟨2, ![16384, 128]⟩
abbrev S64 : Shape := ⟨1, ![64]⟩
abbrev S16384x64 : Shape := ⟨2, ![16384, 64]⟩
abbrev S_ : Shape := ⟨0, ![]⟩
abbrev S1x64 : Shape := ⟨2, ![1, 64]⟩
abbrev S16384x8x8 : Shape := ⟨3, ![16384, 8, 8]⟩
abbrev S16384x8x2 : Shape := ⟨3, ![16384, 8, 2]⟩
abbrev S16384x8 : Shape := ⟨2, ![16384, 8]⟩
abbrev S16384x4 : Shape := ⟨2, ![16384, 4]⟩
abbrev S16384x4x1 : Shape := ⟨3, ![16384, 4, 1]⟩
abbrev S1x1x8 : Shape := ⟨3, ![1, 1, 8]⟩
abbrev S16384x4x8 : Shape := ⟨3, ![16384, 4, 8]⟩
abbrev S16384x8x1 : Shape := ⟨3, ![16384, 8, 1]⟩
abbrev S1 : Shape := ⟨1, ![1]⟩
abbrev S1x1x1 : Shape := ⟨3, ![1, 1, 1]⟩
abbrev S16384 : Shape := ⟨1, ![16384]⟩
abbrev S16384x1 : Shape := ⟨2, ![16384, 1]⟩
abbrev S1x1x64 : Shape := ⟨3, ![1, 1, 64]⟩
abbrev S16384x8x64 : Shape := ⟨3, ![16384, 8, 64]⟩
abbrev S16384x65 : Shape := ⟨2, ![16384, 65]⟩

abbrev nBuf : Space → Nat
  | .hbm => 85
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S64, .f32⟩
  | .hbm, ⟨2, _⟩ => ⟨S16384x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S1x64, .f32⟩
  | .hbm, ⟨12, _⟩ => ⟨S16384x64, .f32⟩
  | .hbm, ⟨13, _⟩ => ⟨S16384x64, .f32⟩
  | .hbm, ⟨14, _⟩ => ⟨S16384x8x8, .f32⟩
  | .hbm, ⟨15, _⟩ => ⟨S16384x8x2, .f32⟩
  | .hbm, ⟨16, _⟩ => ⟨S16384x8x2, .i32⟩
  | .hbm, ⟨17, _⟩ => ⟨S_, .f32⟩
  | .hbm, ⟨18, _⟩ => ⟨S16384x8, .f32⟩
  | .hbm, ⟨19, _⟩ => ⟨S16384x4, .f32⟩
  | .hbm, ⟨20, _⟩ => ⟨S16384x4, .i32⟩
  | .hbm, ⟨21, _⟩ => ⟨S16384x4x1, .i32⟩
  | .hbm, ⟨22, _⟩ => ⟨S1x1x8, .i32⟩
  | .hbm, ⟨23, _⟩ => ⟨S16384x4x8, .i32⟩
  | .hbm, ⟨24, _⟩ => ⟨S16384x4x8, .i32⟩
  | .hbm, ⟨25, _⟩ => ⟨S16384x4x8, .i1⟩
  | .hbm, ⟨26, _⟩ => ⟨S16384x4x8, .f32⟩
  | .hbm, ⟨27, _⟩ => ⟨S_, .f32⟩
  | .hbm, ⟨28, _⟩ => ⟨S16384x8, .f32⟩
  | .hbm, ⟨29, _⟩ => ⟨S_, .f32⟩
  | .hbm, ⟨30, _⟩ => ⟨S16384x8, .f32⟩
  | .hbm, ⟨31, _⟩ => ⟨S16384x8, .i1⟩
  | .hbm, ⟨32, _⟩ => ⟨S16384x8x8, .i1⟩
  | .hbm, ⟨33, _⟩ => ⟨S16384x64, .i1⟩
  | .hbm, ⟨34, _⟩ => ⟨S_, .f32⟩
  | .hbm, ⟨35, _⟩ => ⟨S_, .f32⟩
  | .hbm, ⟨36, _⟩ => ⟨S16384x64, .f32⟩
  | .hbm, ⟨37, _⟩ => ⟨S16384x64, .f32⟩
  | .hbm, ⟨38, _⟩ => ⟨S16384x8, .f32⟩
  | .hbm, ⟨39, _⟩ => ⟨S16384x8, .i32⟩
  | .hbm, ⟨40, _⟩ => ⟨S_, .i32⟩
  | .hbm, ⟨41, _⟩ => ⟨S16384x8, .i32⟩
  | .hbm, ⟨42, _⟩ => ⟨S16384x8, .i1⟩
  | .hbm, ⟨43, _⟩ => ⟨S_, .i32⟩
  | .hbm, ⟨44, _⟩ => ⟨S16384x8, .i32⟩
  | .hbm, ⟨45, _⟩ => ⟨S16384x8, .i32⟩
  | .hbm, ⟨46, _⟩ => ⟨S16384x8, .i32⟩
  | .hbm, ⟨47, _⟩ => ⟨S16384x8x1, .i32⟩
  | .hbm, ⟨48, _⟩ => ⟨S1, .i32⟩
  | .hbm, ⟨49, _⟩ => ⟨S_, .i32⟩
  | .hbm, ⟨50, _⟩ => ⟨S16384x8x1, .i32⟩
  | .hbm, ⟨51, _⟩ => ⟨S16384x8x1, .i1⟩
  | .hbm, ⟨52, _⟩ => ⟨S1x1x1, .i32⟩
  | .hbm, ⟨53, _⟩ => ⟨S16384x8x1, .i32⟩
  | .hbm, ⟨54, _⟩ => ⟨S16384x8x1, .i1⟩
  | .hbm, ⟨55, _⟩ => ⟨S16384x8x1, .i1⟩
  | .hbm, ⟨56, _⟩ => ⟨S_, .i1⟩
  | .hbm, ⟨57, _⟩ => ⟨S16384x8, .i1⟩
  | .hbm, ⟨58, _⟩ => ⟨S16384x8, .f32⟩
  | .hbm, ⟨59, _⟩ => ⟨S_, .f32⟩
  | .hbm, ⟨60, _⟩ => ⟨S16384x8, .f32⟩
  | .hbm, ⟨61, _⟩ => ⟨S16384x8, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x8, .f32⟩
  | .hbm, ⟨66, _⟩ => ⟨S16384x8, .f32⟩
  | .hbm, ⟨67, _⟩ => ⟨S_, .f32⟩
  | .hbm, ⟨68, _⟩ => ⟨S16384x8, .f32⟩
  | .hbm, ⟨69, _⟩ => ⟨S16384x8, .f32⟩
  | .hbm, ⟨70, _⟩ => ⟨S16384x8x1, .i32⟩
  | .hbm, ⟨71, _⟩ => ⟨S1x1x64, .i32⟩
  | .hbm, ⟨72, _⟩ => ⟨S16384x8x64, .i32⟩
  | .hbm, ⟨73, _⟩ => ⟨S16384x8x64, .i32⟩
  | .hbm, ⟨74, _⟩ => ⟨S16384x8x64, .i1⟩
  | .hbm, ⟨75, _⟩ => ⟨S16384x8x64, .f32⟩
  | .hbm, ⟨76, _⟩ => ⟨S16384x8x1, .f32⟩
  | .hbm, ⟨77, _⟩ => ⟨S16384x8x64, .f32⟩
  | .hbm, ⟨78, _⟩ => ⟨S16384x8x64, .f32⟩
  | .hbm, ⟨79, _⟩ => ⟨S_, .f32⟩
  | .hbm, ⟨80, _⟩ => ⟨S16384x64, .f32⟩
  | .hbm, ⟨81, _⟩ => ⟨S_, .f32⟩
  | .hbm, ⟨82, _⟩ => ⟨S16384x65, .f32⟩
  | .hbm, ⟨83, _⟩ => ⟨S_, .f32⟩
  | .hbm, ⟨84, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_values : Ref sig .tc := ⟨.hbm, 15, rfl⟩
abbrev main_indices : Ref sig .tc := ⟨.hbm, 16, rfl⟩
abbrev main_cst_1 : Ref sig .tc := ⟨.hbm, 17, rfl⟩
abbrev main_v11 : Ref sig .tc := ⟨.hbm, 18, rfl⟩
abbrev main_values_2 : Ref sig .tc := ⟨.hbm, 19, rfl⟩
abbrev main_indices_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_values_7 : Ref sig .tc := ⟨.hbm, 38, rfl⟩
abbrev main_indices_8 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v19 : Ref sig .tc := ⟨.hbm, 61, rfl⟩
abbrev main_cst_9 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_10 : Ref sig .tc := ⟨.hbm, 67, rfl⟩
abbrev main_v24 : Ref sig .tc := ⟨.hbm, 68, rfl⟩
abbrev main_v25 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_11 : Ref sig .tc := ⟨.hbm, 79, rfl⟩
abbrev main_v30 : Ref sig .tc := ⟨.hbm, 80, rfl⟩
abbrev main_cst_12 : Ref sig .tc := ⟨.hbm, 81, rfl⟩
abbrev main_v31 : Ref sig .tc := ⟨.hbm, 82, rfl⟩
abbrev main_cst_13 : Ref sig .tc := ⟨.hbm, 83, rfl⟩
abbrev main_v32 : Ref sig .tc := ⟨.hbm, 84, rfl⟩

abbrev nD : Nat := 1
abbrev τ : Topo := Topo.v7x

variable {F : FTy → Type} [FloatOps F]
-- ==== Proof.MoeBody.lean ====
/- What one call of the mixture-of-experts body does: its operands bundled, the accumulator after it, and the block it closes with. -/
module

public import proofs.«01_k».proof.Proof.Gen.MoeIdeal.Frame.Runs
public import Idealize.ShloMosaic.Lib.Pipeline.ValueKit
public import Idealize.ShloMosaic.Lib.WritesUnit

@[expose] public section

set_option maxRecDepth 16384

noncomputable section

namespace Cert.MoeIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeIdeal Cert.MoeIdeal.Gen

variable {F : FTy → Type} [FloatOps F]

local notation "𝕄" => MT nD τ sig Unit (Elt F) ℕ (UR sig nD τ) ℕ

/-- The call's operands: the twenty-four blocks read, the block written, the accumulator. -/
structure Bufs where
  a0 : Memref sig .tc .vmem S1024x1024 .bf16
  w0 : a0.IsWhole
  a1 : Memref sig .tc .vmem S1024x128 .f32
  w1 : a1.IsWhole
  a2 : Memref sig .tc .vmem S1024x1024 .f32
  w2 : a2.IsWhole
  a3 : Memref sig .tc .vmem S1x1x1024 .f32
  w3 : a3.IsWhole
  a4 : Memref sig .tc .vmem S1x1024x256 .bf16
  w4 : a4.IsWhole
  a5 : Memref sig .tc .vmem S1x1024x256 .bf16
  w5 : a5.IsWhole
  a6 : Memref sig .tc .vmem S1x1024x256 .bf16
  w6 : a6.IsWhole
  a7 : Memref sig .tc .vmem S1x1024x256 .bf16
  w7 : a7.IsWhole
  a8 : Memref sig .tc .vmem S1x1024x256 .bf16
  w8 : a8.IsWhole
  a9 : Memref sig .tc .vmem S1x1024x256 .bf16
  w9 : a9.IsWhole
  a10 : Memref sig .tc .vmem S1x1024x256 .bf16
  w10 : a10.IsWhole
  a11 : Memref sig .tc .vmem S1x1024x256 .bf16
  w11 : a11.IsWhole
  a12 : Memref sig .tc .vmem S1x1024x256 .bf16
  w12 : a12.IsWhole
  a13 : Memref sig .tc .vmem S1x1024x256 .bf16
  w13 : a13.IsWhole
  a14 : Memref sig .tc .vmem S1x256x1024 .bf16
  w14 : a14.IsWhole
  a15 : Memref sig .tc .vmem S1x256x1024 .bf16
  w15 : a15.IsWhole
  a16 : Memref sig .tc .vmem S1x256x1024 .bf16
  w16 : a16.IsWhole
  a17 : Memref sig .tc .vmem S1x256x1024 .bf16
  w17 : a17.IsWhole
  a18 : Memref sig .tc .vmem S1x256x1024 .bf16
  w18 : a18.IsWhole
  a19 : Memref sig .tc .vmem S1024x256 .bf16
  w19 : a19.IsWhole
  a20 : Memref sig .tc .vmem S1024x256 .bf16
  w20 : a20.IsWhole
  a21 : Memref sig .tc .vmem S256x1024 .bf16
  w21 : a21.IsWhole
  a22 : Memref sig .tc .vmem S1x1024 .f32
  w22 : a22.IsWhole
  a23 : Memref sig .tc .vmem S1x1024 .f32
  w23 : a23.IsWhole
  out : Memref sig .tc .vmem S1024x1024 .f32
  wout : out.IsWhole
  acc : Memref sig .tc .vmem S1024x1024 .f32
  wacc : acc.IsWhole

/-- The contents of the blocks read. -/
structure Blocks (F : FTy → Type) where
  x0 : Vec F S1024x1024 .bf16
  x1 : Vec F S1024x128 .f32
  x2 : Vec F S1024x1024 .f32
  x3 : Vec F S1x1x1024 .f32
  x4 : Vec F S1x1024x256 .bf16
  x5 : Vec F S1x1024x256 .bf16
  x6 : Vec F S1x1024x256 .bf16
  x7 : Vec F S1x1024x256 .bf16
  x8 : Vec F S1x1024x256 .bf16
  x9 : Vec F S1x1024x256 .bf16
  x10 : Vec F S1x1024x256 .bf16
  x11 : Vec F S1x1024x256 .bf16
  x12 : Vec F S1x1024x256 .bf16
  x13 : Vec F S1x1024x256 .bf16
  x14 : Vec F S1x256x1024 .bf16
  x15 : Vec F S1x256x1024 .bf16
  x16 : Vec F S1x256x1024 .bf16
  x17 : Vec F S1x256x1024 .bf16
  x18 : Vec F S1x256x1024 .bf16
  x19 : Vec F S1024x256 .bf16
  x20 : Vec F S1024x256 .bf16
  x21 : Vec F S256x1024 .bf16
  x22 : Vec F S1x1024 .f32
  x23 : Vec F S1x1024 .f32

/-- Core `c` holds every block read, whole, at its contents. -/
def held (c : Dev nD) (M : Bufs) (X : Blocks F) : sProp 𝕄 :=
  iprop(owns (c : Thread nD τ) M.a0 fullShare X.x0
    ∗ owns (c : Thread nD τ) M.a1 fullShare X.x1
    ∗ owns (c : Thread nD τ) M.a2 fullShare X.x2
    ∗ owns (c : Thread nD τ) M.a3 fullShare X.x3
    ∗ owns (c : Thread nD τ) M.a4 fullShare X.x4
    ∗ owns (c : Thread nD τ) M.a5 fullShare X.x5
    ∗ owns (c : Thread nD τ) M.a6 fullShare X.x6
    ∗ owns (c : Thread nD τ) M.a7 fullShare X.x7
    ∗ owns (c : Thread nD τ) M.a8 fullShare X.x8
    ∗ owns (c : Thread nD τ) M.a9 fullShare X.x9
    ∗ owns (c : Thread nD τ) M.a10 fullShare X.x10
    ∗ owns (c : Thread nD τ) M.a11 fullShare X.x11
    ∗ owns (c : Thread nD τ) M.a12 fullShare X.x12
    ∗ owns (c : Thread nD τ) M.a13 fullShare X.x13
    ∗ owns (c : Thread nD τ) M.a14 fullShare X.x14
    ∗ owns (c : Thread nD τ) M.a15 fullShare X.x15
    ∗ owns (c : Thread nD τ) M.a16 fullShare X.x16
    ∗ owns (c : Thread nD τ) M.a17 fullShare X.x17
    ∗ owns (c : Thread nD τ) M.a18 fullShare X.x18
    ∗ owns (c : Thread nD τ) M.a19 fullShare X.x19
    ∗ owns (c : Thread nD τ) M.a20 fullShare X.x20
    ∗ owns (c : Thread nD τ) M.a21 fullShare X.x21
    ∗ owns (c : Thread nD τ) M.a22 fullShare X.x22
    ∗ owns (c : Thread nD τ) M.a23 fullShare X.x23)

/-- The body at grid point `i` on those operands. -/
def call (i : grid0.Coords) (M : Bufs) : Prog (TpuEff nD τ sig (Elt F) Λ₀ .tc) PUnit :=
  cc0_moe i M.a0 M.w0 M.a1 M.w1 M.a2 M.w2 M.a3 M.w3 M.a4 M.w4 M.a5 M.w5 M.a6 M.w6 M.a7 M.w7 M.a8 M.w8 M.a9 M.w9 M.a10 M.w10 M.a11 M.w11 M.a12 M.w12 M.a13 M.w13 M.a14 M.w14 M.a15 M.w15 M.a16 M.w16 M.a17 M.w17 M.a18 M.w18 M.a19 M.w19 M.a20 M.w20 M.a21 M.w21 M.a22 M.w22 M.a23 M.w23 M.out M.wout M.acc M.wacc

/-- The accumulator after the five experts of step `i`, from what it held before. -/
def step (i : grid0.Coords) (X : Blocks F) (s : Vec F S1024x1024 .f32) : Vec F S1024x1024 .f32 :=
  let j : BitVec 32 := BitVec.ofNat 32 (i 1).val
  let last : BitVec 1 := Scalar.cmpi .eq j 12#32
  let lane := iota .tc S1024x128 32 [1] iota_S1024x128_d1_w32
  let g := k0_pay5 X.x1
  k0_pay2 last (k0_pay6 X.x14) (k0_pay7 i X.x0 X.x1 X.x4 X.x9) (k0_pay9 X.x15)
    (k0_pay10 j X.x0 g lane (k0_pay8 X.x5) X.x10) (k0_pay13 X.x16)
    (k0_pay15 X.x0 (k0_pay11 X.x6) (k0_pay12 X.x11) (k0_pay14 j g lane) (constant S1024x256 .f32 0x00000000#32)) (k0_pay16 X.x17)
    (k0_pay17 j X.x0 g lane X.x7 X.x12) X.x18 X.x21
    (k0_pay1 j last X.x0 g lane (k0_pay18 X.x8) (k0_pay19 X.x13) X.x19 X.x20) s

/-- The block the last step writes: residual, gate and LayerNorm over the finished accumulator. -/
def close (X : Blocks F) (s : Vec F S1024x1024 .f32) : Vec F S1024x1024 .f32 := k0_pay3 X.x2 X.x3 s X.x22 X.x23

/-- A store over the whole of a buffer is what the buffer reads next. -/
theorem read_whole_store {sg : RefSig} {κ : Kind} {sp : Space} {S : Shape} {e : EltTy} {Val : EltTy → Type}
    (v : View sg κ sp S e) (f : v.ty.Contents Val) {off : Fin S.rank → ℕ} (inb : ∀ a, off a + S.size a ≤ S.size a)
    (w : S.Idx → Val e) (L : List (View.Piece Val S e)) (h : ∀ a, off a = 0) :
    v.read Val (v.writes Val f ((⟨Rect.unit off (no_index S.size) inb, w⟩ : View.Piece Val S e) :: L)) = w := by
  funext y
  exact View.read_writes_cons_unit_of_mem v f inb w L y y rfl (fun a => by rw [h a, Nat.zero_add])

end Cert.MoeIdeal.Body

end
-- ==== Proof.MoeRunFirst.lean ====
/- The body at a step that clears the accumulator first. -/
module

public import proofs.«01_k».proof.Proof.MoeBody

@[expose] public section

set_option maxRecDepth 16384

noncomputable section

namespace Cert.MoeIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeIdeal Cert.MoeIdeal.Gen

variable {F : FTy → Type} [FloatOps F]

local notation "𝕄" => MT nD τ sig Unit (Elt F) ℕ (UR sig nD τ) ℕ

-- the term of a whole run of the body is larger than the usual allowance
set_option maxHeartbeats 2000000 in
/-- The first step of a row block: the accumulator is cleared, the step is added, the block written is left alone. -/
theorem run_first (c : Dev nD) (i : grid0.Coords) (M : Bufs) (X : Blocks F) (d : Vec F S1024x1024 .f32) (hc0 : cond0_0 i) (hc1 : ¬cond0_1 i)
    (E : Set ℕ) (K : PUnit → sProp 𝕄) :
    iprop(held c M X ∗ owns (c : Thread nD τ) M.out fullShare d ∗ (∃ s, owns (c : Thread nD τ) M.acc fullShare s)
        ∗ (iprop(held c M X ∗ owns (c : Thread nD τ) M.out fullShare d ∗ owns (c : Thread nD τ) M.acc fullShare (step i X k0_pay4)) -∗ K ⟨⟩))
      ⊢ wp frame (wpE (defs₀ (F := F)) Variants.none c none) E (call i M) K := by
  obtain ⟨a0, w0, a1, w1, a2, w2, a3, w3, a4, w4, a5, w5, a6, w6, a7, w7, a8, w8, a9, w9, a10, w10, a11, w11, a12, w12, a13, w13, a14, w14, a15, w15, a16, w16, a17, w17, a18, w18, a19, w19, a20, w20, a21, w21, a22, w22, a23, w23, out, wout, acc, wacc⟩ := M
  obtain ⟨x0, x1, x2, x3, x4, x5, x6, x7, x8, x9, x10, x11, x12, x13, x14, x15, x16, x17, x18, x19, x20, x21, x22, x23⟩ := X
  unfold held call step
  dsimp only
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩⟩, ⟨%fo, %eo, HO⟩, ⟨%s, %fa, -, HA⟩, Hk⟩
  obtain rfl := w0.eq_unread e0
  obtain rfl := w1.eq_unread e1
  obtain rfl := w2.eq_unread e2
  obtain rfl := w3.eq_unread e3
  obtain rfl := w4.eq_unread e4
  obtain rfl := w5.eq_unread e5
  obtain rfl := w6.eq_unread e6
  obtain rfl := w7.eq_unread e7
  obtain rfl := w8.eq_unread e8
  obtain rfl := w9.eq_unread e9
  obtain rfl := w10.eq_unread e10
  obtain rfl := w11.eq_unread e11
  obtain rfl := w12.eq_unread e12
  obtain rfl := w13.eq_unread e13
  obtain rfl := w14.eq_unread e14
  obtain rfl := w15.eq_unread e15
  obtain rfl := w16.eq_unread e16
  obtain rfl := w17.eq_unread e17
  obtain rfl := w18.eq_unread e18
  obtain rfl := w19.eq_unread e19
  obtain rfl := w20.eq_unread e20
  obtain rfl := w21.eq_unread e21
  obtain rfl := w22.eq_unread e22
  obtain rfl := w23.eq_unread e23
  simp only [cc0_moe_eq_skeleton]; unfold cc0_moe_skel
  simp only [k0_part1_eq_skeleton, k0_part2_eq_skeleton, k0_part3_eq_skeleton]
  sl_exec (disch := first | sl_exact hc0 | sl_exact hc1)
  sl_step
  iapply Hk
  isplitl [H0 H1 H2 H3 H4 H5 H6 H7 H8 H9 H10 H11 H12 H13 H14 H15 H16 H17 H18 H19 H20 H21 H22 H23]
  · isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    isplitl [H10]
    · iexists _; isplitr; · ipureintro; exact w10.read_unread _
      iexact H10
    isplitl [H11]
    · iexists _; isplitr; · ipureintro; exact w11.read_unread _
      iexact H11
    isplitl [H12]
    · iexists _; isplitr; · ipureintro; exact w12.read_unread _
      iexact H12
    isplitl [H13]
    · iexists _; isplitr; · ipureintro; exact w13.read_unread _
      iexact H13
    isplitl [H14]
    · iexists _; isplitr; · ipureintro; exact w14.read_unread _
      iexact H14
    isplitl [H15]
    · iexists _; isplitr; · ipureintro; exact w15.read_unread _
      iexact H15
    isplitl [H16]
    · iexists _; isplitr; · ipureintro; exact w16.read_unread _
      iexact H16
    isplitl [H17]
    · iexists _; isplitr; · ipureintro; exact w17.read_unread _
      iexact H17
    isplitl [H18]
    · iexists _; isplitr; · ipureintro; exact w18.read_unread _
      iexact H18
    isplitl [H19]
    · iexists _; isplitr; · ipureintro; exact w19.read_unread _
      iexact H19
    isplitl [H20]
    · iexists _; isplitr; · ipureintro; exact w20.read_unread _
      iexact H20
    isplitl [H21]
    · iexists _; isplitr; · ipureintro; exact w21.read_unread _
      iexact H21
    isplitl [H22]
    · iexists _; isplitr; · ipureintro; exact w22.read_unread _
      iexact H22
    iexists _; isplitr; · ipureintro; exact w23.read_unread _
    iexact H23
  isplitl [HO]
  · iexists _; isplitr
    swap; · iexact HO
    ipureintro; exact eo
  · iexists _; isplitr
    swap; · iexact HA
    ipureintro
    sl_unfold_words
    simp (disch := decide) only [read_whole_store, View.ld_unit_lit', View.readCov_unit_lit', View.readCov_cons_unit_lit',
      View.readAt_eq_ld, Memref.IsWhole.read_unread]

end Cert.MoeIdeal.Body

end
-- ==== Proof.MoeRunMiddle.lean ====
/- The body at a step that only adds its experts. -/
module

public import proofs.«01_k».proof.Proof.MoeBody

@[expose] public section

set_option maxRecDepth 16384

noncomputable section

namespace Cert.MoeIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeIdeal Cert.MoeIdeal.Gen

variable {F : FTy → Type} [FloatOps F]

local notation "𝕄" => MT nD τ sig Unit (Elt F) ℕ (UR sig nD τ) ℕ

-- the term of a whole run of the body is larger than the usual allowance
set_option maxHeartbeats 2000000 in
/-- A step that neither opens nor closes a row block. -/
theorem run_middle (c : Dev nD) (i : grid0.Coords) (M : Bufs) (X : Blocks F) (d s : Vec F S1024x1024 .f32) (hc0 : ¬cond0_0 i) (hc1 : ¬cond0_1 i)
    (E : Set ℕ) (K : PUnit → sProp 𝕄) :
    iprop(held c M X ∗ owns (c : Thread nD τ) M.out fullShare d ∗ owns (c : Thread nD τ) M.acc fullShare s
        ∗ (iprop(held c M X ∗ owns (c : Thread nD τ) M.out fullShare d ∗ owns (c : Thread nD τ) M.acc fullShare (step i X s)) -∗ K ⟨⟩))
      ⊢ wp frame (wpE (defs₀ (F := F)) Variants.none c none) E (call i M) K := by
  obtain ⟨a0, w0, a1, w1, a2, w2, a3, w3, a4, w4, a5, w5, a6, w6, a7, w7, a8, w8, a9, w9, a10, w10, a11, w11, a12, w12, a13, w13, a14, w14, a15, w15, a16, w16, a17, w17, a18, w18, a19, w19, a20, w20, a21, w21, a22, w22, a23, w23, out, wout, acc, wacc⟩ := M
  obtain ⟨x0, x1, x2, x3, x4, x5, x6, x7, x8, x9, x10, x11, x12, x13, x14, x15, x16, x17, x18, x19, x20, x21, x22, x23⟩ := X
  unfold held call step
  dsimp only
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩⟩, ⟨%fo, %eo, HO⟩, ⟨%fa, %ea, HA⟩, Hk⟩
  obtain rfl := w0.eq_unread e0
  obtain rfl := w1.eq_unread e1
  obtain rfl := w2.eq_unread e2
  obtain rfl := w3.eq_unread e3
  obtain rfl := w4.eq_unread e4
  obtain rfl := w5.eq_unread e5
  obtain rfl := w6.eq_unread e6
  obtain rfl := w7.eq_unread e7
  obtain rfl := w8.eq_unread e8
  obtain rfl := w9.eq_unread e9
  obtain rfl := w10.eq_unread e10
  obtain rfl := w11.eq_unread e11
  obtain rfl := w12.eq_unread e12
  obtain rfl := w13.eq_unread e13
  obtain rfl := w14.eq_unread e14
  obtain rfl := w15.eq_unread e15
  obtain rfl := w16.eq_unread e16
  obtain rfl := w17.eq_unread e17
  obtain rfl := w18.eq_unread e18
  obtain rfl := w19.eq_unread e19
  obtain rfl := w20.eq_unread e20
  obtain rfl := w21.eq_unread e21
  obtain rfl := w22.eq_unread e22
  obtain rfl := w23.eq_unread e23
  obtain rfl := wacc.eq_unread ea
  simp only [cc0_moe_eq_skeleton]; unfold cc0_moe_skel
  simp only [k0_part1_eq_skeleton, k0_part2_eq_skeleton, k0_part3_eq_skeleton]
  sl_exec (disch := first | sl_exact hc0 | sl_exact hc1)
  sl_step
  iapply Hk
  isplitl [H0 H1 H2 H3 H4 H5 H6 H7 H8 H9 H10 H11 H12 H13 H14 H15 H16 H17 H18 H19 H20 H21 H22 H23]
  · isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    isplitl [H10]
    · iexists _; isplitr; · ipureintro; exact w10.read_unread _
      iexact H10
    isplitl [H11]
    · iexists _; isplitr; · ipureintro; exact w11.read_unread _
      iexact H11
    isplitl [H12]
    · iexists _; isplitr; · ipureintro; exact w12.read_unread _
      iexact H12
    isplitl [H13]
    · iexists _; isplitr; · ipureintro; exact w13.read_unread _
      iexact H13
    isplitl [H14]
    · iexists _; isplitr; · ipureintro; exact w14.read_unread _
      iexact H14
    isplitl [H15]
    · iexists _; isplitr; · ipureintro; exact w15.read_unread _
      iexact H15
    isplitl [H16]
    · iexists _; isplitr; · ipureintro; exact w16.read_unread _
      iexact H16
    isplitl [H17]
    · iexists _; isplitr; · ipureintro; exact w17.read_unread _
      iexact H17
    isplitl [H18]
    · iexists _; isplitr; · ipureintro; exact w18.read_unread _
      iexact H18
    isplitl [H19]
    · iexists _; isplitr; · ipureintro; exact w19.read_unread _
      iexact H19
    isplitl [H20]
    · iexists _; isplitr; · ipureintro; exact w20.read_unread _
      iexact H20
    isplitl [H21]
    · iexists _; isplitr; · ipureintro; exact w21.read_unread _
      iexact H21
    isplitl [H22]
    · iexists _; isplitr; · ipureintro; exact w22.read_unread _
      iexact H22
    iexists _; isplitr; · ipureintro; exact w23.read_unread _
    iexact H23
  isplitl [HO]
  · iexists _; isplitr
    swap; · iexact HO
    ipureintro; exact eo
  · iexists _; isplitr
    swap; · iexact HA
    ipureintro
    sl_unfold_words
    simp (disch := decide) only [read_whole_store, View.ld_unit_lit', View.readCov_unit_lit', View.readCov_cons_unit_lit',
      View.readAt_eq_ld, Memref.IsWhole.read_unread]

end Cert.MoeIdeal.Body

end
-- ==== Proof.MoeRunLast.lean ====
/- The body at the step that closes a row block. -/
module

public import proofs.«01_k».proof.Proof.MoeBody

@[expose] public section

set_option maxRecDepth 16384

noncomputable section

namespace Cert.MoeIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeIdeal Cert.MoeIdeal.Gen

variable {F : FTy → Type} [FloatOps F]

local notation "𝕄" => MT nD τ sig Unit (Elt F) ℕ (UR sig nD τ) ℕ

-- the term of a whole run of the body is larger than the usual allowance
set_option maxHeartbeats 2000000 in
/-- The last step of a row block: the step is added and the finished rows are written. -/
theorem run_last (c : Dev nD) (i : grid0.Coords) (M : Bufs) (X : Blocks F) (s : Vec F S1024x1024 .f32) (hc0 : ¬cond0_0 i) (hc1 : cond0_1 i)
    (E : Set ℕ) (K : PUnit → sProp 𝕄) :
    iprop(held c M X ∗ (∃ d, owns (c : Thread nD τ) M.out fullShare d) ∗ owns (c : Thread nD τ) M.acc fullShare s
        ∗ (iprop(held c M X ∗ owns (c : Thread nD τ) M.out fullShare (close X (step i X s)) ∗ owns (c : Thread nD τ) M.acc fullShare (step i X s)) -∗ K ⟨⟩))
      ⊢ wp frame (wpE (defs₀ (F := F)) Variants.none c none) E (call i M) K := by
  obtain ⟨a0, w0, a1, w1, a2, w2, a3, w3, a4, w4, a5, w5, a6, w6, a7, w7, a8, w8, a9, w9, a10, w10, a11, w11, a12, w12, a13, w13, a14, w14, a15, w15, a16, w16, a17, w17, a18, w18, a19, w19, a20, w20, a21, w21, a22, w22, a23, w23, out, wout, acc, wacc⟩ := M
  obtain ⟨x0, x1, x2, x3, x4, x5, x6, x7, x8, x9, x10, x11, x12, x13, x14, x15, x16, x17, x18, x19, x20, x21, x22, x23⟩ := X
  unfold held call step close
  dsimp only
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩⟩, ⟨%d, %fo, -, HO⟩, ⟨%fa, %ea, HA⟩, Hk⟩
  obtain rfl := w0.eq_unread e0
  obtain rfl := w1.eq_unread e1
  obtain rfl := w2.eq_unread e2
  obtain rfl := w3.eq_unread e3
  obtain rfl := w4.eq_unread e4
  obtain rfl := w5.eq_unread e5
  obtain rfl := w6.eq_unread e6
  obtain rfl := w7.eq_unread e7
  obtain rfl := w8.eq_unread e8
  obtain rfl := w9.eq_unread e9
  obtain rfl := w10.eq_unread e10
  obtain rfl := w11.eq_unread e11
  obtain rfl := w12.eq_unread e12
  obtain rfl := w13.eq_unread e13
  obtain rfl := w14.eq_unread e14
  obtain rfl := w15.eq_unread e15
  obtain rfl := w16.eq_unread e16
  obtain rfl := w17.eq_unread e17
  obtain rfl := w18.eq_unread e18
  obtain rfl := w19.eq_unread e19
  obtain rfl := w20.eq_unread e20
  obtain rfl := w21.eq_unread e21
  obtain rfl := w22.eq_unread e22
  obtain rfl := w23.eq_unread e23
  obtain rfl := wacc.eq_unread ea
  simp only [cc0_moe_eq_skeleton]; unfold cc0_moe_skel
  simp only [k0_part1_eq_skeleton, k0_part2_eq_skeleton, k0_part3_eq_skeleton]
  sl_exec (disch := first | sl_exact hc0 | sl_exact hc1)
  sl_step
  iapply Hk
  isplitl [H0 H1 H2 H3 H4 H5 H6 H7 H8 H9 H10 H11 H12 H13 H14 H15 H16 H17 H18 H19 H20 H21 H22 H23]
  · isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    isplitl [H10]
    · iexists _; isplitr; · ipureintro; exact w10.read_unread _
      iexact H10
    isplitl [H11]
    · iexists _; isplitr; · ipureintro; exact w11.read_unread _
      iexact H11
    isplitl [H12]
    · iexists _; isplitr; · ipureintro; exact w12.read_unread _
      iexact H12
    isplitl [H13]
    · iexists _; isplitr; · ipureintro; exact w13.read_unread _
      iexact H13
    isplitl [H14]
    · iexists _; isplitr; · ipureintro; exact w14.read_unread _
      iexact H14
    isplitl [H15]
    · iexists _; isplitr; · ipureintro; exact w15.read_unread _
      iexact H15
    isplitl [H16]
    · iexists _; isplitr; · ipureintro; exact w16.read_unread _
      iexact H16
    isplitl [H17]
    · iexists _; isplitr; · ipureintro; exact w17.read_unread _
      iexact H17
    isplitl [H18]
    · iexists _; isplitr; · ipureintro; exact w18.read_unread _
      iexact H18
    isplitl [H19]
    · iexists _; isplitr; · ipureintro; exact w19.read_unread _
      iexact H19
    isplitl [H20]
    · iexists _; isplitr; · ipureintro; exact w20.read_unread _
      iexact H20
    isplitl [H21]
    · iexists _; isplitr; · ipureintro; exact w21.read_unread _
      iexact H21
    isplitl [H22]
    · iexists _; isplitr; · ipureintro; exact w22.read_unread _
      iexact H22
    iexists _; isplitr; · ipureintro; exact w23.read_unread _
    iexact H23
  isplitl [HO]
  · iexists _; isplitr
    swap; · iexact HO
    ipureintro
    sl_unfold_words
    simp (disch := decide) only [read_whole_store, View.ld_unit_lit', View.readCov_unit_lit', View.readCov_cons_unit_lit',
      View.readAt_eq_ld, Memref.IsWhole.read_unread]
  · iexists _; isplitr
    swap; · iexact HA
    ipureintro
    sl_unfold_words
    simp (disch := decide) only [read_whole_store, View.ld_unit_lit', View.readCov_unit_lit', View.readCov_cons_unit_lit',
      View.readAt_eq_ld, Memref.IsWhole.read_unread]

end Cert.MoeIdeal.Body

end
-- ==== Proof.MoeFrame.lean ====
/- The call as a pipeline: what each grid point leaves, the body's obligation, and the run of the whole program. -/
module

public import proofs.«01_k».proof.Proof.MoeRunFirst
public import proofs.«01_k».proof.Proof.MoeRunMiddle
public import proofs.«01_k».proof.Proof.MoeRunLast
public import Idealize.ShloMosaic.Lib.Claim

@[expose] public section

set_option maxRecDepth 16384

noncomputable section

namespace Cert.MoeIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operands the call gets at point `t`. -/
def bufs (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, ms0_22 t, hs0_22 t, ms0_23 t, hs0_23 t, ms0_24 t, hs0_24 t, scM0_0, Memref.isWhole_whole _⟩

/-- The blocks the call reads at point `t`. -/
def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t⟩

/-- The accumulator after point `n`: cleared at the first of each thirteen points. -/
def acc (c : Dev nD) : (n : ℕ) → n < cfg0.N → Vec F S1024x1024 .f32
  | 0, h => step (grid0.coords ⟨0, h⟩) (blocks m c ⟨0, h⟩) k0_pay4
  | n + 1, h => step (grid0.coords ⟨n + 1, h⟩) (blocks m c ⟨n + 1, h⟩)
      (if (n + 1) % 13 = 0 then k0_pay4 else acc c n (Nat.lt_of_succ_lt h))

theorem acc_first (c : Dev nD) (t : Fin cfg0.N) (h : t.val % 13 = 0) :
    acc m c t.val t.isLt = step (grid0.coords t) (blocks m c t) k0_pay4 := by
  obtain ⟨n, hn⟩ := t
  cases n with
  | zero => rfl
  | succ n => unfold acc; rw [if_pos h]

theorem acc_next (c : Dev nD) (t : Fin cfg0.N) (h : ¬t.val % 13 = 0) :
    acc m c t.val t.isLt = step (grid0.coords t) (blocks m c t) (acc m c (t.val - 1) (lt_of_le_of_lt (Nat.sub_le _ _) t.isLt)) := by
  obtain ⟨n, hn⟩ := t
  cases n with
  | zero => exact absurd (Nat.zero_mod _) h
  | succ n => show acc m c (n + 1) hn = _; unfold acc; rw [if_neg h]; cases n <;> rfl

/-- What holds between points: the accumulator at what the point before left (at anything before the first), and the generator. -/
def between (c : Dev nD) : (n : ℕ) → n ≤ cfg0.N → sProp 𝕄
  | 0, _ => Pipeline.ΦA spec0 c
  | n + 1, h => iprop(owns (c : Thread nD τ) scM0_0 fullShare (acc m c n h) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = iprop(owns (c : Thread nD τ) scM0_0 fullShare (acc m c (n - 1) (by omega)) ∗ (∃ r, prngReg c r)) := by
  cases n with
  | zero => exact absurd rfl hz
  | succ n => rfl

/-- Before any point the accumulator holds something. -/
theorem between_any (c : Dev nD) (n : ℕ) (h : n ≤ cfg0.N) :
    between m c n h ⊢ iprop((∃ d, owns (c : Thread nD τ) scM0_0 fullShare d) ∗ (∃ r, prngReg c r)) := by
  cases n with
  | zero => rw [between_zero m c 0 h rfl, PhiA0_eq]
  | succ n =>
    unfold between
    iintro ⟨HS, Hg⟩
    isplitl [HS]
    · iexists _; iexact HS
    iexact Hg

/-- The pipeline's data: each array as the region finds it, each block read left as it was, the block written closed over the accumulator. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => close (blocks m c t) (acc m c t.val t.isLt)
    | ⟨_ + 25, h⟩ => absurd h (Nat.not_lt.2 (Nat.le_add_left _ _))
  Φ t := between m c t.val (Nat.le_of_lt_succ t.isLt)
  q w := Pipeline.shareOf spec0 w
  owed _ := 0

theorem data_arr (c : Dev nD) (w : Fin cfg0.W) : (data m 0 c).A w = V m c (Pipeline.arrRef spec0 w) := by
  dsimp only [data]

theorem data_between (c : Dev nD) (t : Fin cfg0.N) : (data m 0 c).Φ t.castSucc = between m c t.val (Nat.le_of_lt t.isLt) := by
  dsimp only [data]; exact Pipeline.Dat.Φ_castSucc (between m c) t

theorem left_0 (c : Dev nD) (t : Fin cfg0.N) : (data m 0 c).after 0 t = iblk m c 0 t := by dsimp only [data]
theorem left_1 (c : Dev nD) (t : Fin cfg0.N) : (data m 0 c).after 1 t = iblk m c 1 t := by dsimp only [data]
theorem left_2 (c : Dev nD) (t : Fin cfg0.N) : (data m 0 c).after 2 t = iblk m c 2 t := by dsimp only [data]
theorem left_3 (c : Dev nD) (t : Fin cfg0.N) : (data m 0 c).after 3 t = iblk m c 3 t := by dsimp only [data]
theorem left_4 (c : Dev nD) (t : Fin cfg0.N) : (data m 0 c).after 4 t = iblk m c 4 t := by dsimp only [data]
theorem left_5 (c : Dev nD) (t : Fin cfg0.N) : (data m 0 c).after 5 t = iblk m c 5 t := by dsimp only [data]
theorem left_6 (c : Dev nD) (t : Fin cfg0.N) : (data m 0 c).after 6 t = iblk m c 6 t := by dsimp only [data]
theorem left_7 (c : Dev nD) (t : Fin cfg0.N) : (data m 0 c).after 7 t = iblk m c 7 t := by dsimp only [data]
theorem left_8 (c : Dev nD) (t : Fin cfg0.N) : (data m 0 c).after 8 t = iblk m c 8 t := by dsimp only [data]
theorem left_9 (c : Dev nD) (t : Fin cfg0.N) : (data m 0 c).after 9 t = iblk m c 9 t := by dsimp only [data]
theorem left_10 (c : Dev nD) (t : Fin cfg0.N) : (data m 0 c).after 10 t = iblk m c 10 t := by dsimp only [data]
theorem left_11 (c : Dev nD) (t : Fin cfg0.N) : (data m 0 c).after 11 t = iblk m c 11 t := by dsimp only [data]
theorem left_12 (c : Dev nD) (t : Fin cfg0.N) : (data m 0 c).after 12 t = iblk m c 12 t := by dsimp only [data]
theorem left_13 (c : Dev nD) (t : Fin cfg0.N) : (data m 0 c).after 13 t = iblk m c 13 t := by dsimp only [data]
theorem left_14 (c : Dev nD) (t : Fin cfg0.N) : (data m 0 c).after 14 t = iblk m c 14 t := by dsimp only [data]
theorem left_15 (c : Dev nD) (t : Fin cfg0.N) : (data m 0 c).after 15 t = iblk m c 15 t := by dsimp only [data]
theorem left_16 (c : Dev nD) (t : Fin cfg0.N) : (data m 0 c).after 16 t = iblk m c 16 t := by dsimp only [data]
theorem left_17 (c : Dev nD) (t : Fin cfg0.N) : (data m 0 c).after 17 t = iblk m c 17 t := by dsimp only [data]
theorem left_18 (c : Dev nD) (t : Fin cfg0.N) : (data m 0 c).after 18 t = iblk m c 18 t := by dsimp only [data]
theorem left_19 (c : Dev nD) (t : Fin cfg0.N) : (data m 0 c).after 19 t = iblk m c 19 t := by dsimp only [data]
theorem left_20 (c : Dev nD) (t : Fin cfg0.N) : (data m 0 c).after 20 t = iblk m c 20 t := by dsimp only [data]
theorem left_21 (c : Dev nD) (t : Fin cfg0.N) : (data m 0 c).after 21 t = iblk m c 21 t := by dsimp only [data]
theorem left_22 (c : Dev nD) (t : Fin cfg0.N) : (data m 0 c).after 22 t = iblk m c 22 t := by dsimp only [data]
theorem left_23 (c : Dev nD) (t : Fin cfg0.N) : (data m 0 c).after 23 t = iblk m c 23 t := by dsimp only [data]
theorem left_out (c : Dev nD) (t : Fin cfg0.N) : (data m 0 c).after 24 t = close (blocks m c t) (acc m c t.val t.isLt) := by
  dsimp only [data]

theorem found_0 (c : Dev nD) (t : Fin cfg0.N) (d) : (data m 0 c).before 0 t d = iblk m c 0 t :=
  before0_0_of m (data m 0 c) (data_arr m c 0) (left_0 m c) t d
theorem found_1 (c : Dev nD) (t : Fin cfg0.N) (d) : (data m 0 c).before 1 t d = iblk m c 1 t :=
  before0_1_of m (data m 0 c) (data_arr m c 1) (left_1 m c) t d
theorem found_2 (c : Dev nD) (t : Fin cfg0.N) (d) : (data m 0 c).before 2 t d = iblk m c 2 t :=
  before0_2_of m (data m 0 c) (data_arr m c 2) (left_2 m c) t d
theorem found_3 (c : Dev nD) (t : Fin cfg0.N) (d) : (data m 0 c).before 3 t d = iblk m c 3 t :=
  before0_3_of m (data m 0 c) (data_arr m c 3) (left_3 m c) t d
theorem found_4 (c : Dev nD) (t : Fin cfg0.N) (d) : (data m 0 c).before 4 t d = iblk m c 4 t :=
  before0_4_of m (data m 0 c) (data_arr m c 4) (left_4 m c) t d
theorem found_5 (c : Dev nD) (t : Fin cfg0.N) (d) : (data m 0 c).before 5 t d = iblk m c 5 t :=
  before0_5_of m (data m 0 c) (data_arr m c 5) (left_5 m c) t d
theorem found_6 (c : Dev nD) (t : Fin cfg0.N) (d) : (data m 0 c).before 6 t d = iblk m c 6 t :=
  before0_6_of m (data m 0 c) (data_arr m c 6) (left_6 m c) t d
theorem found_7 (c : Dev nD) (t : Fin cfg0.N) (d) : (data m 0 c).before 7 t d = iblk m c 7 t :=
  before0_7_of m (data m 0 c) (data_arr m c 7) (left_7 m c) t d
theorem found_8 (c : Dev nD) (t : Fin cfg0.N) (d) : (data m 0 c).before 8 t d = iblk m c 8 t :=
  before0_8_of m (data m 0 c) (data_arr m c 8) (left_8 m c) t d
theorem found_9 (c : Dev nD) (t : Fin cfg0.N) (d) : (data m 0 c).before 9 t d = iblk m c 9 t :=
  before0_9_of m (data m 0 c) (data_arr m c 9) (left_9 m c) t d
theorem found_10 (c : Dev nD) (t : Fin cfg0.N) (d) : (data m 0 c).before 10 t d = iblk m c 10 t :=
  before0_10_of m (data m 0 c) (data_arr m c 10) (left_10 m c) t d
theorem found_11 (c : Dev nD) (t : Fin cfg0.N) (d) : (data m 0 c).before 11 t d = iblk m c 11 t :=
  before0_11_of m (data m 0 c) (data_arr m c 11) (left_11 m c) t d
theorem found_12 (c : Dev nD) (t : Fin cfg0.N) (d) : (data m 0 c).before 12 t d = iblk m c 12 t :=
  before0_12_of m (data m 0 c) (data_arr m c 12) (left_12 m c) t d
theorem found_13 (c : Dev nD) (t : Fin cfg0.N) (d) : (data m 0 c).before 13 t d = iblk m c 13 t :=
  before0_13_of m (data m 0 c) (data_arr m c 13) (left_13 m c) t d
theorem found_14 (c : Dev nD) (t : Fin cfg0.N) (d) : (data m 0 c).before 14 t d = iblk m c 14 t :=
  before0_14_of m (data m 0 c) (data_arr m c 14) (left_14 m c) t d
theorem found_15 (c : Dev nD) (t : Fin cfg0.N) (d) : (data m 0 c).before 15 t d = iblk m c 15 t :=
  before0_15_of m (data m 0 c) (data_arr m c 15) (left_15 m c) t d
theorem found_16 (c : Dev nD) (t : Fin cfg0.N) (d) : (data m 0 c).before 16 t d = iblk m c 16 t :=
  before0_16_of m (data m 0 c) (data_arr m c 16) (left_16 m c) t d
theorem found_17 (c : Dev nD) (t : Fin cfg0.N) (d) : (data m 0 c).before 17 t d = iblk m c 17 t :=
  before0_17_of m (data m 0 c) (data_arr m c 17) (left_17 m c) t d
theorem found_18 (c : Dev nD) (t : Fin cfg0.N) (d) : (data m 0 c).before 18 t d = iblk m c 18 t :=
  before0_18_of m (data m 0 c) (data_arr m c 18) (left_18 m c) t d
theorem found_19 (c : Dev nD) (t : Fin cfg0.N) (d) : (data m 0 c).before 19 t d = iblk m c 19 t :=
  before0_19_of m (data m 0 c) (data_arr m c 19) (left_19 m c) t d
theorem found_20 (c : Dev nD) (t : Fin cfg0.N) (d) : (data m 0 c).before 20 t d = iblk m c 20 t :=
  before0_20_of m (data m 0 c) (data_arr m c 20) (left_20 m c) t d
theorem found_21 (c : Dev nD) (t : Fin cfg0.N) (d) : (data m 0 c).before 21 t d = iblk m c 21 t :=
  before0_21_of m (data m 0 c) (data_arr m c 21) (left_21 m c) t d
theorem found_22 (c : Dev nD) (t : Fin cfg0.N) (d) : (data m 0 c).before 22 t d = iblk m c 22 t :=
  before0_22_of m (data m 0 c) (data_arr m c 22) (left_22 m c) t d
theorem found_23 (c : Dev nD) (t : Fin cfg0.N) (d) : (data m 0 c).before 23 t d = iblk m c 23 t :=
  before0_23_of m (data m 0 c) (data_arr m c 23) (left_23 m c) t d

/-- A window in use at a point leaves its buffer at what the data says. -/
theorem leaves_live (c : Dev nD) (w : Fin cfg0.W) (t : Fin cfg0.N) (h : cfg0.idle w (cfg0.grid.coords t) = false) :
    (data m 0 c).leavesExact w t
      = owns (c : Thread nD τ) ((cfg0.win w).stage (cfg0.slots t w)) fullShare ((data m 0 c).after w t) := by
  unfold Dat.leavesExact; rw [h]

/-- What the body is called with. -/
def asked (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d))
    ∗ (∃ d, owns (c : Thread nD τ) (ms0_16 t) fullShare ((data m 0 c).before 16 t d))
    ∗ (∃ d, owns (c : Thread nD τ) (ms0_17 t) fullShare ((data m 0 c).before 17 t d))
    ∗ (∃ d, owns (c : Thread nD τ) (ms0_18 t) fullShare ((data m 0 c).before 18 t d))
    ∗ (∃ d, owns (c : Thread nD τ) (ms0_19 t) fullShare ((data m 0 c).before 19 t d))
    ∗ (∃ d, owns (c : Thread nD τ) (ms0_20 t) fullShare ((data m 0 c).before 20 t d))
    ∗ (∃ d, owns (c : Thread nD τ) (ms0_21 t) fullShare ((data m 0 c).before 21 t d))
    ∗ (∃ d, owns (c : Thread nD τ) (ms0_22 t) fullShare ((data m 0 c).before 22 t d))
    ∗ (∃ d, owns (c : Thread nD τ) (ms0_23 t) fullShare ((data m 0 c).before 23 t d))
    ∗ (∃ d, owns (c : Thread nD τ) (ms0_24 t) fullShare ((data m 0 c).before 24 t d)))

/-- What it returns. -/
def given (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t
    ∗ (data m 0 c).leavesExact 10 t
    ∗ (data m 0 c).leavesExact 11 t
    ∗ (data m 0 c).leavesExact 12 t
    ∗ (data m 0 c).leavesExact 13 t
    ∗ (data m 0 c).leavesExact 14 t
    ∗ (data m 0 c).leavesExact 15 t
    ∗ (data m 0 c).leavesExact 16 t
    ∗ (data m 0 c).leavesExact 17 t
    ∗ (data m 0 c).leavesExact 18 t
    ∗ (data m 0 c).leavesExact 19 t
    ∗ (data m 0 c).leavesExact 20 t
    ∗ (data m 0 c).leavesExact 21 t
    ∗ (data m 0 c).leavesExact 22 t
    ∗ (data m 0 c).leavesExact 23 t
    ∗ (data m 0 c).leavesExact 24 t)

/-- The blocks handed over, gathered. -/
theorem gather (c : Dev nD) (t : Fin cfg0.N) :
    asked m c t ⊢ iprop(between m c t.val (Nat.le_of_lt t.isLt) ∗ (data m 0 c).owesAt () t.castSucc ∗ held c (bufs t) (blocks m c t)
      ∗ (∃ d, owns (c : Thread nD τ) (ms0_24 t) fullShare ((data m 0 c).before 24 t d))) := by
  unfold asked held bufs blocks
  simp only [data_between, found_0, found_1, found_2, found_3, found_4, found_5, found_6, found_7, found_8, found_9, found_10, found_11, found_12, found_13, found_14, found_15, found_16, found_17, found_18, found_19, found_20, found_21, found_22, found_23]
  iintro ⟨Hb, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, HO⟩
  isplitl [Hb]; · iexact Hb
  isplitl [Ho]; · iexact Ho
  isplitl [H0 H1 H2 H3 H4 H5 H6 H7 H8 H9 H10 H11 H12 H13 H14 H15 H16 H17 H18 H19 H20 H21 H22 H23]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  iexact HO

/-- The blocks handed back, one by one. -/
theorem scatter (c : Dev nD) (t : Fin cfg0.N) :
    iprop((data m 0 c).Φ t.succ ∗ (data m 0 c).owesAt () t.castSucc ∗ held c (bufs t) (blocks m c t) ∗ (data m 0 c).leavesExact 24 t) ⊢ given m c t := by
  unfold given held bufs blocks
  rw [show (data m 0 c).owesAt () t.succ = (data m 0 c).owesAt () t.castSucc from rfl]
  rw [leaves_live m c 0 t (liveAt0_0 t), left_0]
  rw [leaves_live m c 1 t (liveAt0_1 t), left_1]
  rw [leaves_live m c 2 t (liveAt0_2 t), left_2]
  rw [leaves_live m c 3 t (liveAt0_3 t), left_3]
  rw [leaves_live m c 4 t (liveAt0_4 t), left_4]
  rw [leaves_live m c 5 t (liveAt0_5 t), left_5]
  rw [leaves_live m c 6 t (liveAt0_6 t), left_6]
  rw [leaves_live m c 7 t (liveAt0_7 t), left_7]
  rw [leaves_live m c 8 t (liveAt0_8 t), left_8]
  rw [leaves_live m c 9 t (liveAt0_9 t), left_9]
  rw [leaves_live m c 10 t (liveAt0_10 t), left_10]
  rw [leaves_live m c 11 t (liveAt0_11 t), left_11]
  rw [leaves_live m c 12 t (liveAt0_12 t), left_12]
  rw [leaves_live m c 13 t (liveAt0_13 t), left_13]
  rw [leaves_live m c 14 t (liveAt0_14 t), left_14]
  rw [leaves_live m c 15 t (liveAt0_15 t), left_15]
  rw [leaves_live m c 16 t (liveAt0_16 t), left_16]
  rw [leaves_live m c 17 t (liveAt0_17 t), left_17]
  rw [leaves_live m c 18 t (liveAt0_18 t), left_18]
  rw [leaves_live m c 19 t (liveAt0_19 t), left_19]
  rw [leaves_live m c 20 t (liveAt0_20 t), left_20]
  rw [leaves_live m c 21 t (liveAt0_21 t), left_21]
  rw [leaves_live m c 22 t (liveAt0_22 t), left_22]
  rw [leaves_live m c 23 t (liveAt0_23 t), left_23]
  iintro ⟨Hb, Ho, ⟨H0, H1, H2, H3, H4, H5, H6, H7, H8, H9, H10, H11, H12, H13, H14, H15, H16, H17, H18, H19, H20, H21, H22, H23⟩, HO⟩
  isplitl [Hb]; · iexact Hb
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact HO

/-- The body at any point of the grid. -/
theorem sound (c : Dev nD) (t : Fin cfg0.N) :
    asked m c t ⊢ wp frame (wpE (defs₀ (F := F)) Variants.none c none) Set.univ (bodyAt0 t) (fun _ => given m c t) := by
  rw [show bodyAt0 (F := F) t = call (grid0.coords t) (bufs t) from rfl]
  refine (gather m c t).trans ?_
  have next : (data m 0 c).Φ t.succ
      = iprop(owns (c : Thread nD τ) scM0_0 fullShare (acc m c t.val t.isLt) ∗ (∃ r, prngReg c r)) := rfl
  by_cases h0 : t.val % 13 = 0
  · have h1 : ¬t.val % 13 = 12 := by omega
    have hc0 := (hcond0_0 t).mpr h0
    have hc1 := fun h => h1 ((hcond0_1 t).mp h)
    iintro ⟨Hb, Ho, HH, ⟨%d, HO⟩⟩
    ihave Hb := (between_any m c t.val (Nat.le_of_lt t.isLt)) $$ Hb
    icases Hb with ⟨HS, Hg⟩
    iapply (run_first c (grid0.coords t) (bufs t) (blocks m c t) _ hc0 hc1 Set.univ _)
    isplitl [HH]; · iexact HH
    isplitl [HO]; · iexact HO
    isplitl [HS]; · iexact HS
    iintro ⟨HH, HO, HS⟩
    iapply (scatter m c t)
    rw [next, acc_first m c t h0, Dat.leavesExact_idle (data m 0 c) 24 t (idleAt0_24_A t hc0 hc1) (noFlush0_24_A t hc0 hc1)]
    isplitl [HS Hg]
    · isplitl [HS]; · iexact HS
      iexact Hg
    isplitl [Ho]; · iexact Ho
    isplitl [HH]; · iexact HH
    iexists d; iexact HO
  · have hz : t.val ≠ 0 := fun h => h0 (by rw [h])
    have hc0 := fun h => h0 ((hcond0_0 t).mp h)
    rw [between_pos m c _ _ hz]
    by_cases h1 : t.val % 13 = 12
    · have hc1 := (hcond0_1 t).mpr h1
      iintro ⟨⟨HS, Hg⟩, Ho, HH, ⟨%d, HO⟩⟩
      iapply (run_last c (grid0.coords t) (bufs t) (blocks m c t) _ hc0 hc1 Set.univ _)
      isplitl [HH]; · iexact HH
      isplitl [HO]; · iexists _; iexact HO
      isplitl [HS]; · iexact HS
      iintro ⟨HH, HO, HS⟩
      iapply (scatter m c t)
      rw [next, leaves_live m c 24 t (liveAt0_24_C t hc0 hc1), left_out, acc_next m c t h0]
      isplitl [HS Hg]
      · isplitl [HS]; · iexact HS
        iexact Hg
      isplitl [Ho]; · iexact Ho
      isplitl [HH]; · iexact HH
      iexact HO
    · have hc1 := fun h => h1 ((hcond0_1 t).mp h)
      iintro ⟨⟨HS, Hg⟩, Ho, HH, ⟨%d, HO⟩⟩
      iapply (run_middle c (grid0.coords t) (bufs t) (blocks m c t) _ _ hc0 hc1 Set.univ _)
      isplitl [HH]; · iexact HH
      isplitl [HO]; · iexact HO
      isplitl [HS]; · iexact HS
      iintro ⟨HH, HO, HS⟩
      iapply (scatter m c t)
      rw [next, acc_next m c t h0, Dat.leavesExact_idle (data m 0 c) 24 t (idleAt0_24_B t hc0 hc1) (noFlush0_24_B t hc0 hc1)]
      isplitl [HS Hg]
      · isplitl [HS]; · iexact HS
        iexact Hg
      isplitl [Ho]; · iexact Ho
      isplitl [HH]; · iexact HH
      iexists d; iexact HO

/-- The pipeline's obligation on its body. -/
theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound m c t) rfl .rfl fun _ => .rfl

theorem enters (c : Dev nD) : Pipeline.ΦA spec0 c ⊢ (data m 0 c).Φ 0 := by
  rw [show (data m 0 c).Φ 0 = between m c 0 (Nat.zero_le _) from rfl, between_zero m c 0 _ rfl]

theorem exits (c : Dev nD) : (data m 0 c).Φ (Fin.last cfg0.N) ⊢ Pipeline.ΦA spec0 c := by
  rw [PhiA0_eq]
  exact between_any m c _ (Nat.le_of_lt_succ (Fin.last cfg0.N).isLt)

set_option backward.isDefEq.respectTransparency.types false in
/-- The whole program runs; its arrays end as the data computes, every counter at zero. -/
theorem run : θ_run defs (onTc (τ := τ) (main (F := F))) (s₀ m ρ)
    (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_arr m) (hin := enters m) (hout := exits m)

/-- The frame: the arguments end unchanged, every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (data m) (data_arr m) ((θ_run defs _ _).mono (fun _ h => h.1) (run m ρ)))
    ((θ_run defs _ _).mono (fun _ h => h.2) (run m ρ))

end Cert.MoeIdeal.Body

end
-- ==== Proof.MoeTable.lean ====
/- The program as printed and its reading over any float type are one text, so that one run serves both frames. -/
module

public import proofs.«01_k».proof.Defs
public import proofs.«01_k».proof.Proof.MoeFrame
public import proofs.«01_k».proof.Proof.Gen.Moe
public import Idealize.ShloMosaic.Lib.Tactic

@[expose] public section

set_option maxRecDepth 16384

noncomputable section

namespace Cert.MoeTable

open Idealize.ShloMosaic Idealize.ShloMosaic.Tactic Idealize.SL.Sem

theorem same {F : FTy → Type} [FloatOps F] : Cert.Moe.defs (F := F) = Cert.MoeIdeal.defs (F := F) := by
  sl_kernel_rfl

theorem same_main {F : FTy → Type} [FloatOps F] : Cert.Moe.main (F := F) = Cert.MoeIdeal.main (F := F) := by
  sl_kernel_rfl

set_option maxHeartbeats 4000000 in
/-- The frame of the program at its own words. -/
theorem bits : Cert.quiescent_Moe := fun m ρ _ => by
  rw [same, same_main]
  exact Cert.MoeIdeal.Body.unchanged (F := Bits) m ρ

end Cert.MoeTable

end
-- ==== Proof.MoeSpec.lean ====
/- The routed and shared experts with the closing LayerNorm, written as sums over the extended reals. -/
module

public import Idealize.ShloMosaic.Lib.Pointwise

@[expose] public section

set_option maxRecDepth 16384

noncomputable section

namespace Cert.MoeSpec

open Idealize.ShloMosaic

/-- One hidden unit: the SiLU of the gate product, times the up product, times the token's weight. -/
def act (h g k : EReal) : EReal := h * Ideal.logistic h * g * k

/-- What one expert adds to output column `d` of a token: `u` the token's row, `k` its weight. -/
def expert (u : Fin 1024 → EReal) (wg wu : Fin 1024 → Fin 256 → EReal) (wd : Fin 256 → Fin 1024 → EReal) (k : EReal)
    (d : Fin 1024) : EReal :=
  ∑ f : Fin 256, act (∑ x, u x * wg x f) (∑ x, u x * wu x f) k * wd f d

section Arrays

variable (U : FVec Ideal ⟨2, ![16384, 1024]⟩ .bf16) (G : FVec Ideal ⟨2, ![16384, 64]⟩ .f32)
  (X : FVec Ideal ⟨2, ![16384, 1024]⟩ .f32) (M : FVec Ideal ⟨2, ![8, 1024]⟩ .f32)
  (Wg Wu : FVec Ideal ⟨3, ![64, 1024, 256]⟩ .bf16) (Wd : FVec Ideal ⟨3, ![64, 256, 1024]⟩ .bf16)
  (Sg Su : FVec Ideal ⟨2, ![1024, 256]⟩ .bf16) (Sd : FVec Ideal ⟨2, ![256, 1024]⟩ .bf16)
  (lg lb : FVec Ideal ⟨1, ![1024]⟩ .f32)

/-- Expert `e`'s share: a routed expert weighted by its gate below 64, the shared expert from there on. -/
def share (n : Fin 16384) (d : Fin 1024) (e : ℕ) : EReal :=
  if h : e < 64 then
    expert (fun x => U (ix2 n x)) (fun x f => Wg (ix3 ⟨e, h⟩ x f)) (fun x f => Wu (ix3 ⟨e, h⟩ x f))
      (fun f d => Wd (ix3 ⟨e, h⟩ f d)) (G (ix2 n ⟨e, h⟩)) d
  else
    expert (fun x => U (ix2 n x)) (fun x f => Sg (ix2 x f)) (fun x f => Su (ix2 x f)) (fun f d => Sd (ix2 f d)) 1 d

/-- The feed-forward value: all 65 shares. -/
def ffn (n : Fin 16384) (d : Fin 1024) : EReal := ∑ e : Fin 65, share U G Wg Wu Wd Sg Su Sd n d e

/-- The residual sum before the closing LayerNorm. -/
def pre (n : Fin 16384) (d : Fin 1024) : EReal :=
  Ideal.ofBits .f32 0x3F9837F0#32 * X (ix2 n d)
    + M (ix2 ⟨n / 2048, by omega⟩ d) * ffn U G Wg Wu Wd Sg Su Sd n d

/-- LayerNorm of one row without scale and shift, at column `d`. -/
def lnorm (z : Fin 1024 → EReal) (d : Fin 1024) : EReal :=
  (z d - Ideal.div (∑ x, z x) (Ideal.ofBits .f32 0x44800000#32)) *
    Ideal.rsqrt
      (Ideal.div
          (∑ x, (z x - Ideal.div (∑ y, z y) (Ideal.ofBits .f32 0x44800000#32)) *
            (z x - Ideal.div (∑ y, z y) (Ideal.ofBits .f32 0x44800000#32)))
          (Ideal.ofBits .f32 0x44800000#32) +
        Ideal.ofBits .f32 0x3727C5AC#32)

/-- The result array. -/
def result (i : (⟨2, ![16384, 1024]⟩ : Shape).Idx) : EReal :=
  lnorm (pre U G X M Wg Wu Wd Sg Su Sd (i 0)) (i 1) * lg (ix1 (i 1)) + lb (ix1 (i 1))

end Arrays

/-- Five runs of 256 make a sum over 1280. -/
theorem sum_five (F : Fin 1280 → EReal) :
    ∑ x, F x = ∑ el : Fin 5, ∑ f : Fin 256, F ⟨256 * el + f, by omega⟩ := by
  rw [← (finProdFinEquiv (m := 5) (n := 256)).sum_comp F, Fintype.sum_prod_type]
  refine Finset.sum_congr rfl fun a _ => Finset.sum_congr rfl fun b _ => congrArg F (Fin.ext ?_)
  simp [finProdFinEquiv]; omega

/-- Thirteen steps of five experts are the 65 experts. -/
theorem sum_experts (F : ℕ → EReal) :
    ∑ s : Fin 13, ∑ el : Fin 5, F (5 * s + el) = ∑ e : Fin 65, F e := by
  rw [← (finProdFinEquiv (m := 13) (n := 5)).sum_comp fun e : Fin 65 => F e, Fintype.sum_prod_type]
  refine Finset.sum_congr rfl fun a _ => Finset.sum_congr rfl fun b _ => congrArg F ?_
  simp [finProdFinEquiv]; omega

/-- The sixty-fifth share is the shared expert's. -/
theorem sum_split (F : ℕ → EReal) : ∑ e : Fin 65, F e = ∑ e : Fin 64, F e + F 64 := by
  rw [Fin.sum_univ_castSucc]; rfl

/-- Summing a row masked to one lane reads that lane. -/
theorem pick_lane (j el : ℕ) (hj : j < 13) (hel : el < 5) (v : Fin 128 → EReal) :
    (∑ x : Fin 128, Scalar.select
      (IntOp.cmpi .eq (BitVec.ofNat 32 x) (Scalar.addi (Scalar.muli (BitVec.ofNat 32 j) 5#32) (BitVec.ofNat 32 el)))
      (v x) 0) = v ⟨5 * j + el, by omega⟩ := by
  have hw : Scalar.addi (Scalar.muli (BitVec.ofNat 32 j) 5#32) (BitVec.ofNat 32 el) = BitVec.ofNat 32 (5 * j + el) := by
    apply BitVec.eq_of_toNat_eq
    simp [Scalar.addi, Scalar.muli, IntOp.addi, IntOp.muli]; omega
  rw [hw, Finset.sum_eq_single ⟨5 * j + el, by omega⟩]
  · simp [Scalar.select, IntOp.cmpi]
  · intro x _ hx
    have hne : ¬(BitVec.ofNat 32 (x : ℕ) = BitVec.ofNat 32 (5 * j + el)) := by
      intro h
      apply hx
      have := congrArg BitVec.toNat h
      simp at this
      apply Fin.ext
      show (x : ℕ) = 5 * j + el
      omega
    simp [Scalar.select, IntOp.cmpi, beq_eq_false_iff_ne.mpr hne]
  · intro h; exact absurd (Finset.mem_univ _) h

end Cert.MoeSpec

end
-- ==== Proof.MoePay.lean ====
/- What the expert kernel's body stores, read at an index: one step's five experts, and the closing LayerNorm. -/
module

public import proofs.«01_k».proof.Proof.Gen.MoeIdeal.Skeleton
public import proofs.«01_k».proof.Proof.MoeSpec
public import Idealize.ShloMosaic.Lib.Pointwise

@[expose] public section

set_option maxRecDepth 16384

noncomputable section

open Idealize.ShloMosaic Idealize.ShloMosaic.TcCoe Idealize.SL.Sem

namespace Cert.MoeIdeal.Pay

open Cert.MoeIdeal Cert.MoeIdeal.Gen Cert.MoeSpec

/-- A step's matrix product over the five stacked hidden blocks is five products. -/
theorem pay2_apply (v0 : BitVec 1) (d0 : FVec Ideal S256x1024 .bf16) (a0 : FVec Ideal S1024x256 .bf16)
    (d1 : FVec Ideal S256x1024 .bf16) (a1 : FVec Ideal S1024x256 .bf16) (d2 : FVec Ideal S256x1024 .bf16)
    (a2 : FVec Ideal S1024x256 .bf16) (d3 : FVec Ideal S256x1024 .bf16) (a3 : FVec Ideal S1024x256 .bf16)
    (d4 : FVec Ideal S1x256x1024 .bf16) (s4 : FVec Ideal S256x1024 .bf16) (a4 : FVec Ideal S1024x256 .f32) (acc : FVec Ideal S1024x1024 .f32)
    (r d : Fin 1024) :
    k0_pay2 v0 d0 a0 d1 a1 d2 a2 d3 a3 d4 s4 a4 acc (ix2 r d)
      = acc (ix2 r d) + ((∑ f : Fin 256, a0 (ix2 r f) * d0 (ix2 f d)) + (∑ f : Fin 256, a1 (ix2 r f) * d1 (ix2 f d))
        + (∑ f : Fin 256, a2 (ix2 r f) * d2 (ix2 f d)) + (∑ f : Fin 256, a3 (ix2 r f) * d3 (ix2 f d))
        + ∑ f : Fin 256, a4 (ix2 r f) * Scalar.select v0 (s4 (ix2 f d)) (d4 (ix3 0 f d))) := by
  pointwise [k0_pay2]
  refine congrArg (acc (ix2 r d) + ·) ?_
  refine (sum_five _).trans ?_
  rw [Fin.sum_univ_five]
  refine congrArg₂ (· + ·) (congrArg₂ (· + ·) (congrArg₂ (· + ·) (congrArg₂ (· + ·) ?_ ?_) ?_) ?_) ?_ <;>
  · refine Finset.sum_congr rfl fun f _ => ?_
    have hf := f.isLt
    simp only [Fin.val_zero, Fin.val_one, Fin.val_two, Nat.mul_zero, Nat.zero_add,
      show ((3 : Fin 5) : ℕ) = 3 from rfl, show ((4 : Fin 5) : ℕ) = 4 from rfl]
    split_ifs <;> first
      | omega
      | (congr 3 <;> first
          | rfl
          | (apply Fin.ext; dsimp only; omega)
          | (refine congrArg (fun q => ix2 q d) (Fin.ext ?_); dsimp only; omega)
          | (refine congrArg (fun q => ix3 0 q d) (Fin.ext ?_); dsimp only; omega))

/-- The first expert's hidden block. -/
theorem pay7_apply (i : grid0.Coords) (u : Vec Ideal S1024x1024 .bf16) (g : Vec Ideal S1024x128 .f32)
    (wg wu : Vec Ideal S1x1024x256 .bf16) (r : Fin 1024) (f : Fin 256) (hi : (i 1).val < 13) :
    k0_pay7 i u g wg wu (ix2 r f)
      = act (∑ x, u (ix2 r x) * wg (ix3 0 x f)) (∑ x, u (ix2 r x) * wu (ix3 0 x f))
          (g (ix2 r ⟨5 * (i 1).val + 0, by omega⟩)) := by
  pointwise [k0_pay7, k0_pay5, act]
  exact congrArg _ (pick_lane (i 1).val 0 hi (by omega) fun x => g (ix2 r x))

/-- The lane numbers. -/
abbrev lanes : IVec S1024x128 32 := iota .tc S1024x128 32 [1] iota_S1024x128_d1_w32

/-- The second expert's hidden block. -/
theorem pay10_apply (j : ℕ) (hj : j < 13) (u : Vec Ideal S1024x1024 .bf16) (g : Vec Ideal S1024x128 .f32)
    (wg wu : Vec Ideal S1x1024x256 .bf16) (r : Fin 1024) (f : Fin 256) :
    k0_pay10 (BitVec.ofNat 32 j) u (k0_pay5 g) lanes (k0_pay8 wg) wu (ix2 r f)
      = act (∑ x, u (ix2 r x) * wg (ix3 0 x f)) (∑ x, u (ix2 r x) * wu (ix3 0 x f))
          (g (ix2 r ⟨5 * j + 1, by omega⟩)) := by
  pointwise [k0_pay10, k0_pay5, k0_pay8, act, lanes]
  exact congrArg _ (pick_lane j 1 hj (by omega) fun x => g (ix2 r x))

/-- A matrix product's zero start. -/
abbrev start : FVec Ideal S1024x256 .f32 := constant S1024x256 .f32 0x00000000#32

/-- The third expert's hidden block. -/
theorem pay15_apply (j : ℕ) (hj : j < 13) (u : Vec Ideal S1024x1024 .bf16) (g : Vec Ideal S1024x128 .f32)
    (wg wu : Vec Ideal S1x1024x256 .bf16) (r : Fin 1024) (f : Fin 256) :
    k0_pay15 u (k0_pay11 wg) (k0_pay12 wu) (k0_pay14 (BitVec.ofNat 32 j) (k0_pay5 g) lanes) start (ix2 r f)
      = act (∑ x, u (ix2 r x) * wg (ix3 0 x f)) (∑ x, u (ix2 r x) * wu (ix3 0 x f))
          (g (ix2 r ⟨5 * j + 2, by omega⟩)) := by
  pointwise [k0_pay15, k0_pay11, k0_pay12, k0_pay14, k0_pay5, act, lanes, start]
  exact congrArg _ (pick_lane j 2 hj (by omega) fun x => g (ix2 r x))

/-- The fourth expert's hidden block. -/
theorem pay17_apply (j : ℕ) (hj : j < 13) (u : Vec Ideal S1024x1024 .bf16) (g : Vec Ideal S1024x128 .f32)
    (wg wu : Vec Ideal S1x1024x256 .bf16) (r : Fin 1024) (f : Fin 256) :
    k0_pay17 (BitVec.ofNat 32 j) u (k0_pay5 g) lanes wg wu (ix2 r f)
      = act (∑ x, u (ix2 r x) * wg (ix3 0 x f)) (∑ x, u (ix2 r x) * wu (ix3 0 x f))
          (g (ix2 r ⟨5 * j + 3, by omega⟩)) := by
  pointwise [k0_pay17, k0_pay5, act, lanes]
  exact congrArg _ (pick_lane j 3 hj (by omega) fun x => g (ix2 r x))

/-- The fifth expert's hidden block: at the last step the shared expert's weights take the place of its own. -/
theorem pay1_apply (j : ℕ) (hj : j < 13) (v0 : BitVec 1) (u : Vec Ideal S1024x1024 .bf16) (g : Vec Ideal S1024x128 .f32)
    (wg wu : Vec Ideal S1x1024x256 .bf16) (sg su : Vec Ideal S1024x256 .bf16) (r : Fin 1024) (f : Fin 256) :
    k0_pay1 (BitVec.ofNat 32 j) v0 u (k0_pay5 g) lanes (k0_pay18 wg) (k0_pay19 wu) sg su (ix2 r f)
      = act (∑ x, u (ix2 r x) * Scalar.select v0 (sg (ix2 x f)) (wg (ix3 0 x f)))
          (∑ x, u (ix2 r x) * Scalar.select v0 (su (ix2 x f)) (wu (ix3 0 x f)))
          (g (ix2 r ⟨5 * j + 4, by omega⟩)) := by
  pointwise [k0_pay1, k0_pay5, k0_pay18, k0_pay19, act, lanes]
  exact congrArg _ (pick_lane j 4 hj (by omega) fun x => g (ix2 r x))

/-- A down-projection block, without its unit axis. -/
theorem down_apply (w : Vec Ideal S1x256x1024 .bf16) (f : Fin 256) (d : Fin 1024) :
    k0_pay6 w (ix2 f d) = w (ix3 0 f d) ∧ k0_pay9 w (ix2 f d) = w (ix3 0 f d) ∧ k0_pay13 w (ix2 f d) = w (ix3 0 f d)
      ∧ k0_pay16 w (ix2 f d) = w (ix3 0 f d) := by
  refine ⟨?_, ?_, ?_, ?_⟩
  · pointwise [k0_pay6]
  · pointwise [k0_pay9]
  · pointwise [k0_pay13]
  · pointwise [k0_pay16]

/-- One step: what the body adds to the accumulator at a row and a column, over its blocks. -/
theorem step_apply (i : grid0.Coords) (hi : (i 1).val < 13) (v0 : BitVec 1) (u : Vec Ideal S1024x1024 .bf16)
    (g : Vec Ideal S1024x128 .f32) (g0 g1 g2 g3 g4 u0 u1 u2 u3 u4 : Vec Ideal S1x1024x256 .bf16)
    (d0 d1 d2 d3 d4 : Vec Ideal S1x256x1024 .bf16) (sg su : Vec Ideal S1024x256 .bf16) (sd : Vec Ideal S256x1024 .bf16)
    (acc : Vec Ideal S1024x1024 .f32) (r d : Fin 1024) :
    k0_pay2 v0 (k0_pay6 d0) (k0_pay7 i u g g0 u0) (k0_pay9 d1)
        (k0_pay10 (BitVec.ofNat 32 (i 1).val) u (k0_pay5 g) lanes (k0_pay8 g1) u1) (k0_pay13 d2)
        (k0_pay15 u (k0_pay11 g2) (k0_pay12 u2) (k0_pay14 (BitVec.ofNat 32 (i 1).val) (k0_pay5 g) lanes) start) (k0_pay16 d3)
        (k0_pay17 (BitVec.ofNat 32 (i 1).val) u (k0_pay5 g) lanes g3 u3) d4 sd
        (k0_pay1 (BitVec.ofNat 32 (i 1).val) v0 u (k0_pay5 g) lanes (k0_pay18 g4) (k0_pay19 u4) sg su) acc (ix2 r d)
      = acc (ix2 r d) +
        (expert (fun x => u (ix2 r x)) (fun x f => g0 (ix3 0 x f)) (fun x f => u0 (ix3 0 x f)) (fun f d => d0 (ix3 0 f d))
            (g (ix2 r ⟨5 * (i 1).val + 0, by omega⟩)) d
          + expert (fun x => u (ix2 r x)) (fun x f => g1 (ix3 0 x f)) (fun x f => u1 (ix3 0 x f)) (fun f d => d1 (ix3 0 f d))
            (g (ix2 r ⟨5 * (i 1).val + 1, by omega⟩)) d
          + expert (fun x => u (ix2 r x)) (fun x f => g2 (ix3 0 x f)) (fun x f => u2 (ix3 0 x f)) (fun f d => d2 (ix3 0 f d))
            (g (ix2 r ⟨5 * (i 1).val + 2, by omega⟩)) d
          + expert (fun x => u (ix2 r x)) (fun x f => g3 (ix3 0 x f)) (fun x f => u3 (ix3 0 x f)) (fun f d => d3 (ix3 0 f d))
            (g (ix2 r ⟨5 * (i 1).val + 3, by omega⟩)) d
          + expert (fun x => u (ix2 r x)) (fun x f => Scalar.select v0 (sg (ix2 x f)) (g4 (ix3 0 x f)))
            (fun x f => Scalar.select v0 (su (ix2 x f)) (u4 (ix3 0 x f)))
            (fun f d => Scalar.select v0 (sd (ix2 f d)) (d4 (ix3 0 f d)))
            (g (ix2 r ⟨5 * (i 1).val + 4, by omega⟩)) d) := by
  rw [pay2_apply]
  refine congrArg (acc (ix2 r d) + ·) ?_
  refine congrArg₂ (· + ·) (congrArg₂ (· + ·) (congrArg₂ (· + ·) (congrArg₂ (· + ·) ?_ ?_) ?_) ?_) ?_
  · exact Finset.sum_congr rfl fun f _ => by rw [pay7_apply i u g g0 u0 r f hi, (down_apply d0 f d).1]
  · exact Finset.sum_congr rfl fun f _ => by rw [pay10_apply _ hi, (down_apply d1 f d).2.1]
  · exact Finset.sum_congr rfl fun f _ => by rw [pay15_apply _ hi, (down_apply d2 f d).2.2.1]
  · exact Finset.sum_congr rfl fun f _ => by rw [pay17_apply _ hi, (down_apply d3 f d).2.2.2]
  · exact Finset.sum_congr rfl fun f _ => by rw [pay1_apply _ hi]

/-- The closing LayerNorm over the residual sum. -/
theorem pay3_apply (x : Vec Ideal S1024x1024 .f32) (g2 : Vec Ideal S1x1x1024 .f32) (acc : Vec Ideal S1024x1024 .f32)
    (lg lb : Vec Ideal S1x1024 .f32) (r d : Fin 1024) :
    k0_pay3 x g2 acc lg lb (ix2 r d)
      = lnorm (fun k => Ideal.ofBits .f32 0x3F9837F0#32 * x (ix2 r k) + g2 (ix3 0 0 k) * acc (ix2 r k)) d * lg (ix2 0 d)
        + lb (ix2 0 d) := by
  pointwise [k0_pay3, lnorm]

/-- The zero fill. -/
theorem pay4_apply (y : S1024x1024.Idx) : k0_pay4 (F := Ideal) y = 0 := by
  pointwise [k0_pay4]

end Cert.MoeIdeal.Pay

end
-- ==== Proof.MoeReads.lean ====
/- The blocks the call reads at each grid point, element by element, out of the arrays of the arguments. -/
module

public import proofs.«01_k».proof.Proof.Gen.MoeIdeal.Frame.Runs
public import Idealize.ShloMosaic.Lib.Pipeline.ValueKit
public import Idealize.ShloMosaic.Lib.Claim
public import Idealize.ShloMosaic.Lib.Pointwise

@[expose] public section

set_option maxRecDepth 16384

noncomputable section

namespace Cert.MoeIdeal.Reads

open Idealize.ShloMosaic Idealize.ShloMosaic.Tactic Idealize.SL.Sem
open Cert.MoeIdeal Cert.MoeIdeal.Gen

variable (m : (ℓ : Loc nD τ sig) → Buf (Elt Ideal) ℓ) (c : Dev nD)

theorem idx0 : ∀ t : Fin cfg0.N, win0_0.index t = ![t.val / 13, 0] :=
  (by decide +kernel : ∀ t : Fin grid0.N, _)
theorem idx1 : ∀ t : Fin cfg0.N, win0_1.index t = ![t.val / 13, 0] :=
  (by decide +kernel : ∀ t : Fin grid0.N, _)
theorem idx2 : ∀ t : Fin cfg0.N, win0_2.index t = ![t.val / 13, 0] :=
  (by decide +kernel : ∀ t : Fin grid0.N, _)
theorem idx3 : ∀ t : Fin cfg0.N, win0_3.index t = ![t.val / 13 / 2, 0, 0] :=
  (by decide +kernel : ∀ t : Fin grid0.N, _)
theorem idx4 : ∀ t : Fin cfg0.N, win0_4.index t = ![min (5 * (t.val % 13) + 0) 63, 0, 0] :=
  (by decide +kernel : ∀ t : Fin grid0.N, _)
theorem idx5 : ∀ t : Fin cfg0.N, win0_5.index t = ![min (5 * (t.val % 13) + 1) 63, 0, 0] :=
  (by decide +kernel : ∀ t : Fin grid0.N, _)
theorem idx6 : ∀ t : Fin cfg0.N, win0_6.index t = ![min (5 * (t.val % 13) + 2) 63, 0, 0] :=
  (by decide +kernel : ∀ t : Fin grid0.N, _)
theorem idx7 : ∀ t : Fin cfg0.N, win0_7.index t = ![min (5 * (t.val % 13) + 3) 63, 0, 0] :=
  (by decide +kernel : ∀ t : Fin grid0.N, _)
theorem idx8 : ∀ t : Fin cfg0.N, win0_8.index t = ![min (5 * (t.val % 13) + 4) 63, 0, 0] :=
  (by decide +kernel : ∀ t : Fin grid0.N, _)
theorem idx9 : ∀ t : Fin cfg0.N, win0_9.index t = ![min (5 * (t.val % 13) + 0) 63, 0, 0] :=
  (by decide +kernel : ∀ t : Fin grid0.N, _)
theorem idx10 : ∀ t : Fin cfg0.N, win0_10.index t = ![min (5 * (t.val % 13) + 1) 63, 0, 0] :=
  (by decide +kernel : ∀ t : Fin grid0.N, _)
theorem idx11 : ∀ t : Fin cfg0.N, win0_11.index t = ![min (5 * (t.val % 13) + 2) 63, 0, 0] :=
  (by decide +kernel : ∀ t : Fin grid0.N, _)
theorem idx12 : ∀ t : Fin cfg0.N, win0_12.index t = ![min (5 * (t.val % 13) + 3) 63, 0, 0] :=
  (by decide +kernel : ∀ t : Fin grid0.N, _)
theorem idx13 : ∀ t : Fin cfg0.N, win0_13.index t = ![min (5 * (t.val % 13) + 4) 63, 0, 0] :=
  (by decide +kernel : ∀ t : Fin grid0.N, _)
theorem idx14 : ∀ t : Fin cfg0.N, win0_14.index t = ![min (5 * (t.val % 13) + 0) 63, 0, 0] :=
  (by decide +kernel : ∀ t : Fin grid0.N, _)
theorem idx15 : ∀ t : Fin cfg0.N, win0_15.index t = ![min (5 * (t.val % 13) + 1) 63, 0, 0] :=
  (by decide +kernel : ∀ t : Fin grid0.N, _)
theorem idx16 : ∀ t : Fin cfg0.N, win0_16.index t = ![min (5 * (t.val % 13) + 2) 63, 0, 0] :=
  (by decide +kernel : ∀ t : Fin grid0.N, _)
theorem idx17 : ∀ t : Fin cfg0.N, win0_17.index t = ![min (5 * (t.val % 13) + 3) 63, 0, 0] :=
  (by decide +kernel : ∀ t : Fin grid0.N, _)
theorem idx18 : ∀ t : Fin cfg0.N, win0_18.index t = ![min (5 * (t.val % 13) + 4) 63, 0, 0] :=
  (by decide +kernel : ∀ t : Fin grid0.N, _)
theorem idx19 : ∀ t : Fin cfg0.N, win0_19.index t = ![0, 0] :=
  (by decide +kernel : ∀ t : Fin grid0.N, _)
theorem idx20 : ∀ t : Fin cfg0.N, win0_20.index t = ![0, 0] :=
  (by decide +kernel : ∀ t : Fin grid0.N, _)
theorem idx21 : ∀ t : Fin cfg0.N, win0_21.index t = ![0, 0] :=
  (by decide +kernel : ∀ t : Fin grid0.N, _)
theorem idx22 : ∀ t : Fin cfg0.N, win0_22.index t = ![0, 0] :=
  (by decide +kernel : ∀ t : Fin grid0.N, _)
theorem idx23 : ∀ t : Fin cfg0.N, win0_23.index t = ![0, 0] :=
  (by decide +kernel : ∀ t : Fin grid0.N, _)
theorem idx24 : ∀ t : Fin cfg0.N, win0_24.index t = ![t.val / 13, 0] :=
  (by decide +kernel : ∀ t : Fin grid0.N, _)

theorem row_lt (t : Fin cfg0.N) (r : Fin 1024) : 1024 * (t.val / 13) + r.val < 16384 := by
  have := t.isLt; have := r.isLt; have h : cfg0.N = 208 := N_0; omega

theorem batch_lt (t : Fin cfg0.N) : t.val / 13 / 2 < 8 := by
  have := t.isLt; have h : cfg0.N = 208 := N_0; omega

/-- Row `r` of the point's block of tokens. -/
def row (t : Fin cfg0.N) (r : Fin 1024) : Fin 16384 := ⟨1024 * (t.val / 13) + r.val, row_lt t r⟩

/-- The expert in slot `el` at the point. -/
def slot (t : Fin cfg0.N) (el : ℕ) : Fin 64 := ⟨min (5 * (t.val % 13) + el) 63, by omega⟩

theorem read0 (t : Fin cfg0.N) (r : Fin 1024) (x : Fin 1024) :
    iblk m c 0 t (ix2 r x) = m ((c.tc : Thread nD τ).loc main_arg0) (ix2 (row t r) x) := by
  unfold row
  blk_point [iblk, V, idx0 t]

theorem read2 (t : Fin cfg0.N) (r : Fin 1024) (x : Fin 1024) :
    iblk m c 2 t (ix2 r x) = m ((c.tc : Thread nD τ).loc main_arg2) (ix2 (row t r) x) := by
  unfold row
  blk_point [iblk, V, idx2 t]

/-- The gates' lanes as the call finds them: the gates, a one for the shared expert, zeros. -/
theorem lanes_at (n : Fin 16384) (x : Fin 128) : V m c main_v1 (ix2 n x)
    = (if h : x.val < 65 then if h' : x.val < 64 then m ((c.tc : Thread nD τ).loc main_arg1) (ix2 n ⟨x.val, h'⟩) else 1 else 0 : EReal) := by
  entry_read
  pointwise

theorem read1 (t : Fin cfg0.N) (r : Fin 1024) (x : Fin 128) :
    iblk m c 1 t (ix2 r x) = V m c main_v1 (ix2 (row t r) x) := by
  unfold row
  blk_point [iblk, idx1 t]

theorem read3 (t : Fin cfg0.N) (x : Fin 1024) :
    iblk m c 3 t (ix3 0 0 x) = m ((c.tc : Thread nD τ).loc main_arg3) (ix2 ⟨t.val / 13 / 2, batch_lt t⟩ x) := by
  blk_point [iblk, V, idx3 t]

theorem read4 (t : Fin cfg0.N) (x : Fin 1024) (f : Fin 256) :
    iblk m c 4 t (ix3 0 x f) = m ((c.tc : Thread nD τ).loc main_arg4) (ix3 (slot t 0) x f) := by
  unfold slot
  blk_point [iblk, V, idx4 t]

theorem read5 (t : Fin cfg0.N) (x : Fin 1024) (f : Fin 256) :
    iblk m c 5 t (ix3 0 x f) = m ((c.tc : Thread nD τ).loc main_arg4) (ix3 (slot t 1) x f) := by
  unfold slot
  blk_point [iblk, V, idx5 t]

theorem read6 (t : Fin cfg0.N) (x : Fin 1024) (f : Fin 256) :
    iblk m c 6 t (ix3 0 x f) = m ((c.tc : Thread nD τ).loc main_arg4) (ix3 (slot t 2) x f) := by
  unfold slot
  blk_point [iblk, V, idx6 t]

theorem read7 (t : Fin cfg0.N) (x : Fin 1024) (f : Fin 256) :
    iblk m c 7 t (ix3 0 x f) = m ((c.tc : Thread nD τ).loc main_arg4) (ix3 (slot t 3) x f) := by
  unfold slot
  blk_point [iblk, V, idx7 t]

theorem read8 (t : Fin cfg0.N) (x : Fin 1024) (f : Fin 256) :
    iblk m c 8 t (ix3 0 x f) = m ((c.tc : Thread nD τ).loc main_arg4) (ix3 (slot t 4) x f) := by
  unfold slot
  blk_point [iblk, V, idx8 t]

theorem read9 (t : Fin cfg0.N) (x : Fin 1024) (f : Fin 256) :
    iblk m c 9 t (ix3 0 x f) = m ((c.tc : Thread nD τ).loc main_arg5) (ix3 (slot t 0) x f) := by
  unfold slot
  blk_point [iblk, V, idx9 t]

theorem read10 (t : Fin cfg0.N) (x : Fin 1024) (f : Fin 256) :
    iblk m c 10 t (ix3 0 x f) = m ((c.tc : Thread nD τ).loc main_arg5) (ix3 (slot t 1) x f) := by
  unfold slot
  blk_point [iblk, V, idx10 t]

theorem read11 (t : Fin cfg0.N) (x : Fin 1024) (f : Fin 256) :
    iblk m c 11 t (ix3 0 x f) = m ((c.tc : Thread nD τ).loc main_arg5) (ix3 (slot t 2) x f) := by
  unfold slot
  blk_point [iblk, V, idx11 t]

theorem read12 (t : Fin cfg0.N) (x : Fin 1024) (f : Fin 256) :
    iblk m c 12 t (ix3 0 x f) = m ((c.tc : Thread nD τ).loc main_arg5) (ix3 (slot t 3) x f) := by
  unfold slot
  blk_point [iblk, V, idx12 t]

theorem read13 (t : Fin cfg0.N) (x : Fin 1024) (f : Fin 256) :
    iblk m c 13 t (ix3 0 x f) = m ((c.tc : Thread nD τ).loc main_arg5) (ix3 (slot t 4) x f) := by
  unfold slot
  blk_point [iblk, V, idx13 t]

theorem read14 (t : Fin cfg0.N) (x : Fin 256) (f : Fin 1024) :
    iblk m c 14 t (ix3 0 x f) = m ((c.tc : Thread nD τ).loc main_arg6) (ix3 (slot t 0) x f) := by
  unfold slot
  blk_point [iblk, V, idx14 t]

theorem read15 (t : Fin cfg0.N) (x : Fin 256) (f : Fin 1024) :
    iblk m c 15 t (ix3 0 x f) = m ((c.tc : Thread nD τ).loc main_arg6) (ix3 (slot t 1) x f) := by
  unfold slot
  blk_point [iblk, V, idx15 t]

theorem read16 (t : Fin cfg0.N) (x : Fin 256) (f : Fin 1024) :
    iblk m c 16 t (ix3 0 x f) = m ((c.tc : Thread nD τ).loc main_arg6) (ix3 (slot t 2) x f) := by
  unfold slot
  blk_point [iblk, V, idx16 t]

theorem read17 (t : Fin cfg0.N) (x : Fin 256) (f : Fin 1024) :
    iblk m c 17 t (ix3 0 x f) = m ((c.tc : Thread nD τ).loc main_arg6) (ix3 (slot t 3) x f) := by
  unfold slot
  blk_point [iblk, V, idx17 t]

theorem read18 (t : Fin cfg0.N) (x : Fin 256) (f : Fin 1024) :
    iblk m c 18 t (ix3 0 x f) = m ((c.tc : Thread nD τ).loc main_arg6) (ix3 (slot t 4) x f) := by
  unfold slot
  blk_point [iblk, V, idx18 t]

theorem read19 (t : Fin cfg0.N) (x : Fin 1024) (f : Fin 256) :
    iblk m c 19 t (ix2 x f) = m ((c.tc : Thread nD τ).loc main_arg7) (ix2 x f) := by
  blk_point [iblk, V, idx19 t]

theorem read20 (t : Fin cfg0.N) (x : Fin 1024) (f : Fin 256) :
    iblk m c 20 t (ix2 x f) = m ((c.tc : Thread nD τ).loc main_arg8) (ix2 x f) := by
  blk_point [iblk, V, idx20 t]

theorem read21 (t : Fin cfg0.N) (x : Fin 256) (f : Fin 1024) :
    iblk m c 21 t (ix2 x f) = m ((c.tc : Thread nD τ).loc main_arg9) (ix2 x f) := by
  blk_point [iblk, V, idx21 t]

theorem read22 (t : Fin cfg0.N) (x : Fin 1024) :
    iblk m c 22 t (ix2 0 x) = m ((c.tc : Thread nD τ).loc main_arg10) (ix1 x) := by
  blk_point [iblk, V, idx22 t]

theorem read23 (t : Fin cfg0.N) (x : Fin 1024) :
    iblk m c 23 t (ix2 0 x) = m ((c.tc : Thread nD τ).loc main_arg11) (ix1 x) := by
  blk_point [iblk, V, idx23 t]

end Cert.MoeIdeal.Reads

end
-- ==== Proof.MoeValue.lean ====
/- What the array holds after the call: the accumulator as a sum of experts, and each block written over it. -/
module

public import proofs.«01_k».proof.Proof.MoeFrame
public import proofs.«01_k».proof.Proof.MoePay
public import proofs.«01_k».proof.Proof.MoeReads

@[expose] public section

set_option maxRecDepth 16384

noncomputable section

namespace Cert.MoeIdeal.Whole

open Idealize.ShloMosaic Idealize.ShloMosaic.Tactic Idealize.SL.Sem
open Cert.MoeIdeal Cert.MoeIdeal.Gen Cert.MoeIdeal.Body Cert.MoeIdeal.Reads

variable (m : (ℓ : Loc nD τ sig) → Buf (Elt Ideal) ℓ) (c : Dev nD)

/-- The share of expert `e` in column `d` of token `n`, of the arguments' contents. -/
def part (n : Fin 16384) (d : Fin 1024) (e : ℕ) : EReal :=
  MoeSpec.share (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) n d e

/-- The step's place among the thirteen. -/
theorem coord : ∀ t : Fin cfg0.N, (grid0.coords t 1).val = t.val % 13 :=
  (by decide +kernel : ∀ t : Fin grid0.N, _)

/-- A slot that holds a routed expert. -/
theorem part_routed (t : Fin cfg0.N) (n : Fin 16384) (d : Fin 1024) (el : ℕ) (h : 5 * (t.val % 13) + el < 64) (g : Fin 128)
    (hg : g.val = 5 * (t.val % 13) + el) :
    MoeSpec.expert (fun x => (m ((c.tc : Thread nD τ).loc main_arg0)) (ix2 n x)) (fun x f => (m ((c.tc : Thread nD τ).loc main_arg4)) (ix3 (slot t el) x f)) (fun x f => (m ((c.tc : Thread nD τ).loc main_arg5)) (ix3 (slot t el) x f))
      (fun f d => (m ((c.tc : Thread nD τ).loc main_arg6)) (ix3 (slot t el) f d)) (V m c main_v1 (ix2 n g)) d = part m c n d (5 * (t.val % 13) + el) := by
  have hs : slot t el = ⟨5 * (t.val % 13) + el, h⟩ := Fin.ext (by
    show min (5 * (t.val % 13) + el) 63 = 5 * (t.val % 13) + el; omega)
  have hg' : g = ⟨5 * (t.val % 13) + el, by omega⟩ := Fin.ext hg
  rw [hs, hg', lanes_at, dif_pos (show 5 * (t.val % 13) + el < 65 by omega), dif_pos h]
  unfold part MoeSpec.share
  rw [dif_pos h]

/-- The slot after the last routed expert. -/
theorem part_shared (n : Fin 16384) (d : Fin 1024) :
    MoeSpec.expert (fun x => (m ((c.tc : Thread nD τ).loc main_arg0)) (ix2 n x)) (fun x f => (m ((c.tc : Thread nD τ).loc main_arg7)) (ix2 x f)) (fun x f => (m ((c.tc : Thread nD τ).loc main_arg8)) (ix2 x f))
      (fun f d => (m ((c.tc : Thread nD τ).loc main_arg9)) (ix2 f d)) (V m c main_v1 (ix2 n 64)) d = part m c n d 64 := by
  rw [lanes_at, dif_pos (show ((64 : Fin 128) : ℕ) < 65 by decide), dif_neg (show ¬((64 : Fin 128) : ℕ) < 64 by decide)]
  unfold part MoeSpec.share
  rw [dif_neg (by omega)]

/-- One step adds five shares to each element. -/
theorem step_at (t : Fin cfg0.N) (s : Vec Ideal S1024x1024 .f32) (r d : Fin 1024) :
    step (grid0.coords t) (blocks m c t) s (ix2 r d)
      = s (ix2 r d) + ∑ el : Fin 5, part m c (row t r) d (5 * (t.val % 13) + el.val) := by
  have hj := coord t
  have hi : (grid0.coords t 1).val < 13 := by omega
  unfold step blocks
  refine (Pay.step_apply (grid0.coords t) hi _ _ _ _ _ _ _ _ _ _ _ _ _ _ _ _ _ _ _ _ _ s r d).trans ?_
  rw [Fin.sum_univ_five]
  simp only [read0, read1, read4, read5, read6, read7, read8, read9, read10, read11, read12, read13, read14, read15, read16, read17, read18, read19, read20, read21]
  refine congrArg₂ (· + ·) rfl ?_
  refine congrArg₂ (· + ·) (congrArg₂ (· + ·) (congrArg₂ (· + ·) (congrArg₂ (· + ·) ?_ ?_) ?_) ?_) ?_
  · exact part_routed m c t (row t r) d 0 (by omega) _ (by show 5 * _ + 0 = _; omega)
  · exact part_routed m c t (row t r) d 1 (by omega) _ (by show 5 * _ + 1 = _; omega)
  · exact part_routed m c t (row t r) d 2 (by omega) _ (by show 5 * _ + 2 = _; omega)
  · exact part_routed m c t (row t r) d 3 (by omega) _ (by show 5 * _ + 3 = _; omega)
  · by_cases h : t.val % 13 = 12
    · have hl : Scalar.cmpi .eq (BitVec.ofNat 32 (grid0.coords t 1).val) 12#32 = 1#1 := by rw [hj, h]; rfl
      have hg : (⟨5 * (grid0.coords t 1).val + 4, by omega⟩ : Fin 128) = 64 := Fin.ext (by show 5 * _ + 4 = 64; omega)
      rw [hl, hg]
      refine (part_shared m c (row t r) d).trans ?_
      rw [h]; rfl
    · have hl : Scalar.cmpi .eq (BitVec.ofNat 32 (grid0.coords t 1).val) 12#32 = 0#1 := by
        rw [hj]
        have : t.val % 13 < 13 := Nat.mod_lt _ (by decide)
        generalize t.val % 13 = q at h this
        interval_cases q <;> first | rfl | exact absurd rfl h
      rw [hl]
      exact part_routed m c t (row t r) d 4 (by omega) _ (by show 5 * _ + 4 = _; omega)

/-- The accumulator after a point: every share of its group of thirteen so far. -/
theorem acc_at (n : ℕ) (h : n < cfg0.N) (r d : Fin 1024) :
    acc m c n h (ix2 r d)
      = ∑ k ∈ Finset.range (n % 13 + 1), ∑ el : Fin 5, part m c (row ⟨n, h⟩ r) d (5 * k + el.val) := by
  induction n with
  | zero =>
    rw [acc_first m c ⟨0, h⟩ rfl, step_at, Pay.pay4_apply, zero_add]
    simp
  | succ n ih =>
    by_cases h0 : (n + 1) % 13 = 0
    · rw [acc_first m c ⟨n + 1, h⟩ h0, step_at, Pay.pay4_apply, zero_add]
      simp only [h0]
      simp
    · rw [acc_next m c ⟨n + 1, h⟩ h0, step_at]
      have hm : (n + 1) % 13 = n % 13 + 1 := by omega
      have hr : row ⟨n, Nat.lt_of_succ_lt h⟩ r = row ⟨n + 1, h⟩ r := Fin.ext (by
        show 1024 * (n / 13) + r.val = 1024 * ((n + 1) / 13) + r.val; omega)
      rw [Finset.sum_range_succ, hm, ← hr, ← ih (Nat.lt_of_succ_lt h)]
      simp only [hm]
      rfl

/-- After the last step of a group the accumulator holds all 65 shares. -/
theorem acc_full (t : Fin cfg0.N) (h : t.val % 13 = 12) (r d : Fin 1024) :
    acc m c t.val t.isLt (ix2 r d) = MoeSpec.ffn (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (row t r) d := by
  rw [acc_at, h]
  unfold MoeSpec.ffn
  rw [← MoeSpec.sum_experts, Finset.sum_range]
  rfl

/-- The block written after the last step. -/
theorem close_at (t : Fin cfg0.N) (h : t.val % 13 = 12) (r d : Fin 1024) :
    close (blocks m c t) (acc m c t.val t.isLt) (ix2 r d) = MoeSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 (row t r) d) := by
  unfold close blocks
  refine (Pay.pay3_apply _ _ _ _ _ r d).trans ?_
  have hb : (⟨t.val / 13 / 2, batch_lt t⟩ : Fin 8) = ⟨(row t r).val / 2048, by omega⟩ := Fin.ext (by
    show t.val / 13 / 2 = (1024 * (t.val / 13) + r.val) / 2048; omega)
  simp only [read2, read3, read22, read23, acc_full m c t h, hb]
  rfl

/-- The array after the run. -/
theorem whole : (data m 0 c).arrAt 24 cfg0.N = MoeSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (data m 0 c).arrAt_eq_of_covers 24 _ (by decide +kernel) fun t hf y => ?_
  have h : t.val % 13 = 12 := (by decide +kernel : ∀ t : Fin grid0.N, win0_24.flush t = true → t.val % 13 = 12) t hf
  rw [left_out]
  blk_simp [idx24 t]
  obtain ⟨r, d, rfl⟩ : ∃ (r : Fin 1024) (d : Fin 1024), y = ix2 r d := ⟨y 0, y 1, (ix2_eta (n0 := 1024) (n1 := 1024) y).symm⟩
  rw [close_at m c t h r d]
  refine congrArg _ ?_
  funext a
  apply Fin.ext
  match a with
  | ⟨0, _⟩ => blk_simp [idx24 t, row]; show 1024 * (t.val / 13) + r.val = t.val / 13 * 1024 + r.val; omega
  | ⟨1, _⟩ => blk_simp [idx24 t, row]

end Cert.MoeIdeal.Whole

end
-- ==== Proof.MoeRef.lean ====
/- What the reference computes, at each token and column. -/
module

public import proofs.«01_k».proof.Proof.Gen.MoeRefIdeal.Run
public import proofs.«01_k».proof.Proof.MoeSpec

@[expose] public section

set_option maxRecDepth 16384

noncomputable section

namespace Cert.MoeRefIdeal.Point

open Idealize.ShloMosaic Cert.MoeRefIdeal Cert.MoeRefIdeal.Gen Cert.MoeRefIdeal.Value

/-- The routed experts' sum and the shared expert, as the reference spells them. -/
def both (U : FVec Ideal S16384x1024 .bf16) (G : FVec Ideal S16384x64 .f32) (Wg Wu : FVec Ideal S64x1024x256 .bf16)
    (Wd : FVec Ideal S64x256x1024 .bf16) (Sg Su : FVec Ideal S1024x256 .bf16) (Sd : FVec Ideal S256x1024 .bf16) :
    FVec Ideal S16384x1024 .f32 :=
  addf (Host.dotGeneral dot_S16384x64x256_S64x256x1024_S16384x1024_12_01_0_2_n_n none (mulf (mulf (mulf (Host.dotGeneral dot_S16384x1024_S64x1024x256_S16384x64x256_1_1_0_02_n_n none (extf .f32 U bitsLt_bf16_f32) (extf .f32 Wg bitsLt_bf16_f32)) (Host.divf (broadcastInDim S16384x64x256 ![] bcast_S_S16384x64x256 (constant S_ .f32 0x3F800000#32)) (addf (broadcastInDim S16384x64x256 ![] bcast_S_S16384x64x256 (constant S_ .f32 0x3F800000#32)) (Host.exp (Host.negf (Host.dotGeneral dot_S16384x1024_S64x1024x256_S16384x64x256_1_1_0_02_n_n none (extf .f32 U bitsLt_bf16_f32) (extf .f32 Wg bitsLt_bf16_f32))))))) (Host.dotGeneral dot_S16384x1024_S64x1024x256_S16384x64x256_1_1_0_02_n_n none (extf .f32 U bitsLt_bf16_f32) (extf .f32 Wu bitsLt_bf16_f32))) (broadcastInDim S16384x64x256 ![0, 1, 2] bcast_S16384x64x1_S16384x64x256_0_1_2 (broadcastInDim S16384x64x1 ![0, 1] bcast_S16384x64_S16384x64x1_0_1 G))) (extf .f32 Wd bitsLt_bf16_f32)) (Host.dotGeneral dot_S16384x256_S256x1024_S16384x1024_1_0_0_1_n_n none (mulf (mulf (Host.dotGeneral dot_S16384x1024_S1024x256_S16384x256_1_0_0_1_n_n none (extf .f32 U bitsLt_bf16_f32) (extf .f32 Sg bitsLt_bf16_f32)) (Host.divf (broadcastInDim S16384x256 ![] bcast_S_S16384x256 (constant S_ .f32 0x3F800000#32)) (addf (broadcastInDim S16384x256 ![] bcast_S_S16384x256 (constant S_ .f32 0x3F800000#32)) (Host.exp (Host.negf (Host.dotGeneral dot_S16384x1024_S1024x256_S16384x256_1_0_0_1_n_n none (extf .f32 U bitsLt_bf16_f32) (extf .f32 Sg bitsLt_bf16_f32))))))) (Host.dotGeneral dot_S16384x1024_S1024x256_S16384x256_1_0_0_1_n_n none (extf .f32 U bitsLt_bf16_f32) (extf .f32 Su bitsLt_bf16_f32))) (extf .f32 Sd bitsLt_bf16_f32))

/-- The residual sum over a feed-forward value `Y`. -/
def residual (X : FVec Ideal S16384x1024 .f32) (M : FVec Ideal S8x1024 .f32) (Y : FVec Ideal S16384x1024 .f32) :
    FVec Ideal S8x2048x1024 .f32 :=
  addf (mulf (broadcastInDim S8x2048x1024 ![] bcast_S_S8x2048x1024 (constant S_ .f32 0x3F9837F0#32)) (shapeCast S8x2048x1024 X shapeCasts_S16384x1024_S8x2048x1024)) (mulf (broadcastInDim S8x2048x1024 ![0, 1, 2] bcast_S8x1x1024_S8x2048x1024_0_1_2 (broadcastInDim S8x1x1024 ![0, 2] bcast_S8x1024_S8x1x1024_0_2 M)) (shapeCast S8x2048x1024 Y shapeCasts_S16384x1024_S8x2048x1024))

/-- An array less its rows' means. -/
def centred (Z : FVec Ideal S8x2048x1024 .f32) : FVec Ideal S8x2048x1024 .f32 :=
  subf Z (broadcastInDim S8x2048x1024 ![0, 1, 2] bcast_S8x2048x1_S8x2048x1024_0_1_2 (Host.divf (broadcastInDim S8x2048x1 ![0, 1] bcast_S8x2048_S8x2048x1_0_1 (Host.reduceAdd Z (constant S_ .f32 0x00000000#32) reducesTo_S8x2048x1024_S8x2048_d2 h_S_)) (broadcastInDim S8x2048x1 ![] bcast_S_S8x2048x1 (constant S_ .f32 0x44800000#32))))

/-- A centred array scaled by its rows' deviations, with scale and shift. -/
def scaled (XC : FVec Ideal S8x2048x1024 .f32) (lg lb : FVec Ideal S1024 .f32) : FVec Ideal S16384x1024 .f32 :=
  shapeCast S16384x1024 (addf (mulf (mulf XC (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf XC XC) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 lg))) (broadcastInDim S8x2048x1024 ![0, 1, 2] bcast_S1x1x1024_S8x2048x1024_0_1_2 (broadcastInDim S1x1x1024 ![2] bcast_S1024_S1x1x1024_2 lb))) shapeCasts_S8x2048x1024_S16384x1024

variable (m : (ℓ : Loc nD τ sig) → Buf (Elt Ideal) ℓ) (c : Dev nD)

/-- The reference's result in these words. -/
theorem parts : res_main_v51 m c
    = scaled (centred (residual (m ((c.tc : Thread nD τ).loc main_arg2)) (m ((c.tc : Thread nD τ).loc main_arg3)) (both (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))))) (m ((c.tc : Thread nD τ).loc main_arg10)) (m ((c.tc : Thread nD τ).loc main_arg11)) := by
  unfold res_main_v51 scaled centred residual both
  rfl

/-- Token `n` is row `n % 2048` of batch `n / 2048`. -/
theorem join_apply (v : FVec Ideal S8x2048x1024 .f32) (h) (n : Fin 16384) (d : Fin 1024) :
    shapeCast S16384x1024 v h (ix2 n d) = v (ix3 ⟨n / 2048, by omega⟩ ⟨n % 2048, by omega⟩ d) := by
  pointwise

theorem split_apply (v : FVec Ideal S16384x1024 .f32) (h) (n : Fin 16384) (d : Fin 1024) :
    shapeCast S8x2048x1024 v h (ix3 ⟨n / 2048, by omega⟩ ⟨n % 2048, by omega⟩ d) = v (ix2 n d) := by
  pointwise

theorem both_apply (U G Wg Wu Wd Sg Su Sd) (n : Fin 16384) (d : Fin 1024) :
    both U G Wg Wu Wd Sg Su Sd (ix2 n d) = MoeSpec.ffn U G Wg Wu Wd Sg Su Sd n d := by
  unfold both
  pointwise
  unfold MoeSpec.ffn
  rw [MoeSpec.sum_split]
  refine congrArg₂ (· + ·) (Finset.sum_congr rfl fun e _ => ?_) ?_
  · unfold MoeSpec.share
    rw [dif_pos e.isLt]
    rfl
  · unfold MoeSpec.share MoeSpec.expert MoeSpec.act
    simp only [dif_neg (show ¬((64 : ℕ) < 64) by decide), mul_one]
    rfl

theorem residual_apply (X M Y) (n : Fin 16384) (d : Fin 1024) :
    residual X M Y (ix3 ⟨n / 2048, by omega⟩ ⟨n % 2048, by omega⟩ d)
      = Ideal.ofBits .f32 0x3F9837F0#32 * X (ix2 n d) + M (ix2 ⟨n / 2048, by omega⟩ d) * Y (ix2 n d) := by
  unfold residual
  pointwise

theorem centred_apply (Z) (b : Fin 8) (r : Fin 2048) (d : Fin 1024) :
    centred Z (ix3 b r d) = Z (ix3 b r d) - Ideal.div (∑ x : Fin 1024, Z (ix3 b r x)) (Ideal.ofBits .f32 0x44800000#32) := by
  unfold centred
  pointwise

theorem scaled_apply (XC lg lb) (n : Fin 16384) (d : Fin 1024) :
    scaled XC lg lb (ix2 n d) =
      XC (ix3 ⟨n / 2048, by omega⟩ ⟨n % 2048, by omega⟩ d) *
        Ideal.rsqrt (Ideal.div (∑ x : Fin 1024, XC (ix3 ⟨n / 2048, by omega⟩ ⟨n % 2048, by omega⟩ x) *
            XC (ix3 ⟨n / 2048, by omega⟩ ⟨n % 2048, by omega⟩ x)) (Ideal.ofBits .f32 0x44800000#32)
          + Ideal.ofBits .f32 0x3727C5AC#32) * lg (ix1 d) + lb (ix1 d) := by
  unfold scaled
  pointwise

/-- The reference's result is the specified one. -/
theorem value : res_main_v51 m c = MoeSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [parts]
  funext i
  obtain ⟨n, d, rfl⟩ : ∃ (n : Fin 16384) (d : Fin 1024), i = ix2 n d := ⟨i 0, i 1, (ix2_eta i).symm⟩
  refine (scaled_apply _ _ _ n d).trans ?_
  simp only [centred_apply, residual_apply, both_apply]
  rfl

end Cert.MoeRefIdeal.Point

end
-- ==== Proof.LayerSpec.lean ====
/- The row function that several calls share: LayerNorm without scale and shift, and its modulation. -/
module

public import Idealize.ShloMosaic.PureOps.Ideal
public import Idealize.ShloMosaic.Lib.Pointwise

@[expose] public section

noncomputable section

namespace Cert.LayerSpec

open Idealize.ShloMosaic

/-- An element of a row less the row's mean. -/
def centred (z : Fin 1024 → EReal) (d : Fin 1024) : EReal :=
  z d - Ideal.div (∑ x, z x) (Ideal.ofBits .f32 0x44800000#32)

/-- LayerNorm of one row without scale and shift, at column `d`. -/
def lnorm (z : Fin 1024 → EReal) (d : Fin 1024) : EReal :=
  centred z d *
    Ideal.rsqrt (Ideal.div (∑ x, centred z x * centred z x) (Ideal.ofBits .f32 0x44800000#32) +
      Ideal.ofBits .f32 0x3727C5AC#32)

/-- The normalized row, scaled by one more than `sc` and shifted by `sh`. -/
def modulated (z sh sc : Fin 1024 → EReal) (d : Fin 1024) : EReal :=
  lnorm z d * (1 + sc d) + sh d

end Cert.LayerSpec

end
-- ==== Proof.InprojSpec.lean ====
/- The input projection as one function of the arrays' elements. -/
module

public import proofs.«01_k».proof.Proof.LayerSpec

@[expose] public section

noncomputable section

namespace Cert.InprojSpec

open Idealize.ShloMosaic Cert.LayerSpec

variable (X : FVec Ideal ⟨3, ![8, 2048, 1024]⟩ .f32) (Sh Sc : FVec Ideal ⟨2, ![8, 1024]⟩ .f32)
  (W : FVec Ideal ⟨2, ![1024, 7168]⟩ .bf16)

/-- The modulated row of token `n`, times column `e` of the weights. -/
def proj (n : Fin 16384) (e : Fin 7168) : EReal :=
  ∑ k : Fin 1024, modulated (fun x => X (ix3 ⟨n / 2048, by omega⟩ ⟨n % 2048, by omega⟩ x))
    (fun x => Sh (ix2 ⟨n / 2048, by omega⟩ x)) (fun x => Sc (ix2 ⟨n / 2048, by omega⟩ x)) k * W (ix2 k e)

/-- The element in column `e`: the product below column 5120, its logistic from there on. -/
def out (v : EReal) (e : ℕ) : EReal := if e < 5120 then v else Ideal.logistic v

/-- The result array. -/
def result (i : (⟨2, ![16384, 7168]⟩ : Shape).Idx) : EReal := out (proj X Sh Sc W (i 0) (i 1)) (i 1).val

end Cert.InprojSpec

end
-- ==== Proof.InprojValue.lean ====
/- What the input projection's array holds after the call. -/
module

public import proofs.«01_k».proof.Proof.Gen.InprojIdeal.Value
public import proofs.«01_k».proof.Proof.InprojSpec
public import Idealize.ShloMosaic.Lib.Pipeline.ValueKit
public import Idealize.ShloMosaic.Lib.Claim
public import Idealize.ShloMosaic.Lib.Pointwise

@[expose] public section

set_option maxRecDepth 16384

noncomputable section

namespace Cert.InprojIdeal.Whole

open Idealize.ShloMosaic Idealize.ShloMosaic.Tactic Idealize.SL.Sem
open Cert.InprojIdeal Cert.InprojIdeal.Gen Cert.InprojIdeal.Value Cert.LayerSpec

theorem idx0 : ∀ t : Fin cfg0.N, win0_0.index t = ![t.val, 0] :=
  (by decide +kernel : ∀ t : Fin grid0.N, _)
theorem idx1 : ∀ t : Fin cfg0.N, win0_1.index t = ![t.val / 2, 0, 0] :=
  (by decide +kernel : ∀ t : Fin grid0.N, _)
theorem idx2 : ∀ t : Fin cfg0.N, win0_2.index t = ![t.val / 2, 0, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![t.val, 0] :=
  (by decide +kernel : ∀ t : Fin grid0.N, _)

theorem row_lt (t : Fin cfg0.N) (r : Fin 1024) : 1024 * t.val + r.val < 16384 := by
  have := t.isLt; have := r.isLt; have h : cfg0.N = 16 := N_0; omega

theorem batch_lt (t : Fin cfg0.N) : t.val / 2 < 8 := by
  have := t.isLt; have h : cfg0.N = 16 := N_0; omega

/-- Row `r` of the point's block of tokens. -/
def row (t : Fin cfg0.N) (r : Fin 1024) : Fin 16384 := ⟨1024 * t.val + r.val, row_lt t r⟩

section Payloads

variable (v0 : FVec Ideal S1024x1024 .f32) (sc sh : FVec Ideal S1x1x1024 .f32) (w : FVec Ideal S1024x1024 .bf16)
  (h : FVec Ideal S1024x1024 .bf16) (r e : Fin 1024)

theorem pay6_apply : k0_pay6 (F := Ideal) v0 sc sh (ix2 r e)
    = modulated (fun x => v0 (ix2 r x)) (fun x => sh (ix3 0 0 x)) (fun x => sc (ix3 0 0 x)) e := by
  pointwise [k0_pay6]
  rfl

theorem pay1_apply : k0_pay1 (F := Ideal) h w (ix2 r e) = ∑ k : Fin 1024, h (ix2 r k) * w (ix2 k e) := by
  pointwise [k0_pay1]
theorem pay2_apply : k0_pay2 (F := Ideal) h w (ix2 r e) = ∑ k : Fin 1024, h (ix2 r k) * w (ix2 k e) := by
  pointwise [k0_pay2]
theorem pay3_apply : k0_pay3 (F := Ideal) h w (ix2 r e) = ∑ k : Fin 1024, h (ix2 r k) * w (ix2 k e) := by
  pointwise [k0_pay3]
theorem pay4_apply : k0_pay4 (F := Ideal) h w (ix2 r e) = Ideal.logistic (∑ k : Fin 1024, h (ix2 r k) * w (ix2 k e)) := by
  pointwise [k0_pay4]
theorem pay5_apply : k0_pay5 (F := Ideal) h w (ix2 r e) = Ideal.logistic (∑ k : Fin 1024, h (ix2 r k) * w (ix2 k e)) := by
  pointwise [k0_pay5]

end Payloads

/-- The block written at a point, of the blocks read. -/
def blockOut (x0 : FVec Ideal S1024x1024 .f32) (x1 x2 : FVec Ideal S1x1x1024 .f32) (x3 : FVec Ideal S1024x7168 .bf16) :
    FVec Ideal S1024x7168 .bf16 := fun y =>
  InprojSpec.out (∑ k : Fin 1024, modulated (fun x => x0 (ix2 (y 0) x)) (fun x => x1 (ix3 0 0 x)) (fun x => x2 (ix3 0 0 x)) k
    * x3 (ix2 k (y 1))) (y 1).val

/-- Column `e` of a 1024-column piece that starts at column `o`. -/
theorem emb_at (o : ℕ) (ho : o + 1024 ≤ 7168) (inb : ∀ a, (![0, o] : Fin 2 → ℕ) a + S1024x1024.size a ≤ S1024x7168.size a) (r e : Fin 1024) :
    (Rect.unit (s := S1024x7168) ![0, o] S1024x1024.size inb).idx (ix2 r e) = ix2 r ⟨o + e.val, by omega⟩ := by
  funext a
  apply Fin.ext
  match a with
  | ⟨0, _⟩ => show 0 + 1 * r.val = r.val; omega
  | ⟨1, _⟩ => show o + 1 * e.val = o + e.val; omega

theorem low (x0 : FVec Ideal S1024x1024 .f32) (x1 x2 : FVec Ideal S1x1x1024 .f32) (x3 : FVec Ideal S1024x7168 .bf16)
    (o : ℕ) (ho : o + 1024 ≤ 5120) (inb : ∀ a, (![0, o] : Fin 2 → ℕ) a + S1024x1024.size a ≤ S1024x7168.size a) (r e : Fin 1024) :
    ∑ k : Fin 1024, k0_pay6 (F := Ideal) x0 x2 x1 (ix2 r k) * x3 ((Rect.unit (s := S1024x7168) ![0, o] S1024x1024.size inb).idx (ix2 k e))
      = blockOut x0 x1 x2 x3 ((Rect.unit (s := S1024x7168) ![0, o] S1024x1024.size inb).idx (ix2 r e)) := by
  simp only [emb_at o (by omega), pay6_apply]
  unfold blockOut InprojSpec.out
  exact (if_pos (show o + e.val < 5120 by omega)).symm

theorem high (x0 : FVec Ideal S1024x1024 .f32) (x1 x2 : FVec Ideal S1x1x1024 .f32) (x3 : FVec Ideal S1024x7168 .bf16)
    (o : ℕ) (h5 : 5120 ≤ o) (ho : o + 1024 ≤ 7168) (inb : ∀ a, (![0, o] : Fin 2 → ℕ) a + S1024x1024.size a ≤ S1024x7168.size a) (r e : Fin 1024) :
    Ideal.logistic (∑ k : Fin 1024, k0_pay6 (F := Ideal) x0 x2 x1 (ix2 r k) * x3 ((Rect.unit (s := S1024x7168) ![0, o] S1024x1024.size inb).idx (ix2 k e)))
      = blockOut x0 x1 x2 x3 ((Rect.unit (s := S1024x7168) ![0, o] S1024x1024.size inb).idx (ix2 r e)) := by
  simp only [emb_at o ho, pay6_apply]
  unfold blockOut InprojSpec.out
  exact (if_neg (show ¬ o + e.val < 5120 by omega)).symm

theorem ld_rows (x : FVec Ideal S1024x1024 .f32) : View.ld (Val := Elt Ideal) (e' := .f32) x r0_0 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem ld_vec (x : FVec Ideal S1x1x1024 .f32) : View.ld (Val := Elt Ideal) (e' := .f32) x r0_1 = x := by
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem out_eq (x0 : FVec Ideal S1024x1024 .f32) (x1 x2 : FVec Ideal S1x1x1024 .f32) (x3 : FVec Ideal S1024x7168 .bf16)
    (y : S1024x7168.Idx) : out0_4 (F := Ideal) x0 x1 x2 x3 y = blockOut x0 x1 x2 x3 y := by
  unfold out0_4 k0_pay9
  rw [ld_rows, ld_vec, ld_vec]
  refine View.canon_apply_of_pieces (Val := Elt Ideal) (blockOut x0 x1 x2 x3) _ ?_ y (cover0_4 _ _ _ _ _ _ _ y)
  intro p hp x
  simp only [List.mem_cons, List.not_mem_nil, or_false] at hp
  rcases hp with rfl | rfl | rfl | rfl | rfl | rfl | rfl
  all_goals
    obtain ⟨r, e, rfl⟩ : ∃ (r e : Fin 1024), x = ix2 r e := ⟨x 0, x 1, (ix2_eta (n0 := 1024) (n1 := 1024) x).symm⟩
  · exact (pay5_apply _ _ r e).trans (high x0 x1 x2 x3 6144 (by omega) (by omega) _ r e)
  · exact (pay4_apply _ _ r e).trans (high x0 x1 x2 x3 5120 (by omega) (by omega) _ r e)
  · exact (pay3_apply _ _ r e).trans (low x0 x1 x2 x3 4096 (by omega) _ r e)
  · exact (pay2_apply _ _ r e).trans (low x0 x1 x2 x3 3072 (by omega) _ r e)
  · exact (pay1_apply _ _ r e).trans (low x0 x1 x2 x3 2048 (by omega) _ r e)
  · exact (pay1_apply _ _ r e).trans (low x0 x1 x2 x3 1024 (by omega) _ r e)
  · exact (pay1_apply _ _ r e).trans (low x0 x1 x2 x3 0 (by omega) _ r e)

variable (m : (ℓ : Loc nD τ sig) → Buf (Elt Ideal) ℓ) (c : Dev nD)

theorem read0 (t : Fin cfg0.N) (r x : Fin 1024) : iblk m c 0 t (ix2 r x)
    = m ((c.tc : Thread nD τ).loc main_arg0) (ix3 ⟨(row t r).val / 2048, by omega⟩ ⟨(row t r).val % 2048, by omega⟩ x) := by
  have e : ∀ n : Fin 16384, V m c main_v0 (ix2 n x)
      = m ((c.tc : Thread nD τ).loc main_arg0) (ix3 ⟨n / 2048, by omega⟩ ⟨n % 2048, by omega⟩ x) := by
    intro n
    entry_read
    pointwise
  rw [← e]
  unfold row
  blk_point [iblk, idx0 t]

theorem read1 (t : Fin cfg0.N) (x : Fin 1024) :
    iblk m c 1 t (ix3 0 0 x) = m ((c.tc : Thread nD τ).loc main_arg1) (ix2 ⟨t.val / 2, batch_lt t⟩ x) := by
  blk_point [iblk, V, idx1 t]

theorem read2 (t : Fin cfg0.N) (x : Fin 1024) :
    iblk m c 2 t (ix3 0 0 x) = m ((c.tc : Thread nD τ).loc main_arg2) (ix2 ⟨t.val / 2, batch_lt t⟩ x) := by
  blk_point [iblk, V, idx2 t]

theorem read3 (t : Fin cfg0.N) (x : Fin 1024) (e : Fin 7168) :
    iblk m c 3 t (ix2 x e) = m ((c.tc : Thread nD τ).loc main_arg3) (ix2 x e) := by
  blk_point [iblk, V, idx3 t]

/-- The block written at a point, of the arguments' contents. -/
theorem block_at (t : Fin cfg0.N) (r : Fin 1024) (e : Fin 7168) :
    blockOut (iblk m c 0 t) (iblk m c 1 t) (iblk m c 2 t) (iblk m c 3 t) (ix2 r e)
      = InprojSpec.result (m ((c.tc : Thread nD τ).loc main_arg0)) (m ((c.tc : Thread nD τ).loc main_arg1))
          (m ((c.tc : Thread nD τ).loc main_arg2)) (m ((c.tc : Thread nD τ).loc main_arg3)) (ix2 (row t r) e) := by
  have hb : (⟨t.val / 2, batch_lt t⟩ : Fin 8) = ⟨(row t r).val / 2048, by omega⟩ := Fin.ext (by
    show t.val / 2 = (1024 * t.val + r.val) / 2048; omega)
  refine congrArg (fun v => InprojSpec.out v e.val) (Finset.sum_congr rfl fun k _ => ?_)
  refine congrArg₂ (· * ·) (congrFun (congr (congr (congrArg modulated ?_) ?_) ?_) k) (read3 m c t k e)
  · exact funext fun x => read0 m c t r x
  · exact funext fun x => (read1 m c t x).trans (by rw [hb]; rfl)
  · exact funext fun x => (read2 m c t x).trans (by rw [hb]; rfl)

/-- The array after the run. -/
theorem whole : (dats m 0 c).arrAt 4 cfg0.N = InprojSpec.result (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  rw [after0_4]
  blk_simp [idx4 t]
  obtain ⟨r, e, rfl⟩ : ∃ (r : Fin 1024) (e : Fin 7168), y = ix2 r e := ⟨y 0, y 1, (ix2_eta (n0 := 1024) (n1 := 7168) y).symm⟩
  refine (out_eq _ _ _ _ (ix2 r e)).trans ?_
  refine (block_at m c t r e).trans ?_
  refine congrArg _ ?_
  funext a
  apply Fin.ext
  match a with
  | ⟨0, _⟩ => blk_simp [idx4 t, row]; show 1024 * t.val + r.val = t.val * 1024 + r.val; omega
  | ⟨1, _⟩ => blk_simp [idx4 t, row]

end Cert.InprojIdeal.Whole

end
-- ==== Proof.InprojRef.lean ====
/- What the input projection's reference computes, at each token and column. -/
module

public import proofs.«01_k».proof.Proof.Gen.InprojRefIdeal.Run
public import proofs.«01_k».proof.Proof.InprojSpec

@[expose] public section

set_option maxRecDepth 16384

noncomputable section

namespace Cert.InprojRefIdeal.Point

open Idealize.ShloMosaic Cert.InprojRefIdeal Cert.InprojRefIdeal.Gen Cert.InprojRefIdeal.Value Cert.LayerSpec

/-- An array less its rows' means. -/
def less (Z : FVec Ideal S8x2048x1024 .f32) : FVec Ideal S8x2048x1024 .f32 :=
  subf Z (broadcastInDim S8x2048x1024 ![0, 1, 2] bcast_S8x2048x1_S8x2048x1024_0_1_2 (Host.divf (broadcastInDim S8x2048x1 ![0, 1] bcast_S8x2048_S8x2048x1_0_1 (Host.reduceAdd Z (constant S_ .f32 0x00000000#32) reducesTo_S8x2048x1024_S8x2048_d2 h_S_)) (broadcastInDim S8x2048x1 ![] bcast_S_S8x2048x1 (constant S_ .f32 0x44800000#32))))

/-- A centred array scaled by its rows' deviations, then modulated. -/
def scaled (XC : FVec Ideal S8x2048x1024 .f32) (sh sc : FVec Ideal S8x1024 .f32) : FVec Ideal S8x2048x1024 .f32 :=
  addf (mulf (mulf XC (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf XC XC) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 sc)))) (broadcastInDim S8x2048x1024 ![0, 1, 2] bcast_S8x1x1024_S8x2048x1024_0_1_2 (broadcastInDim S8x1x1024 ![0, 2] bcast_S8x1024_S8x1x1024_0_2 sh))

/-- A modulated array times the weights. -/
def product (H : FVec Ideal S8x2048x1024 .f32) (W : FVec Ideal S1024x7168 .bf16) : FVec Ideal S8x2048x7168 .f32 :=
  Host.dotGeneral dot_S8x2048x1024_S1024x7168_S8x2048x7168_2_0_01_1_n_n none H (extf .f32 W bitsLt_bf16_f32)

/-- The product below column 5120 and its logistic from there on, a row per token. -/
def chosen (P : FVec Ideal S8x2048x7168 .f32) : FVec Ideal S16384x7168 .bf16 :=
  truncf .bf16 (shapeCast _ (select (broadcastInDim S8x2048x7168 ![2] bcast_S7168_S8x2048x7168_2 (cmpi .slt (iotaInDim S7168 32 0) (broadcastInDim S7168 ![] bcast_S_S7168 (constantI S_ 32 5120#32)))) P (Host.divf (broadcastInDim S8x2048x7168 ![] bcast_S_S8x2048x7168 (constant S_ .f32 0x3F800000#32)) (addf (broadcastInDim S8x2048x7168 ![] bcast_S_S8x2048x7168 (constant S_ .f32 0x3F800000#32)) (Host.exp (Host.negf P))))) shapeCasts_S8x2048x7168_S16384x7168) bitsLt_bf16_f32

theorem less_apply (Z) (b : Fin 8) (r : Fin 2048) (d : Fin 1024) :
    less Z (ix3 b r d) = centred (fun x => Z (ix3 b r x)) d := by
  unfold less centred
  pointwise

theorem scaled_apply (Z sh sc) (b : Fin 8) (r : Fin 2048) (d : Fin 1024) :
    scaled (less Z) sh sc (ix3 b r d)
      = modulated (fun x => Z (ix3 b r x)) (fun x => sh (ix2 b x)) (fun x => sc (ix2 b x)) d := by
  unfold scaled modulated lnorm
  pointwise
  simp only [less_apply]

theorem product_apply (H W) (b : Fin 8) (r : Fin 2048) (e : Fin 7168) :
    product H W (ix3 b r e) = ∑ k : Fin 1024, H (ix3 b r k) * W (ix2 k e) := by
  unfold product
  pointwise

theorem below (e : Fin 7168) (a b : EReal) :
    (Scalar.select (Scalar.cmpi .slt (BitVec.ofNat 32 e.val) 5120#32) a b : EReal) = if e.val < 5120 then a else b := by
  rw [(by decide +kernel : ∀ e : Fin 7168, Scalar.cmpi .slt (BitVec.ofNat 32 e.val) 5120#32
    = if e.val < 5120 then 1#1 else 0#1) e]
  split <;> rfl

theorem chosen_apply (P) (n : Fin 16384) (e : Fin 7168) :
    chosen P (ix2 n e) = InprojSpec.out (P (ix3 ⟨n / 2048, by omega⟩ ⟨n % 2048, by omega⟩ e)) e.val := by
  unfold chosen InprojSpec.out
  pointwise
  exact below e _ _

variable (m : (ℓ : Loc nD τ sig) → Buf (Elt Ideal) ℓ) (c : Dev nD)

/-- The reference's result in these words. -/
theorem parts : res_main_v37 m c
    = chosen (product (scaled (less (m ((c.tc : Thread nD τ).loc main_arg0))) (m ((c.tc : Thread nD τ).loc main_arg1)) (m ((c.tc : Thread nD τ).loc main_arg2))) (m ((c.tc : Thread nD τ).loc main_arg3))) := by
  unfold res_main_v37 chosen product scaled less
  rfl

/-- The reference's result is the specified one. -/
theorem value : res_main_v37 m c = InprojSpec.result (m ((c.tc : Thread nD τ).loc main_arg0)) (m ((c.tc : Thread nD τ).loc main_arg1))
    (m ((c.tc : Thread nD τ).loc main_arg2)) (m ((c.tc : Thread nD τ).loc main_arg3)) := by
  rw [parts]
  funext i
  obtain ⟨n, e, rfl⟩ : ∃ (n : Fin 16384) (e : Fin 7168), i = ix2 n e := ⟨i 0, i 1, (ix2_eta i).symm⟩
  refine (chosen_apply _ n e).trans ?_
  simp only [product_apply, scaled_apply]
  rfl

end Cert.InprojRefIdeal.Point

end
-- ==== Proof.PostmixSpec.lean ====
/- The merge of the branches as one function of the arrays' elements. -/
module

public import proofs.«01_k».proof.Proof.LayerSpec

@[expose] public section

noncomputable section

namespace Cert.PostmixSpec

open Idealize.ShloMosaic Cert.LayerSpec

/-- One row of the merged branches through the output projection: `yb` the recurrence's row, `ma` the attention's, `ga` its
    gate's. -/
def mix (yb ma ga : Fin 1024 → EReal) (pa wo : Fin 1024 → Fin 1024 → EReal) (e : Fin 1024) : EReal :=
  ∑ k, (ma k + ga k * ∑ j, yb j * pa j k) * wo k e

/-- One row of the first sublayer's result: residual, gate, LayerNorm. -/
def norm1 (x g : Fin 1024 → EReal) (v : Fin 1024 → EReal) (lg lb : Fin 1024 → EReal) (e : Fin 1024) : EReal :=
  lnorm (fun d => Ideal.ofBits .f32 0x3F9837F0#32 * x d + g d * v d) e * lg e + lb e

section Arrays

variable (A B : FVec Ideal ⟨2, ![16384, 1024]⟩ .bf16) (P : FVec Ideal ⟨2, ![16384, 7168]⟩ .bf16)
  (X : FVec Ideal ⟨3, ![8, 2048, 1024]⟩ .f32) (G Sh Sc : FVec Ideal ⟨2, ![8, 1024]⟩ .f32) (Lg Lb : FVec Ideal ⟨1, ![1024]⟩ .f32)
  (Pa Wo : FVec Ideal ⟨2, ![1024, 1024]⟩ .bf16)

/-- The first result, at token `n`. -/
def row1 (n : Fin 16384) (e : Fin 1024) : EReal :=
  norm1 (fun x => X (ix3 ⟨n / 2048, by omega⟩ ⟨n % 2048, by omega⟩ x)) (fun x => G (ix2 ⟨n / 2048, by omega⟩ x))
    (mix (fun x => A (ix2 n x)) (fun x => B (ix2 n x)) (fun x => P (ix2 n ⟨6144 + x.val, by omega⟩))
      (fun j k => Pa (ix2 j k)) (fun k e => Wo (ix2 k e)))
    (fun x => Lg (ix1 x)) (fun x => Lb (ix1 x)) e

/-- The second result, at token `n`: the first one's row, normalized again and modulated. -/
def row2 (n : Fin 16384) (e : Fin 1024) : EReal :=
  modulated (row1 A B P X G Lg Lb Pa Wo n) (fun x => Sh (ix2 ⟨n / 2048, by omega⟩ x)) (fun x => Sc (ix2 ⟨n / 2048, by omega⟩ x)) e

/-- The first result array. -/
def result1 (i : (⟨2, ![16384, 1024]⟩ : Shape).Idx) : EReal := row1 A B P X G Lg Lb Pa Wo (i 0) (i 1)

/-- The second result array. -/
def result2 (i : (⟨2, ![16384, 1024]⟩ : Shape).Idx) : EReal := row2 A B P X G Sh Sc Lg Lb Pa Wo (i 0) (i 1)

end Arrays

end Cert.PostmixSpec

end
-- ==== Proof.PostmixValue.lean ====
/- What the merge's arrays hold after the call. -/
module

public import proofs.«01_k».proof.Proof.Gen.PostmixIdeal.Value
public import proofs.«01_k».proof.Proof.PostmixSpec
public import Idealize.ShloMosaic.Lib.Pipeline.ValueKit
public import Idealize.ShloMosaic.Lib.Claim
public import Idealize.ShloMosaic.Lib.Pointwise

@[expose] public section

set_option maxRecDepth 16384

noncomputable section

namespace Cert.PostmixIdeal.Whole

open Idealize.ShloMosaic Idealize.ShloMosaic.Tactic Idealize.SL.Sem
open Cert.PostmixIdeal Cert.PostmixIdeal.Gen Cert.PostmixIdeal.Value Cert.LayerSpec Cert.PostmixSpec

theorem idx0 : ∀ t : Fin cfg0.N, win0_0.index t = ![t.val, 0] :=
  (by decide +kernel : ∀ t : Fin grid0.N, _)
theorem idx1 : ∀ t : Fin cfg0.N, win0_1.index t = ![t.val, 0] :=
  (by decide +kernel : ∀ t : Fin grid0.N, _)
theorem idx2 : ∀ t : Fin cfg0.N, win0_2.index t = ![t.val, 6] :=
  (by decide +kernel : ∀ t : Fin grid0.N, _)
theorem idx3 : ∀ t : Fin cfg0.N, win0_3.index t = ![t.val, 0] :=
  (by decide +kernel : ∀ t : Fin grid0.N, _)
theorem idx4 : ∀ t : Fin cfg0.N, win0_4.index t = ![t.val / 2, 0, 0] :=
  (by decide +kernel : ∀ t : Fin grid0.N, _)
theorem idx5 : ∀ t : Fin cfg0.N, win0_5.index t = ![t.val / 2, 0, 0] :=
  (by decide +kernel : ∀ t : Fin grid0.N, _)
theorem idx6 : ∀ t : Fin cfg0.N, win0_6.index t = ![t.val / 2, 0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![0, 0] :=
  (by decide +kernel : ∀ t : Fin grid0.N, _)
theorem idx9 : ∀ t : Fin cfg0.N, win0_9.index t = ![0, 0] :=
  (by decide +kernel : ∀ t : Fin grid0.N, _)
theorem idx10 : ∀ t : Fin cfg0.N, win0_10.index t = ![0, 0] :=
  (by decide +kernel : ∀ t : Fin grid0.N, _)
theorem idx12 : ∀ t : Fin cfg0.N, win0_12.index t = ![t.val, 0] :=
  (by decide +kernel : ∀ t : Fin grid0.N, _)
theorem idx13 : ∀ t : Fin cfg0.N, win0_13.index t = ![t.val, 0] :=
  (by decide +kernel : ∀ t : Fin grid0.N, _)

theorem row_lt (t : Fin cfg0.N) (r : Fin 1024) : 1024 * t.val + r.val < 16384 := by
  have := t.isLt; have := r.isLt; have h : cfg0.N = 16 := N_0; omega

theorem batch_lt (t : Fin cfg0.N) : t.val / 2 < 8 := by
  have := t.isLt; have h : cfg0.N = 16 := N_0; omega

/-- Row `r` of the point's block of tokens. -/
def row (t : Fin cfg0.N) (r : Fin 1024) : Fin 16384 := ⟨1024 * t.val + r.val, row_lt t r⟩

section Payloads

variable (a b g : FVec Ideal S512x1024 .bf16) (pa wo : FVec Ideal S1024x1024 .bf16) (x v w : FVec Ideal S512x1024 .f32)
  (g1 sc sh : FVec Ideal S1x1x1024 .f32) (q lg lb : FVec Ideal S1x1024 .f32) (s : FVec Ideal S512x1 .f32) (r : Fin 512) (e : Fin 1024)

theorem pay4_apply : k0_pay4 (F := Ideal) a pa b g wo (ix2 r e)
    = mix (fun x => a (ix2 r x)) (fun x => b (ix2 r x)) (fun x => g (ix2 r x)) (fun j k => pa (ix2 j k)) (fun k e => wo (ix2 k e)) e := by
  unfold mix
  pointwise [k0_pay4]

theorem pay5_apply : k0_pay5 (F := Ideal) a pa b g wo (ix2 r e)
    = mix (fun x => a (ix2 r x)) (fun x => b (ix2 r x)) (fun x => g (ix2 r x)) (fun j k => pa (ix2 j k)) (fun k e => wo (ix2 k e)) e := by
  unfold mix
  pointwise [k0_pay5]

theorem pay6_apply : k0_pay6 (F := Ideal) x (ix2 r e) = Ideal.ofBits .f32 0x3F9837F0#32 * x (ix2 r e) := by
  pointwise [k0_pay6]

theorem pay13_apply : k0_pay13 (F := Ideal) x (ix2 r e) = Ideal.ofBits .f32 0x3F9837F0#32 * x (ix2 r e) := by
  pointwise [k0_pay13]

theorem pay14_apply : k0_pay14 (F := Ideal) g1 (ix2 0 e) = g1 (ix3 0 0 e) := by
  pointwise [k0_pay14]

theorem pay7_apply : k0_pay7 (F := Ideal) v w g1 lg lb (ix2 r e)
    = lnorm (fun d => w (ix2 r d) + g1 (ix3 0 0 d) * v (ix2 r d)) e * lg (ix2 0 e) + lb (ix2 0 e) := by
  unfold lnorm centred
  pointwise [k0_pay7]

theorem pay15_apply : k0_pay15 (F := Ideal) v w q lg lb (ix2 r e)
    = lnorm (fun d => w (ix2 r d) + q (ix2 0 d) * v (ix2 r d)) e * lg (ix2 0 e) + lb (ix2 0 e) := by
  unfold lnorm centred
  pointwise [k0_pay15]

theorem pay8_apply : k0_pay8 (F := Ideal) v w g1 lg lb (ix2 r e) = centred (fun d => k0_pay7 (F := Ideal) v w g1 lg lb (ix2 r d)) e := by
  unfold centred
  pointwise [k0_pay8]

theorem pay9_apply : k0_pay9 (F := Ideal) v w g1 lg lb (ix2 r 0)
    = Ideal.rsqrt (Ideal.div (∑ x, centred (fun d => k0_pay7 (F := Ideal) v w g1 lg lb (ix2 r d)) x
        * centred (fun d => k0_pay7 (F := Ideal) v w g1 lg lb (ix2 r d)) x) (Ideal.ofBits .f32 0x44800000#32) + Ideal.ofBits .f32 0x3727C5AC#32) := by
  pointwise [k0_pay9]
  simp only [pay8_apply]

theorem pay16_apply : k0_pay16 (F := Ideal) v w q lg lb (ix2 r e) = centred (fun d => k0_pay15 (F := Ideal) v w q lg lb (ix2 r d)) e := by
  unfold centred
  pointwise [k0_pay16]

theorem pay17_apply : k0_pay17 (F := Ideal) v w q lg lb (ix2 r e)
    = Ideal.rsqrt (Ideal.div (∑ x, centred (fun d => k0_pay15 (F := Ideal) v w q lg lb (ix2 r d)) x
        * centred (fun d => k0_pay15 (F := Ideal) v w q lg lb (ix2 r d)) x) (Ideal.ofBits .f32 0x44800000#32) + Ideal.ofBits .f32 0x3727C5AC#32) := by
  pointwise [k0_pay17]
  simp only [pay16_apply]

theorem pay11_apply : k0_pay11 (F := Ideal) v s sc sh (ix2 r e)
    = v (ix2 r e) * s (ix2 r 0) * (1 + sc (ix3 0 0 e)) + sh (ix3 0 0 e) := by
  pointwise [k0_pay11, k0_pay10]

theorem pay2_apply : k0_pay2 (F := Ideal) v w sc sh (ix2 r e)
    = v (ix2 r e) * w (ix2 r e) * (1 + sc (ix3 0 0 e)) + sh (ix3 0 0 e) := by
  pointwise [k0_pay2, k0_pay1]

end Payloads

section Blocks

variable (x0 x1 x2 : FVec Ideal S1024x1024 .bf16) (x3 : FVec Ideal S1024x1024 .f32) (x4 x5 x6 : FVec Ideal S1x1x1024 .f32)
  (x7 x8 : FVec Ideal S1x1024 .f32) (x9 x10 : FVec Ideal S1024x1024 .bf16) (x11 : FVec Ideal S1024x128 .bf16)

/-- The first block's row, of the blocks read. -/
def blockRow (r e : Fin 1024) : EReal :=
  norm1 (fun x => x3 (ix2 r x)) (fun x => x4 (ix3 0 0 x))
    (mix (fun x => x0 (ix2 r x)) (fun x => x1 (ix2 r x)) (fun x => x2 (ix2 r x)) (fun j k => x9 (ix2 j k)) (fun k e => x10 (ix2 k e)))
    (fun x => x7 (ix2 0 x)) (fun x => x8 (ix2 0 x)) e

/-- The first block written at a point, of the blocks read. -/
def block1 : FVec Ideal S1024x1024 .f32 := fun y => blockRow x0 x1 x2 x3 x4 x7 x8 x9 x10 (y 0) (y 1)

/-- The second one. -/
def block2 : FVec Ideal S1024x1024 .bf16 := fun y =>
  modulated (blockRow x0 x1 x2 x3 x4 x7 x8 x9 x10 (y 0)) (fun x => x5 (ix3 0 0 x)) (fun x => x6 (ix3 0 0 x)) (y 1)

/-- Row `r` of a piece of 512 rows that starts at row `o`. -/
theorem emb_at (o : ℕ) (ho : o + 512 ≤ 1024) (inb : ∀ a, (![o, 0] : Fin 2 → ℕ) a + S512x1024.size a ≤ S1024x1024.size a) (r : Fin 512) (e : Fin 1024) :
    (Rect.unit (s := S1024x1024) ![o, 0] S512x1024.size inb).idx (ix2 r e) = ix2 ⟨o + r.val, by omega⟩ e := by
  funext a
  apply Fin.ext
  match a with
  | ⟨0, _⟩ => show o + 1 * r.val = o + r.val; omega
  | ⟨1, _⟩ => show 0 + 1 * e.val = e.val; omega

theorem ld_vec (x : FVec Ideal S1x1x1024 .f32) : View.ld (Val := Elt Ideal) (e' := .f32) x r0_3 = x := by
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem ld_ln (x : FVec Ideal S1x1024 .f32) : View.ld (Val := Elt Ideal) (e' := .f32) x r0_4 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem ld_mat (x : FVec Ideal S1024x1024 .bf16) : View.ld (Val := Elt Ideal) (e' := .bf16) x r0_1 = x := by
  funext y
  refine congrArg x (funext fun a => Fin.ext ?_)
  match a with
  | ⟨0, _⟩ => show 0 + 1 * (y 0).val = (y 0).val; omega
  | ⟨1, _⟩ => show 0 + 1 * (y 1).val = (y 1).val; omega

/-- A piece's row of the first result. -/
theorem first (o : ℕ) (ho : o + 512 ≤ 1024) (inb : ∀ a, (![o, 0] : Fin 2 → ℕ) a + S512x1024.size a ≤ S1024x1024.size a) (r : Fin 512) (e : Fin 1024) :
    k0_pay7 (F := Ideal) (k0_pay4 (fun y => x0 ((Rect.unit (s := S1024x1024) ![o, 0] S512x1024.size inb).idx y)) x9 (fun y => x1 ((Rect.unit (s := S1024x1024) ![o, 0] S512x1024.size inb).idx y)) (fun y => x2 ((Rect.unit (s := S1024x1024) ![o, 0] S512x1024.size inb).idx y)) x10)
        (k0_pay6 (fun y => x3 ((Rect.unit (s := S1024x1024) ![o, 0] S512x1024.size inb).idx y))) x4 x7 x8 (ix2 r e)
      = blockRow x0 x1 x2 x3 x4 x7 x8 x9 x10 ⟨o + r.val, by omega⟩ e := by
  simp only [pay7_apply, pay4_apply, pay6_apply, emb_at o ho]
  rfl

/-- The other half's row of the first result. -/
theorem first' (o : ℕ) (ho : o + 512 ≤ 1024) (inb : ∀ a, (![o, 0] : Fin 2 → ℕ) a + S512x1024.size a ≤ S1024x1024.size a) (r : Fin 512) (e : Fin 1024) :
    k0_pay15 (F := Ideal) (k0_pay5 (fun y => x0 ((Rect.unit (s := S1024x1024) ![o, 0] S512x1024.size inb).idx y)) x9 (fun y => x1 ((Rect.unit (s := S1024x1024) ![o, 0] S512x1024.size inb).idx y)) (fun y => x2 ((Rect.unit (s := S1024x1024) ![o, 0] S512x1024.size inb).idx y)) x10)
        (k0_pay13 (fun y => x3 ((Rect.unit (s := S1024x1024) ![o, 0] S512x1024.size inb).idx y))) (k0_pay14 x4) x7 x8 (ix2 r e)
      = blockRow x0 x1 x2 x3 x4 x7 x8 x9 x10 ⟨o + r.val, by omega⟩ e := by
  simp only [pay15_apply, pay5_apply, pay13_apply, pay14_apply, emb_at o ho]
  rfl

theorem out12_eq (y : S1024x1024.Idx) : out0_12 (F := Ideal) x0 x1 x2 x3 x4 x5 x6 x7 x8 x9 x10 x11 y = block1 x0 x1 x2 x3 x4 x7 x8 x9 x10 y := by
  unfold_out out0_12
  simp only [ld_vec, ld_ln, ld_mat]
  refine View.canon_apply_of_pieces (Val := Elt Ideal) (block1 x0 x1 x2 x3 x4 x7 x8 x9 x10) _ ?_ y (cover0_12 _ _ y)
  intro p hp x
  simp only [List.mem_cons, List.not_mem_nil, or_false] at hp
  rcases hp with rfl | rfl
  all_goals
    obtain ⟨r, e, rfl⟩ : ∃ (r : Fin 512) (e : Fin 1024), x = ix2 r e := ⟨x 0, x 1, (ix2_eta (n0 := 512) (n1 := 1024) x).symm⟩
  · refine (first' x0 x1 x2 x3 x4 x7 x8 x9 x10 512 (by omega) _ r e).trans ?_
    exact (congrArg (block1 x0 x1 x2 x3 x4 x7 x8 x9 x10) (emb_at 512 (by omega) (by decide) r e)).symm
  · refine (first x0 x1 x2 x3 x4 x7 x8 x9 x10 0 (by omega) _ r e).trans ?_
    exact (congrArg (block1 x0 x1 x2 x3 x4 x7 x8 x9 x10) (emb_at 0 (by omega) (by decide) r e)).symm

theorem out13_eq (y : S1024x1024.Idx) : out0_13 (F := Ideal) x0 x1 x2 x3 x4 x5 x6 x7 x8 x9 x10 x11 y = block2 x0 x1 x2 x3 x4 x5 x6 x7 x8 x9 x10 y := by
  unfold_out out0_13
  simp only [ld_vec, ld_ln, ld_mat]
  refine View.canon_apply_of_pieces (Val := Elt Ideal) (block2 x0 x1 x2 x3 x4 x5 x6 x7 x8 x9 x10) _ ?_ y (cover0_13 _ _ y)
  intro p hp x
  simp only [List.mem_cons, List.not_mem_nil, or_false] at hp
  rcases hp with rfl | rfl
  all_goals
    obtain ⟨r, e, rfl⟩ : ∃ (r : Fin 512) (e : Fin 1024), x = ix2 r e := ⟨x 0, x 1, (ix2_eta (n0 := 512) (n1 := 1024) x).symm⟩
  · refine Eq.trans ?_ (congrArg (block2 x0 x1 x2 x3 x4 x5 x6 x7 x8 x9 x10) (emb_at 512 (by omega) (by decide) r e)).symm
    refine (pay2_apply _ _ _ _ r e).trans ?_
    rw [pay16_apply, pay17_apply]
    exact congrArg (fun z => modulated z (fun x => x5 (ix3 0 0 x)) (fun x => x6 (ix3 0 0 x)) e) (funext fun d => first' x0 x1 x2 x3 x4 x7 x8 x9 x10 512 (by omega) (by decide) r d)
  · refine Eq.trans ?_ (congrArg (block2 x0 x1 x2 x3 x4 x5 x6 x7 x8 x9 x10) (emb_at 0 (by omega) (by decide) r e)).symm
    refine (pay11_apply _ _ _ _ r e).trans ?_
    rw [pay8_apply, pay9_apply]
    exact congrArg (fun z => modulated z (fun x => x5 (ix3 0 0 x)) (fun x => x6 (ix3 0 0 x)) e) (funext fun d => first x0 x1 x2 x3 x4 x7 x8 x9 x10 0 (by omega) (by decide) r d)

end Blocks

variable (m : (ℓ : Loc nD τ sig) → Buf (Elt Ideal) ℓ) (c : Dev nD)

theorem read0 (t : Fin cfg0.N) (r x : Fin 1024) : iblk m c 0 t (ix2 r x) = m ((c.tc : Thread nD τ).loc main_arg0) (ix2 (row t r) x) := by
  unfold row
  blk_point [iblk, V, idx0 t]

theorem read1 (t : Fin cfg0.N) (r x : Fin 1024) : iblk m c 1 t (ix2 r x) = m ((c.tc : Thread nD τ).loc main_arg1) (ix2 (row t r) x) := by
  unfold row
  blk_point [iblk, V, idx1 t]

theorem read2 (t : Fin cfg0.N) (r x : Fin 1024) : iblk m c 2 t (ix2 r x)
    = m ((c.tc : Thread nD τ).loc main_arg2) (ix2 (row t r) ⟨6144 + x.val, by omega⟩) := by
  unfold row
  blk_point [iblk, V, idx2 t]

theorem read3 (t : Fin cfg0.N) (r x : Fin 1024) : iblk m c 3 t (ix2 r x)
    = m ((c.tc : Thread nD τ).loc main_arg3) (ix3 ⟨(row t r).val / 2048, by omega⟩ ⟨(row t r).val % 2048, by omega⟩ x) := by
  have e : ∀ n : Fin 16384, V m c (Pipeline.arrRef spec0 3) (ix2 n x)
      = m ((c.tc : Thread nD τ).loc main_arg3) (ix3 ⟨n / 2048, by omega⟩ ⟨n % 2048, by omega⟩ x) := by
    intro n
    entry_read
    pointwise
  rw [← e]
  unfold row
  blk_point [iblk, idx3 t]

theorem read4 (t : Fin cfg0.N) (x : Fin 1024) :
    iblk m c 4 t (ix3 0 0 x) = m ((c.tc : Thread nD τ).loc main_arg4) (ix2 ⟨t.val / 2, batch_lt t⟩ x) := by
  blk_point [iblk, V, idx4 t]

theorem read5 (t : Fin cfg0.N) (x : Fin 1024) :
    iblk m c 5 t (ix3 0 0 x) = m ((c.tc : Thread nD τ).loc main_arg5) (ix2 ⟨t.val / 2, batch_lt t⟩ x) := by
  blk_point [iblk, V, idx5 t]

theorem read6 (t : Fin cfg0.N) (x : Fin 1024) :
    iblk m c 6 t (ix3 0 0 x) = m ((c.tc : Thread nD τ).loc main_arg6) (ix2 ⟨t.val / 2, batch_lt t⟩ x) := by
  blk_point [iblk, V, idx6 t]

theorem read7 (t : Fin cfg0.N) (x : Fin 1024) : iblk m c 7 t (ix2 0 x) = m ((c.tc : Thread nD τ).loc main_arg7) (ix1 x) := by
  blk_point [iblk, V, idx7 t]

theorem read8 (t : Fin cfg0.N) (x : Fin 1024) : iblk m c 8 t (ix2 0 x) = m ((c.tc : Thread nD τ).loc main_arg8) (ix1 x) := by
  blk_point [iblk, V, idx8 t]

theorem read9 (t : Fin cfg0.N) (x e : Fin 1024) : iblk m c 9 t (ix2 x e) = m ((c.tc : Thread nD τ).loc main_arg9) (ix2 x e) := by
  blk_point [iblk, V, idx9 t]

theorem read10 (t : Fin cfg0.N) (x e : Fin 1024) : iblk m c 10 t (ix2 x e) = m ((c.tc : Thread nD τ).loc main_arg10) (ix2 x e) := by
  blk_point [iblk, V, idx10 t]

theorem batch_eq (t : Fin cfg0.N) (r : Fin 1024) : (⟨t.val / 2, batch_lt t⟩ : Fin 8) = ⟨(row t r).val / 2048, by omega⟩ := Fin.ext (by
  show t.val / 2 = (1024 * t.val + r.val) / 2048; omega)

theorem row_at (t : Fin cfg0.N) (r e : Fin 1024) : blockRow (iblk m c 0 t) (iblk m c 1 t) (iblk m c 2 t) (iblk m c 3 t) (iblk m c 4 t) (iblk m c 7 t) (iblk m c 8 t) (iblk m c 9 t) (iblk m c 10 t) r e = row1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (row t r) e := by
  unfold blockRow row1
  refine congrFun (congr (congr (congr (congr (congrArg norm1 ?_) ?_) ?_) ?_) ?_) e
  · exact funext fun x => read3 m c t r x
  · exact funext fun x => (read4 m c t x).trans (by rw [batch_eq t r])
  · refine congr (congr (congr (congr (congrArg mix ?_) ?_) ?_) ?_) ?_
    · exact funext fun x => read0 m c t r x
    · exact funext fun x => read1 m c t r x
    · exact funext fun x => read2 m c t r x
    · exact funext fun j => funext fun k => read9 m c t j k
    · exact funext fun j => funext fun k => read10 m c t j k
  · exact funext fun x => read7 m c t x
  · exact funext fun x => read8 m c t x

/-- The first array after the run. -/
theorem whole12 : (dats m 0 c).arrAt 12 cfg0.N = result1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) := by
  refine (dats m 0 c).arrAt_eq_of_covers 12 _ (by decide +kernel) fun t hf y => ?_
  rw [after0_12]
  blk_simp [idx12 t]
  obtain ⟨r, e, rfl⟩ : ∃ (r e : Fin 1024), y = ix2 r e := ⟨y 0, y 1, (ix2_eta (n0 := 1024) (n1 := 1024) y).symm⟩
  refine (out12_eq _ _ _ _ _ _ _ _ _ _ _ _ (ix2 r e)).trans ?_
  refine (row_at m c t r e).trans ?_
  refine congrArg (result1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))) (a₁ := ix2 (row t r) e) ?_
  funext a
  apply Fin.ext
  match a with
  | ⟨0, _⟩ => blk_simp [idx12 t, row]; show 1024 * t.val + r.val = t.val * 1024 + r.val; omega
  | ⟨1, _⟩ => blk_simp [idx12 t, row]

theorem second_at (t : Fin cfg0.N) (r e : Fin 1024) :
    block2 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e) = result2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 (row t r) e) := by
  unfold block2 result2 row2
  refine congrFun (congr (congr (congrArg modulated ?_) ?_) ?_) e
  · exact funext fun x => row_at m c t r x
  · exact funext fun x => (read5 m c t x).trans (by rw [batch_eq t r]; rfl)
  · exact funext fun x => (read6 m c t x).trans (by rw [batch_eq t r]; rfl)

/-- The second array after the run. -/
theorem whole13 : (dats m 0 c).arrAt 13 cfg0.N = result2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (dats m 0 c).arrAt_eq_of_covers 13 _ (by decide +kernel) fun t hf y => ?_
  rw [after0_13]
  blk_simp [idx13 t]
  obtain ⟨r, e, rfl⟩ : ∃ (r e : Fin 1024), y = ix2 r e := ⟨y 0, y 1, (ix2_eta (n0 := 1024) (n1 := 1024) y).symm⟩
  refine (out13_eq _ _ _ _ _ _ _ _ _ _ _ _ (ix2 r e)).trans ?_
  refine (second_at m c t r e).trans ?_
  refine congrArg (result2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) ?_
  funext a
  apply Fin.ext
  match a with
  | ⟨0, _⟩ => blk_simp [idx13 t, row]; show 1024 * t.val + r.val = t.val * 1024 + r.val; omega
  | ⟨1, _⟩ => blk_simp [idx13 t, row]

end Cert.PostmixIdeal.Whole

end
-- ==== Proof.PostmixRef.lean ====
/- What the merge's reference computes, at each token and column. -/
module

public import proofs.«01_k».proof.Proof.Gen.PostmixRefIdeal.Run
public import proofs.«01_k».proof.Proof.PostmixSpec

@[expose] public section

set_option maxRecDepth 16384

noncomputable section

namespace Cert.PostmixRefIdeal.Point

open Idealize.ShloMosaic Cert.PostmixRefIdeal Cert.PostmixRefIdeal.Gen Cert.PostmixRefIdeal.Value Cert.LayerSpec Cert.PostmixSpec

/-- The merged branches through the output projection. -/
def mixed (Y A : FVec Ideal S16384x1024 .bf16) (P : FVec Ideal S16384x7168 .bf16) (Pa Wo : FVec Ideal S1024x1024 .bf16) :
    FVec Ideal S16384x1024 .f32 :=
  Host.dotGeneral dot_S16384x1024_S1024x1024_S16384x1024_1_0_0_1_n_n none (addf (extf .f32 A bitsLt_bf16_f32) (mulf (extf .f32 (extractStridedSlice S16384x1024 ![0, 6144] P slices_S16384x7168_S16384x1024_0_6144) bitsLt_bf16_f32) (Host.dotGeneral dot_S16384x1024_S1024x1024_S16384x1024_1_0_0_1_n_n none (extf .f32 Y bitsLt_bf16_f32) (extf .f32 Pa bitsLt_bf16_f32)))) (extf .f32 Wo bitsLt_bf16_f32)

/-- The residual stream and the gated branches, before the normalization. -/
def summed (X : FVec Ideal S8x2048x1024 .f32) (G : FVec Ideal S8x1024 .f32) (M : FVec Ideal S16384x1024 .f32) : FVec Ideal S8x2048x1024 .f32 :=
  addf (mulf (broadcastInDim S8x2048x1024 ![] bcast_S_S8x2048x1024 (constant S_ .f32 0x3F9837F0#32)) X) (mulf (broadcastInDim S8x2048x1024 ![0, 1, 2] bcast_S8x1x1024_S8x2048x1024_0_1_2 (broadcastInDim S8x1x1024 ![0, 2] bcast_S8x1024_S8x1x1024_0_2 G)) (shapeCast _ M shapeCasts_S16384x1024_S8x2048x1024))

/-- An array less its rows' means. -/
def less (Z : FVec Ideal S8x2048x1024 .f32) : FVec Ideal S8x2048x1024 .f32 :=
  subf Z (broadcastInDim S8x2048x1024 ![0, 1, 2] bcast_S8x2048x1_S8x2048x1024_0_1_2 (Host.divf (broadcastInDim S8x2048x1 ![0, 1] bcast_S8x2048_S8x2048x1_0_1 (Host.reduceAdd Z (constant S_ .f32 0x00000000#32) reducesTo_S8x2048x1024_S8x2048_d2 h_S_)) (broadcastInDim S8x2048x1 ![] bcast_S_S8x2048x1 (constant S_ .f32 0x44800000#32))))

/-- A centred array scaled by its rows' deviations, then by the norm's own weights. -/
def affine (XC : FVec Ideal S8x2048x1024 .f32) (lg lb : FVec Ideal S1024 .f32) : FVec Ideal S8x2048x1024 .f32 :=
  addf (mulf (mulf XC (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf XC XC) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 lg))) (broadcastInDim S8x2048x1024 ![0, 1, 2] bcast_S1x1x1024_S8x2048x1024_0_1_2 (broadcastInDim S1x1x1024 ![2] bcast_S1024_S1x1x1024_2 lb))

/-- A centred array scaled by its rows' deviations, then modulated. -/
def scaled (XC : FVec Ideal S8x2048x1024 .f32) (sh sc : FVec Ideal S8x1024 .f32) : FVec Ideal S8x2048x1024 .f32 :=
  addf (mulf (mulf XC (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf XC XC) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 sc)))) (broadcastInDim S8x2048x1024 ![0, 1, 2] bcast_S8x1x1024_S8x2048x1024_0_1_2 (broadcastInDim S8x1x1024 ![0, 2] bcast_S8x1024_S8x1x1024_0_2 sh))

/-- An array with a row per token. -/
def flat (Z : FVec Ideal S8x2048x1024 .f32) : FVec Ideal S16384x1024 .f32 := shapeCast _ Z shapeCasts_S8x2048x1024_S16384x1024

theorem mixed_apply (Y A P Pa Wo) (n : Fin 16384) (e : Fin 1024) : mixed Y A P Pa Wo (ix2 n e)
    = mix (fun x => Y (ix2 n x)) (fun x => A (ix2 n x)) (fun x => P (ix2 n ⟨6144 + x.val, by omega⟩))
      (fun j k => Pa (ix2 j k)) (fun k e => Wo (ix2 k e)) e := by
  unfold mixed mix
  pointwise

theorem summed_apply (X G M) (b : Fin 8) (r : Fin 2048) (d : Fin 1024) : summed X G M (ix3 b r d)
    = Ideal.ofBits .f32 0x3F9837F0#32 * X (ix3 b r d) + G (ix2 b d) * M (ix2 ⟨b.val * 2048 + r.val, by omega⟩ d) := by
  unfold summed
  pointwise

theorem less_apply (Z) (b : Fin 8) (r : Fin 2048) (d : Fin 1024) :
    less Z (ix3 b r d) = centred (fun x => Z (ix3 b r x)) d := by
  unfold less centred
  pointwise

theorem affine_apply (Z lg lb) (b : Fin 8) (r : Fin 2048) (d : Fin 1024) :
    affine (less Z) lg lb (ix3 b r d) = lnorm (fun x => Z (ix3 b r x)) d * lg (ix1 d) + lb (ix1 d) := by
  unfold affine lnorm
  pointwise
  simp only [less_apply]

theorem scaled_apply (Z sh sc) (b : Fin 8) (r : Fin 2048) (d : Fin 1024) :
    scaled (less Z) sh sc (ix3 b r d)
      = modulated (fun x => Z (ix3 b r x)) (fun x => sh (ix2 b x)) (fun x => sc (ix2 b x)) d := by
  unfold scaled modulated lnorm
  pointwise
  simp only [less_apply]

theorem flat_apply (Z) (n : Fin 16384) (e : Fin 1024) :
    flat Z (ix2 n e) = Z (ix3 ⟨n / 2048, by omega⟩ ⟨n % 2048, by omega⟩ e) := by
  unfold flat
  pointwise

section Rows

variable (Y A : FVec Ideal S16384x1024 .bf16) (P : FVec Ideal S16384x7168 .bf16) (X : FVec Ideal S8x2048x1024 .f32)
  (G : FVec Ideal S8x1024 .f32) (Lg Lb : FVec Ideal S1024 .f32) (Pa Wo : FVec Ideal S1024x1024 .bf16)

/-- The normalized rows. -/
def normed : FVec Ideal S8x2048x1024 .f32 := affine (less (summed X G (mixed Y A P Pa Wo))) Lg Lb

theorem summed_at (n : Fin 16384) (d : Fin 1024) : summed X G (mixed Y A P Pa Wo) (ix3 ⟨n / 2048, by omega⟩ ⟨n % 2048, by omega⟩ d)
    = Ideal.ofBits .f32 0x3F9837F0#32 * X (ix3 ⟨n / 2048, by omega⟩ ⟨n % 2048, by omega⟩ d)
      + G (ix2 ⟨n / 2048, by omega⟩ d)
        * mix (fun x => Y (ix2 n x)) (fun x => A (ix2 n x)) (fun x => P (ix2 n ⟨6144 + x.val, by omega⟩))
          (fun j k => Pa (ix2 j k)) (fun k e => Wo (ix2 k e)) d := by
  refine (summed_apply X G _ _ _ d).trans ?_
  rw [show (⟨(n.val / 2048) * 2048 + n.val % 2048, by omega⟩ : Fin 16384) = n from Fin.ext (by show n.val / 2048 * 2048 + n.val % 2048 = n.val; omega)]
  rw [mixed_apply]

theorem normed_apply (n : Fin 16384) (d : Fin 1024) :
    normed Y A P X G Lg Lb Pa Wo (ix3 ⟨n / 2048, by omega⟩ ⟨n % 2048, by omega⟩ d) = row1 Y A P X G Lg Lb Pa Wo n d := by
  unfold normed
  rw [affine_apply]
  simp only [summed_at]
  rfl

end Rows

variable (m : (ℓ : Loc nD τ sig) → Buf (Elt Ideal) ℓ) (c : Dev nD)

set_option maxHeartbeats 4000000 in
/-- The first result in these words. -/
theorem parts0 : res_main_v63 m c = flat (normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))) := by
  unfold res_main_v63 flat normed affine less summed mixed
  rfl

set_option maxHeartbeats 4000000 in
/-- The second one. -/
theorem parts1 : res_main_v65 m c = flat (scaled (less (normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)))) (m ((c.tc : Thread nD τ).loc main_arg5)) (m ((c.tc : Thread nD τ).loc main_arg6))) := by
  unfold res_main_v65 flat scaled normed affine less summed mixed
  rfl

/-- The first result is the specified one. -/
theorem value0 : res_main_v63 m c = result1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) := by
  rw [parts0]
  funext i
  obtain ⟨n, e, rfl⟩ : ∃ (n : Fin 16384) (e : Fin 1024), i = ix2 n e := ⟨i 0, i 1, (ix2_eta i).symm⟩
  exact (flat_apply _ n e).trans (normed_apply _ _ _ _ _ _ _ _ _ n e)

/-- And the second one. -/
theorem value1 : res_main_v65 m c = result2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [parts1]
  funext i
  obtain ⟨n, e, rfl⟩ : ∃ (n : Fin 16384) (e : Fin 1024), i = ix2 n e := ⟨i 0, i 1, (ix2_eta i).symm⟩
  refine (flat_apply _ n e).trans ?_
  rw [scaled_apply]
  simp only [normed_apply]
  rfl

end Cert.PostmixRefIdeal.Point

end
-- ==== Proof.AdaValue.lean ====
/- What the modulation call's arrays hold after the call. -/
module

public import proofs.«01_k».proof.Proof.Gen.AdaIdeal.Value
public import Idealize.ShloMosaic.Lib.Pipeline.ValueKit
public import Idealize.ShloMosaic.Lib.Claim
public import Idealize.ShloMosaic.Lib.Pointwise

@[expose] public section

set_option maxRecDepth 16384

noncomputable section

namespace Cert.AdaIdeal.Whole

open Idealize.ShloMosaic Idealize.ShloMosaic.Tactic Idealize.SL.Sem
open Cert.AdaIdeal Cert.AdaIdeal.Gen Cert.AdaIdeal.Value

/-- A load of a whole two-dimensional buffer. -/
theorem ld_whole {n0 n1 : ℕ} {e : EltTy} (inb : ∀ a, (![0, 0] : Fin 2 → ℕ) a + (![n0, n1] : Fin 2 → ℕ) a ≤ (![n0, n1] : Fin 2 → ℕ) a)
    (x : (⟨2, ![n0, n1]⟩ : Shape).Idx → Elt Ideal e) (y : (⟨2, ![n0, n1]⟩ : Shape).Idx) :
    View.ld (Val := Elt Ideal) x (Rect.unit (s := ⟨2, ![n0, n1]⟩) ![0, 0] ![n0, n1] inb) y = x y := by
  refine congrArg x (funext fun a => Fin.ext ?_)
  match a with
  | ⟨0, _⟩ => show 0 + 1 * (y 0).val = (y 0).val; omega
  | ⟨1, _⟩ => show 0 + 1 * (y 1).val = (y 1).val; omega

/-- A store of a whole two-dimensional buffer. -/
theorem canon_whole {n0 n1 : ℕ} {e : EltTy} (inb : ∀ a, (![0, 0] : Fin 2 → ℕ) a + (![n0, n1] : Fin 2 → ℕ) a ≤ (![n0, n1] : Fin 2 → ℕ) a)
    (w : (⟨2, ![n0, n1]⟩ : Shape).Idx → Elt Ideal e) (y : (⟨2, ![n0, n1]⟩ : Shape).Idx) :
    View.canon (Val := Elt Ideal) [⟨Rect.unit (s := ⟨2, ![n0, n1]⟩) ![0, 0] ![n0, n1] inb, w⟩] y = w y := by
  refine (congrArg _ ?_).trans (View.canon_cons_emb (Rect.unit (s := ⟨2, ![n0, n1]⟩) ![0, 0] ![n0, n1] inb) w [] y)
  refine funext fun a => Fin.ext ?_
  match a with
  | ⟨0, _⟩ => show (y 0).val = 0 + 1 * (y 0).val; omega
  | ⟨1, _⟩ => show (y 1).val = 0 + 1 * (y 1).val; omega

theorem idx0 : ∀ t : Fin cfg0.N, win0_0.index t = ![0, 0] :=
  (by decide +kernel : ∀ t : Fin grid0.N, _)
theorem idx1 : ∀ t : Fin cfg0.N, win0_1.index t = ![0, t.val] :=
  (by decide +kernel : ∀ t : Fin grid0.N, _)
theorem idx2 : ∀ t : Fin cfg0.N, win0_2.index t = ![0, t.val] :=
  (by decide +kernel : ∀ t : Fin grid0.N, _)
theorem idx3 : ∀ t : Fin cfg0.N, win0_3.index t = ![t.val, 0] :=
  (by decide +kernel : ∀ t : Fin grid0.N, _)
theorem idx4 : ∀ t : Fin cfg0.N, win0_4.index t = ![t.val, 0] :=
  (by decide +kernel : ∀ t : Fin grid0.N, _)
theorem idx5 : ∀ t : Fin cfg0.N, win0_5.index t = ![t.val, 0] :=
  (by decide +kernel : ∀ t : Fin grid0.N, _)
theorem idx6 : ∀ t : Fin cfg0.N, win0_6.index t = ![t.val, 0] :=
  (by decide +kernel : ∀ t : Fin grid0.N, _)
theorem idx7 : ∀ t : Fin cfg0.N, win0_7.index t = ![t.val, 0] :=
  (by decide +kernel : ∀ t : Fin grid0.N, _)
theorem idx8 : ∀ t : Fin cfg0.N, win0_8.index t = ![t.val, 0] :=
  (by decide +kernel : ∀ t : Fin grid0.N, _)
theorem idx9 : ∀ t : Fin cfg0.N, win0_9.index t = ![t.val, 0] :=
  (by decide +kernel : ∀ t : Fin grid0.N, _)
theorem idx10 : ∀ t : Fin cfg0.N, win0_10.index t = ![0, t.val] :=
  (by decide +kernel : ∀ t : Fin grid0.N, _)
theorem idx11 : ∀ t : Fin cfg0.N, win0_11.index t = ![t.val, 0] :=
  (by decide +kernel : ∀ t : Fin grid0.N, _)
theorem idx12 : ∀ t : Fin cfg0.N, win0_12.index t = ![t.val, 0] :=
  (by decide +kernel : ∀ t : Fin grid0.N, _)
theorem idx13 : ∀ t : Fin cfg0.N, win0_13.index t = ![t.val, 0] :=
  (by decide +kernel : ∀ t : Fin grid0.N, _)
theorem idx14 : ∀ t : Fin cfg0.N, win0_14.index t = ![t.val, 0] :=
  (by decide +kernel : ∀ t : Fin grid0.N, _)
theorem idx15 : ∀ t : Fin cfg0.N, win0_15.index t = ![t.val, 0] :=
  (by decide +kernel : ∀ t : Fin grid0.N, _)
theorem idx16 : ∀ t : Fin cfg0.N, win0_16.index t = ![t.val, 0] :=
  (by decide +kernel : ∀ t : Fin grid0.N, _)
theorem idx17 : ∀ t : Fin cfg0.N, win0_17.index t = ![t.val, 0] :=
  (by decide +kernel : ∀ t : Fin grid0.N, _)

theorem step_lt (t : Fin cfg0.N) : t.val < 8 := by
  have := t.isLt; have h : cfg0.N = 8 := N_0; omega

/-- Column `e` of the point's block of the modulation. -/
def col (t : Fin cfg0.N) (e : Fin 768) : Fin 6144 := ⟨768 * t.val + e.val, by have := step_lt t; omega⟩

/-- Row `r` of the point's block of a weight of 1024 rows. -/
def row (t : Fin cfg0.N) (r : Fin 128) : Fin 1024 := ⟨128 * t.val + r.val, by have := step_lt t; omega⟩

/-- Row `r` of the point's block of a weight of 256 rows. -/
def row' (t : Fin cfg0.N) (r : Fin 32) : Fin 256 := ⟨32 * t.val + r.val, by have := step_lt t; omega⟩

/-- The modulation vectors: the SiLU of the conditioning times the weights, plus the bias. -/
def ada (C : FVec Ideal ⟨2, ![8, 1024]⟩ .f32) (W : FVec Ideal ⟨2, ![1024, 6144]⟩ .f32) (B : FVec Ideal ⟨1, ![6144]⟩ .f32)
    (i : (⟨2, ![8, 6144]⟩ : Shape).Idx) : EReal :=
  (∑ k : Fin 1024, C (ix2 (i 0) k) * Ideal.logistic (C (ix2 (i 0) k)) * W (ix2 k (i 1))) + B (ix1 (i 1))

theorem pay1_apply (x : FVec Ideal S8x1024 .f32) (w : FVec Ideal S1024x768 .f32) (b : FVec Ideal S1x768 .f32) (r : Fin 8) (e : Fin 768) :
    k0_pay1 (F := Ideal) x w b (ix2 r e)
      = (∑ k : Fin 1024, x (ix2 r k) * Ideal.logistic (x (ix2 r k)) * w (ix2 k e)) + b (ix2 0 e) := by
  pointwise [k0_pay1]

variable (m : (ℓ : Loc nD τ sig) → Buf (Elt Ideal) ℓ) (c : Dev nD)

theorem read0 (t : Fin cfg0.N) (r : Fin 8) (x : Fin 1024) : iblk m c 0 t (ix2 r x) = m ((c.tc : Thread nD τ).loc main_arg0) (ix2 r x) := by
  blk_point [iblk, V, idx0 t]

theorem read1 (t : Fin cfg0.N) (x : Fin 1024) (e : Fin 768) : iblk m c 1 t (ix2 x e) = m ((c.tc : Thread nD τ).loc main_arg1) (ix2 x (col t e)) := by
  unfold col
  blk_point [iblk, V, idx1 t]

theorem read2 (t : Fin cfg0.N) (e : Fin 768) : iblk m c 2 t (ix2 0 e) = m ((c.tc : Thread nD τ).loc main_arg2) (ix1 (col t e)) := by
  unfold col
  blk_point [iblk, V, idx2 t]

theorem block10 (t : Fin cfg0.N) (r : Fin 8) (e : Fin 768) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r e)
      = ada (m ((c.tc : Thread nD τ).loc main_arg0)) (m ((c.tc : Thread nD τ).loc main_arg1)) (m ((c.tc : Thread nD τ).loc main_arg2)) (ix2 r (col t e)) := by
  unfold out0_10
  refine (canon_whole (e := .f32) _ _ (ix2 r e)).trans ?_
  refine (pay1_apply _ _ _ r e).trans ?_
  refine congrArg₂ (· + ·) (Finset.sum_congr rfl fun k _ => ?_) ?_
  · refine congrArg₂ (· * ·) (congrArg (fun v : EReal => v * Ideal.logistic v) ?_) ?_
    · exact (ld_whole (e := .f32) _ (iblk m c 0 t) (ix2 r k)).trans (read0 m c t r k)
    · exact (ld_whole (e := .f32) _ (iblk m c 1 t) (ix2 k e)).trans (read1 m c t k e)
  · exact (ld_whole (e := .f32) _ (iblk m c 2 t) (ix2 0 e)).trans (read2 m c t e)

/-- The modulation vectors after the run. -/
theorem whole10 : (dats m 0 c).arrAt 10 cfg0.N
    = ada (m ((c.tc : Thread nD τ).loc main_arg0)) (m ((c.tc : Thread nD τ).loc main_arg1)) (m ((c.tc : Thread nD τ).loc main_arg2)) := by
  refine (dats m 0 c).arrAt_eq_of_covers 10 _ (by decide +kernel) fun t hf y => ?_
  rw [after0_10]
  blk_simp [idx10 t]
  obtain ⟨r, e, rfl⟩ : ∃ (r : Fin 8) (e : Fin 768), y = ix2 r e := ⟨y 0, y 1, (ix2_eta (n0 := 8) (n1 := 768) y).symm⟩
  refine (block10 m c t r e).trans ?_
  refine congrArg _ ?_
  funext a
  apply Fin.ext
  match a with
  | ⟨0, _⟩ => blk_simp [idx10 t, col]
  | ⟨1, _⟩ => blk_simp [idx10 t, col]; show 768 * t.val + e.val = t.val * 768 + e.val; omega

theorem read3 (t : Fin cfg0.N) (r : Fin 128) (e : Fin 7168) : iblk m c 3 t (ix2 r e) = m ((c.tc : Thread nD τ).loc main_arg3) (ix2 (row t r) e) := by
  unfold row
  blk_point [iblk, V, idx3 t]

theorem block11 (t : Fin cfg0.N) (r : Fin 128) (e : Fin 7168) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r e)
      = m ((c.tc : Thread nD τ).loc main_arg3) (ix2 (row t r) e) := by
  unfold out0_11
  refine (canon_whole (e := .bf16) _ _ (ix2 r e)).trans ?_
  exact (ld_whole (e := .f32) _ (iblk m c 3 t) (ix2 r e)).trans (read3 m c t r e)

/-- The copy of argument 3 after the run. -/
theorem whole11 : (dats m 0 c).arrAt 11 cfg0.N = truncf (F := Ideal) .bf16 (m ((c.tc : Thread nD τ).loc main_arg3)) bitsLt_bf16_f32 := by
  refine (dats m 0 c).arrAt_eq_of_covers 11 _ (by decide +kernel) fun t hf y => ?_
  rw [after0_11]
  blk_simp [idx11 t]
  obtain ⟨r, e, rfl⟩ : ∃ (r : Fin 128) (e : Fin 7168), y = ix2 r e := ⟨y 0, y 1, (ix2_eta (n0 := 128) (n1 := 7168) y).symm⟩
  refine (block11 m c t r e).trans ?_
  refine congrArg (m ((c.tc : Thread nD τ).loc main_arg3)) ?_
  funext a
  apply Fin.ext
  match a with
  | ⟨0, _⟩ => blk_simp [idx11 t, row]; show 128 * t.val + r.val = t.val * 128 + r.val; omega
  | ⟨1, _⟩ => blk_simp [idx11 t, row]

theorem read4 (t : Fin cfg0.N) (r : Fin 128) (e : Fin 1024) : iblk m c 4 t (ix2 r e) = m ((c.tc : Thread nD τ).loc main_arg4) (ix2 (row t r) e) := by
  unfold row
  blk_point [iblk, V, idx4 t]

theorem block12 (t : Fin cfg0.N) (r : Fin 128) (e : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r e)
      = m ((c.tc : Thread nD τ).loc main_arg4) (ix2 (row t r) e) := by
  unfold out0_12
  refine (canon_whole (e := .bf16) _ _ (ix2 r e)).trans ?_
  exact (ld_whole (e := .f32) _ (iblk m c 4 t) (ix2 r e)).trans (read4 m c t r e)

/-- The copy of argument 4 after the run. -/
theorem whole12 : (dats m 0 c).arrAt 12 cfg0.N = truncf (F := Ideal) .bf16 (m ((c.tc : Thread nD τ).loc main_arg4)) bitsLt_bf16_f32 := by
  refine (dats m 0 c).arrAt_eq_of_covers 12 _ (by decide +kernel) fun t hf y => ?_
  rw [after0_12]
  blk_simp [idx12 t]
  obtain ⟨r, e, rfl⟩ : ∃ (r : Fin 128) (e : Fin 1024), y = ix2 r e := ⟨y 0, y 1, (ix2_eta (n0 := 128) (n1 := 1024) y).symm⟩
  refine (block12 m c t r e).trans ?_
  refine congrArg (m ((c.tc : Thread nD τ).loc main_arg4)) ?_
  funext a
  apply Fin.ext
  match a with
  | ⟨0, _⟩ => blk_simp [idx12 t, row]; show 128 * t.val + r.val = t.val * 128 + r.val; omega
  | ⟨1, _⟩ => blk_simp [idx12 t, row]

theorem read5 (t : Fin cfg0.N) (r : Fin 128) (e : Fin 1024) : iblk m c 5 t (ix2 r e) = m ((c.tc : Thread nD τ).loc main_arg5) (ix2 (row t r) e) := by
  unfold row
  blk_point [iblk, V, idx5 t]

theorem block13 (t : Fin cfg0.N) (r : Fin 128) (e : Fin 1024) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r e)
      = m ((c.tc : Thread nD τ).loc main_arg5) (ix2 (row t r) e) := by
  unfold out0_13
  refine (canon_whole (e := .bf16) _ _ (ix2 r e)).trans ?_
  exact (ld_whole (e := .f32) _ (iblk m c 5 t) (ix2 r e)).trans (read5 m c t r e)

/-- The copy of argument 5 after the run. -/
theorem whole13 : (dats m 0 c).arrAt 13 cfg0.N = truncf (F := Ideal) .bf16 (m ((c.tc : Thread nD τ).loc main_arg5)) bitsLt_bf16_f32 := by
  refine (dats m 0 c).arrAt_eq_of_covers 13 _ (by decide +kernel) fun t hf y => ?_
  rw [after0_13]
  blk_simp [idx13 t]
  obtain ⟨r, e, rfl⟩ : ∃ (r : Fin 128) (e : Fin 1024), y = ix2 r e := ⟨y 0, y 1, (ix2_eta (n0 := 128) (n1 := 1024) y).symm⟩
  refine (block13 m c t r e).trans ?_
  refine congrArg (m ((c.tc : Thread nD τ).loc main_arg5)) ?_
  funext a
  apply Fin.ext
  match a with
  | ⟨0, _⟩ => blk_simp [idx13 t, row]; show 128 * t.val + r.val = t.val * 128 + r.val; omega
  | ⟨1, _⟩ => blk_simp [idx13 t, row]

theorem read6 (t : Fin cfg0.N) (r : Fin 128) (e : Fin 1024) : iblk m c 6 t (ix2 r e) = m ((c.tc : Thread nD τ).loc main_arg6) (ix2 (row t r) e) := by
  unfold row
  blk_point [iblk, V, idx6 t]

theorem block14 (t : Fin cfg0.N) (r : Fin 128) (e : Fin 1024) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r e)
      = m ((c.tc : Thread nD τ).loc main_arg6) (ix2 (row t r) e) := by
  unfold out0_14
  refine (canon_whole (e := .bf16) _ _ (ix2 r e)).trans ?_
  exact (ld_whole (e := .f32) _ (iblk m c 6 t) (ix2 r e)).trans (read6 m c t r e)

/-- The copy of argument 6 after the run. -/
theorem whole14 : (dats m 0 c).arrAt 14 cfg0.N = truncf (F := Ideal) .bf16 (m ((c.tc : Thread nD τ).loc main_arg6)) bitsLt_bf16_f32 := by
  refine (dats m 0 c).arrAt_eq_of_covers 14 _ (by decide +kernel) fun t hf y => ?_
  rw [after0_14]
  blk_simp [idx14 t]
  obtain ⟨r, e, rfl⟩ : ∃ (r : Fin 128) (e : Fin 1024), y = ix2 r e := ⟨y 0, y 1, (ix2_eta (n0 := 128) (n1 := 1024) y).symm⟩
  refine (block14 m c t r e).trans ?_
  refine congrArg (m ((c.tc : Thread nD τ).loc main_arg6)) ?_
  funext a
  apply Fin.ext
  match a with
  | ⟨0, _⟩ => blk_simp [idx14 t, row]; show 128 * t.val + r.val = t.val * 128 + r.val; omega
  | ⟨1, _⟩ => blk_simp [idx14 t, row]

theorem read7 (t : Fin cfg0.N) (r : Fin 128) (e : Fin 256) : iblk m c 7 t (ix2 r e) = m ((c.tc : Thread nD τ).loc main_arg7) (ix2 (row t r) e) := by
  unfold row
  blk_point [iblk, V, idx7 t]

theorem block15 (t : Fin cfg0.N) (r : Fin 128) (e : Fin 256) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r e)
      = m ((c.tc : Thread nD τ).loc main_arg7) (ix2 (row t r) e) := by
  unfold out0_15
  refine (canon_whole (e := .bf16) _ _ (ix2 r e)).trans ?_
  exact (ld_whole (e := .f32) _ (iblk m c 7 t) (ix2 r e)).trans (read7 m c t r e)

/-- The copy of argument 7 after the run. -/
theorem whole15 : (dats m 0 c).arrAt 15 cfg0.N = truncf (F := Ideal) .bf16 (m ((c.tc : Thread nD τ).loc main_arg7)) bitsLt_bf16_f32 := by
  refine (dats m 0 c).arrAt_eq_of_covers 15 _ (by decide +kernel) fun t hf y => ?_
  rw [after0_15]
  blk_simp [idx15 t]
  obtain ⟨r, e, rfl⟩ : ∃ (r : Fin 128) (e : Fin 256), y = ix2 r e := ⟨y 0, y 1, (ix2_eta (n0 := 128) (n1 := 256) y).symm⟩
  refine (block15 m c t r e).trans ?_
  refine congrArg (m ((c.tc : Thread nD τ).loc main_arg7)) ?_
  funext a
  apply Fin.ext
  match a with
  | ⟨0, _⟩ => blk_simp [idx15 t, row]; show 128 * t.val + r.val = t.val * 128 + r.val; omega
  | ⟨1, _⟩ => blk_simp [idx15 t, row]

theorem read8 (t : Fin cfg0.N) (r : Fin 128) (e : Fin 256) : iblk m c 8 t (ix2 r e) = m ((c.tc : Thread nD τ).loc main_arg8) (ix2 (row t r) e) := by
  unfold row
  blk_point [iblk, V, idx8 t]

theorem block16 (t : Fin cfg0.N) (r : Fin 128) (e : Fin 256) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r e)
      = m ((c.tc : Thread nD τ).loc main_arg8) (ix2 (row t r) e) := by
  unfold out0_16
  refine (canon_whole (e := .bf16) _ _ (ix2 r e)).trans ?_
  exact (ld_whole (e := .f32) _ (iblk m c 8 t) (ix2 r e)).trans (read8 m c t r e)

/-- The copy of argument 8 after the run. -/
theorem whole16 : (dats m 0 c).arrAt 16 cfg0.N = truncf (F := Ideal) .bf16 (m ((c.tc : Thread nD τ).loc main_arg8)) bitsLt_bf16_f32 := by
  refine (dats m 0 c).arrAt_eq_of_covers 16 _ (by decide +kernel) fun t hf y => ?_
  rw [after0_16]
  blk_simp [idx16 t]
  obtain ⟨r, e, rfl⟩ : ∃ (r : Fin 128) (e : Fin 256), y = ix2 r e := ⟨y 0, y 1, (ix2_eta (n0 := 128) (n1 := 256) y).symm⟩
  refine (block16 m c t r e).trans ?_
  refine congrArg (m ((c.tc : Thread nD τ).loc main_arg8)) ?_
  funext a
  apply Fin.ext
  match a with
  | ⟨0, _⟩ => blk_simp [idx16 t, row]; show 128 * t.val + r.val = t.val * 128 + r.val; omega
  | ⟨1, _⟩ => blk_simp [idx16 t, row]

theorem read9 (t : Fin cfg0.N) (r : Fin 32) (e : Fin 1024) : iblk m c 9 t (ix2 r e) = m ((c.tc : Thread nD τ).loc main_arg9) (ix2 (row' t r) e) := by
  unfold row'
  blk_point [iblk, V, idx9 t]

theorem block17 (t : Fin cfg0.N) (r : Fin 32) (e : Fin 1024) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r e)
      = m ((c.tc : Thread nD τ).loc main_arg9) (ix2 (row' t r) e) := by
  unfold out0_17
  refine (canon_whole (e := .bf16) _ _ (ix2 r e)).trans ?_
  exact (ld_whole (e := .f32) _ (iblk m c 9 t) (ix2 r e)).trans (read9 m c t r e)

/-- The copy of argument 9 after the run. -/
theorem whole17 : (dats m 0 c).arrAt 17 cfg0.N = truncf (F := Ideal) .bf16 (m ((c.tc : Thread nD τ).loc main_arg9)) bitsLt_bf16_f32 := by
  refine (dats m 0 c).arrAt_eq_of_covers 17 _ (by decide +kernel) fun t hf y => ?_
  rw [after0_17]
  blk_simp [idx17 t]
  obtain ⟨r, e, rfl⟩ : ∃ (r : Fin 32) (e : Fin 1024), y = ix2 r e := ⟨y 0, y 1, (ix2_eta (n0 := 32) (n1 := 1024) y).symm⟩
  refine (block17 m c t r e).trans ?_
  refine congrArg (m ((c.tc : Thread nD τ).loc main_arg9)) ?_
  funext a
  apply Fin.ext
  match a with
  | ⟨0, _⟩ => blk_simp [idx17 t, row']; show 32 * t.val + r.val = t.val * 32 + r.val; omega
  | ⟨1, _⟩ => blk_simp [idx17 t, row']

end Cert.AdaIdeal.Whole

end
-- ==== Proof.AdaRef.lean ====
/- What the modulation reference computes, at each element. -/
module

public import proofs.«01_k».proof.Proof.Gen.AdaRefIdeal.Run
public import proofs.«01_k».proof.Proof.AdaValue

@[expose] public section

set_option maxRecDepth 16384

noncomputable section

namespace Cert.AdaRefIdeal.Point

open Idealize.ShloMosaic Cert.AdaRefIdeal Cert.AdaRefIdeal.Gen Cert.AdaRefIdeal.Value

theorem value (C : FVec Ideal S8x1024 .f32) (W : FVec Ideal S1024x6144 .f32) (B : FVec Ideal S6144 .f32) :
    addf (Host.dotGeneral dot_S8x1024_S1024x6144_S8x6144_1_0_0_1_n_n none (mulf C (Host.divf (broadcastInDim S8x1024 ![] bcast_S_S8x1024 (constant S_ .f32 0x3F800000#32)) (addf (broadcastInDim S8x1024 ![] bcast_S_S8x1024 (constant S_ .f32 0x3F800000#32)) (Host.exp (Host.negf C))))) W) (broadcastInDim S8x6144 ![0, 1] bcast_S1x6144_S8x6144_0_1 (broadcastInDim S1x6144 ![1] bcast_S6144_S1x6144_1 B))
      = Cert.AdaIdeal.Whole.ada C W B := by
  funext i
  obtain ⟨r, e, rfl⟩ : ∃ (r : Fin 8) (e : Fin 6144), i = ix2 r e := ⟨i 0, i 1, (ix2_eta i).symm⟩
  pointwise
  rfl

end Cert.AdaRefIdeal.Point

end
-- ==== Proof.LogitsSpec.lean ====
/- The router's logits as a function of the arrays' elements, and why finite arrays make the kernel's sum of three products that
   function. -/
module

public import proofs.«01_k».proof.Proof.PostmixSpec

@[expose] public section

noncomputable section

namespace Cert.LogitsSpec

open Idealize.ShloMosaic Cert.LayerSpec Cert.PostmixSpec

/-- An element that is a real number. -/
def Real (x : EReal) : Prop := ∃ r : ℝ, x = (r : EReal)

/-- An element that is a nonnegative real number. -/
def Nonneg (x : EReal) : Prop := ∃ r : ℝ, 0 ≤ r ∧ x = (r : EReal)

theorem Real.add {x y : EReal} : Real x → Real y → Real (x + y) := by
  rintro ⟨a, rfl⟩ ⟨b, rfl⟩
  exact ⟨a + b, (EReal.coe_add a b).symm⟩

theorem Real.sub {x y : EReal} : Real x → Real y → Real (x - y) := by
  rintro ⟨a, rfl⟩ ⟨b, rfl⟩
  exact ⟨a - b, (EReal.coe_sub a b).symm⟩

theorem Real.mul {x y : EReal} : Real x → Real y → Real (x * y) := by
  rintro ⟨a, rfl⟩ ⟨b, rfl⟩
  exact ⟨a * b, (EReal.coe_mul a b).symm⟩

theorem Real.sum {n : ℕ} {f : Fin n → EReal} (h : ∀ k, Real (f k)) : Real (∑ k, f k) :=
  Finset.sum_induction f Real (fun _ _ => Real.add) ⟨0, rfl⟩ fun k _ => h k

theorem Real.sub_self {x : EReal} : Real x → x - x = 0 := by
  rintro ⟨a, rfl⟩
  rw [← EReal.coe_sub, _root_.sub_self]
  rfl

theorem Nonneg.add (x y : EReal) : Nonneg x → Nonneg y → Nonneg (x + y) := by
  rintro ⟨a, ha, rfl⟩ ⟨b, hb, rfl⟩
  exact ⟨a + b, add_nonneg ha hb, (EReal.coe_add a b).symm⟩

theorem Real.sq {x : EReal} : Real x → Nonneg (x * x) := by
  rintro ⟨a, rfl⟩
  exact ⟨a * a, mul_self_nonneg a, (EReal.coe_mul a a).symm⟩

theorem count_eq : Ideal.ofBits .f32 0x44800000#32 = ((1024 : ℝ) : EReal) := by
  simp [Ideal.ofBits, Ideal.ieee, -EReal.coe_mul]; norm_num

theorem eps_eq : Ideal.ofBits .f32 0x3727C5AC#32 = ((10995116 / 1099511627776 : ℝ) : EReal) := by
  simp [Ideal.ofBits, Ideal.ieee, -EReal.coe_mul]; norm_num

theorem alpha_eq : Ideal.ofBits .f32 0x3F9837F0#32 = ((9975792 / 8388608 : ℝ) : EReal) := by
  simp [Ideal.ofBits, Ideal.ieee, -EReal.coe_mul]; norm_num

theorem Real.mean {x : EReal} (h : Real x) : Real (Ideal.div x (Ideal.ofBits .f32 0x44800000#32)) := by
  rw [count_eq, Ideal.div_coe (by norm_num)]
  exact h.mul ⟨_, rfl⟩

theorem Nonneg.mean {x : EReal} : Nonneg x → Nonneg (Ideal.div x (Ideal.ofBits .f32 0x44800000#32)) := by
  rintro ⟨a, ha, rfl⟩
  rw [count_eq, Ideal.div_coe (by norm_num)]
  exact ⟨a * (1 / 1024), by positivity, (EReal.coe_mul _ _).symm⟩

theorem Nonneg.rsqrt {x : EReal} : Nonneg x → Real (Ideal.rsqrt (x + Ideal.ofBits .f32 0x3727C5AC#32)) := by
  rintro ⟨a, ha, rfl⟩
  have hp : 0 < a + 10995116 / 1099511627776 := by positivity
  rw [eps_eq, ← EReal.coe_add, Ideal.rsqrt_coe, if_neg (not_lt.2 hp.le), if_neg hp.ne']
  exact ⟨_, rfl⟩

theorem real_centred {z : Fin 1024 → EReal} (h : ∀ d, Real (z d)) (d : Fin 1024) : Real (centred z d) :=
  (h d).sub (Real.sum h).mean

theorem real_lnorm {z : Fin 1024 → EReal} (h : ∀ d, Real (z d)) (d : Fin 1024) : Real (lnorm z d) :=
  (real_centred h d).mul (Nonneg.mean (Finset.sum_induction _ Nonneg Nonneg.add ⟨0, le_refl 0, rfl⟩
    fun k _ => (real_centred h k).sq)).rsqrt

section Arrays

variable (A B : FVec Ideal ⟨2, ![16384, 1024]⟩ .bf16) (P : FVec Ideal ⟨2, ![16384, 7168]⟩ .bf16)
  (X : FVec Ideal ⟨3, ![8, 2048, 1024]⟩ .f32) (G Sh Sc : FVec Ideal ⟨2, ![8, 1024]⟩ .f32) (Lg Lb : FVec Ideal ⟨1, ![1024]⟩ .f32)
  (Pa Wo : FVec Ideal ⟨2, ![1024, 1024]⟩ .bf16) (W : FVec Ideal ⟨2, ![1024, 64]⟩ .f32)

/-- Every array's elements are real numbers. -/
structure AllReal : Prop where
  a : ∀ i, Real (A i)
  b : ∀ i, Real (B i)
  p : ∀ i, Real (P i)
  x : ∀ i, Real (X i)
  g : ∀ i, Real (G i)
  sh : ∀ i, Real (Sh i)
  sc : ∀ i, Real (Sc i)
  lg : ∀ i, Real (Lg i)
  lb : ∀ i, Real (Lb i)
  pa : ∀ i, Real (Pa i)
  wo : ∀ i, Real (Wo i)
  w : ∀ i, Real (W i)

variable {A B P X G Sh Sc Lg Lb Pa Wo W}

theorem real_row1 (h : AllReal A B P X G Sh Sc Lg Lb Pa Wo W) (n : Fin 16384) (e : Fin 1024) : Real (row1 A B P X G Lg Lb Pa Wo n e) := by
  unfold row1 norm1
  refine ((real_lnorm (fun d => ?_) e).mul (h.lg _)).add (h.lb _)
  refine (Real.mul ⟨_, alpha_eq⟩ (h.x _)).add ((h.g _).mul ?_)
  exact Real.sum fun k => ((h.b _).add ((h.p _).mul (Real.sum fun j => (h.a _).mul (h.pa _)))).mul (h.wo _)

theorem real_row2 (h : AllReal A B P X G Sh Sc Lg Lb Pa Wo W) (n : Fin 16384) (e : Fin 1024) :
    Real (row2 A B P X G Sh Sc Lg Lb Pa Wo n e) :=
  ((real_lnorm (fun d => real_row1 h n d) e).mul (Real.add ⟨1, rfl⟩ (h.sc _))).add (h.sh _)

variable (A B P X G Sh Sc Lg Lb Pa Wo W)

/-- A token's logit for the expert of lane `l`: 64 experts, given twice. -/
def logit (n : Fin 16384) (l : Fin 128) : EReal :=
  ∑ k, row2 A B P X G Sh Sc Lg Lb Pa Wo n k * W (ix2 k ⟨l % 64, Nat.mod_lt _ (by decide)⟩)

/-- The result array. -/
def result (i : (⟨2, ![16384, 128]⟩ : Shape).Idx) : EReal := logit A B P X G Sh Sc Lg Lb Pa Wo W (i 0) (i 1)

/-- A column of the router's weights as the kernel takes them: the weights, then what rounding left of them. -/
def lane (k : Fin 1024) (l : Fin 128) : EReal :=
  if h : l.val < 64 then W (ix2 k ⟨l, h⟩) else W (ix2 k ⟨l - 64, by omega⟩) - W (ix2 k ⟨l - 64, by omega⟩)

/-- The three products of one row that the kernel adds up. -/
def products (u : Fin 1024 → EReal) (v : Fin 1024 → Fin 128 → EReal) (l : Fin 128) : EReal :=
  (∑ k, u k * v k l) + (∑ k, u k * v k ⟨(l + 64) % 128, Nat.mod_lt _ (by decide)⟩) + ∑ k, (u k - u k) * v k l

variable {W}

theorem products_eq (u : Fin 1024 → EReal) (hu : ∀ k, Real (u k)) (hw : ∀ i, Real (W i)) (l : Fin 128) :
    products u (lane W) l = ∑ k, u k * W (ix2 k ⟨l % 64, Nat.mod_lt _ (by decide)⟩) := by
  unfold products
  have h3 : ∑ k, (u k - u k) * lane W k l = 0 := Finset.sum_eq_zero fun k _ => by rw [(hu k).sub_self, zero_mul]
  rw [h3, add_zero]
  by_cases h : l.val < 64
  · have h1 : ∀ k, lane W k l = W (ix2 k ⟨l % 64, Nat.mod_lt _ (by decide)⟩) := fun k => by
      unfold lane
      rw [dif_pos h]
      exact congrArg (fun j => W (ix2 k j)) (Fin.ext (Nat.mod_eq_of_lt h).symm)
    have h2 : ∀ k, lane W k ⟨(l + 64) % 128, Nat.mod_lt _ (by decide)⟩ = 0 := fun k => by
      unfold lane
      rw [dif_neg (by show ¬ (l.val + 64) % 128 < 64; omega)]
      exact (hw _).sub_self
    simp only [h1, h2, mul_zero, Finset.sum_const_zero, add_zero]
  · have h1 : ∀ k, lane W k l = 0 := fun k => by
      unfold lane
      rw [dif_neg h]
      exact (hw _).sub_self
    have h2 : ∀ k, lane W k ⟨(l + 64) % 128, Nat.mod_lt _ (by decide)⟩ = W (ix2 k ⟨l % 64, Nat.mod_lt _ (by decide)⟩) := fun k => by
      unfold lane
      have hl := l.isLt
      rw [dif_pos (by show (l.val + 64) % 128 < 64; omega)]
      exact congrArg (fun j => W (ix2 k j)) (Fin.ext (by show (l.val + 64) % 128 = l.val % 64; omega))
    simp only [h1, h2, mul_zero, Finset.sum_const_zero, zero_add]

end Arrays

end Cert.LogitsSpec

end
-- ==== Proof.LogitsFinite.lean ====
/- What the precondition says of the arrays: every element is a real number. -/
module

public import proofs.«01_k».proof.Pre_finite
public import proofs.«01_k».proof.Proof.LogitsSpec
public import Idealize.ShloMosaic.Lib.ReduceAll

@[expose] public section

noncomputable section

namespace Cert.LogitsFinite

open Idealize.ShloMosaic Cert.Pre_finite Cert.LogitsSpec

theorem top_eq : Ideal.ofBits .f32 0x7F800000#32 = (⊤ : EReal) := by
  simp [Ideal.ofBits, Ideal.ieee]

/-- An element whose absolute value is less than infinity is a real number. -/
theorem real_of_lt (x : EReal) (h : Ideal.cmp .olt (max x (-x)) ⊤ = 1#1) : Real x := by
  have hlt : max x (-x) < ⊤ := by
    by_contra hn
    simp [Ideal.cmp, hn] at h
  induction x using EReal.rec with
  | bot => simp at hlt
  | coe r => exact ⟨r, rfl⟩
  | top => simp at hlt

/-- The one index of a result without axes. -/
instance : Subsingleton S_.Idx := ⟨fun a b => funext fun k => k.elim0⟩

/-- One array's test. -/
theorem real_of_all {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant S_ .f32 0x7F800000#32))) (constantI S_ 1 1#1) h hu j = 1#1)
    (i : s.Idx) : Real (x i) := by
  have e' := Host.reduce_andi_all _ _ _ _ j e i
  refine real_of_lt (x i) ?_
  rw [← top_eq]
  exact e'

/-- Both of two tests. -/
theorem both (x y : IVec S_ 1) (j : S_.Idx) (h : andi x y j = 1#1) : x j = 1#1 ∧ y j = 1#1 := IntOp.andi_eq_one.1 h

variable [Facts]

variable (A B : FVec Ideal S16384x1024 .bf16) (P : FVec Ideal S16384x7168 .bf16)
  (X : FVec Ideal S8x2048x1024 .f32) (G Sh Sc : FVec Ideal S8x1024 .f32) (Lg Lb : FVec Ideal S1024 .f32)
  (Pa Wo : FVec Ideal S1024x1024 .bf16) (W : FVec Ideal S1024x64 .f32)

theorem allReal (h : fn (F := Ideal) A B P X G Sh Sc Lg Lb Pa Wo W = fun _ => 1#1) : AllReal A B P X G Sh Sc Lg Lb Pa Wo W := by
  have j : S_.Idx := fun k => k.elim0
  have e := congrFun h j
  unfold fn fn_part1 fn_part2 fn_part3 at e
  obtain ⟨e, e11⟩ := both _ _ j e
  obtain ⟨e, e10⟩ := both _ _ j e
  obtain ⟨e, e9⟩ := both _ _ j e
  obtain ⟨e, e8⟩ := both _ _ j e
  obtain ⟨e, e7⟩ := both _ _ j e
  obtain ⟨e, e6⟩ := both _ _ j e
  obtain ⟨e, e5⟩ := both _ _ j e
  obtain ⟨e, e4⟩ := both _ _ j e
  obtain ⟨e, e3⟩ := both _ _ j e
  obtain ⟨e, e2⟩ := both _ _ j e
  obtain ⟨e, e1⟩ := both _ _ j e
  obtain ⟨_, e0⟩ := both _ _ j e
  exact ⟨real_of_all _ _ _ _ j e0, real_of_all _ _ _ _ j e1, real_of_all _ _ _ _ j e2, real_of_all _ _ _ _ j e3,
    real_of_all _ _ _ _ j e4, real_of_all _ _ _ _ j e5, real_of_all _ _ _ _ j e6, real_of_all _ _ _ _ j e7,
    real_of_all _ _ _ _ j e8, real_of_all _ _ _ _ j e9, real_of_all _ _ _ _ j e10, real_of_all _ _ _ _ j e11⟩

end Cert.LogitsFinite

end
-- ==== Proof.LogitsValue.lean ====
/- What the merge's third array holds after the call, where every argument is finite. -/
module

public import proofs.«01_k».proof.Proof.Gen.LogitsIdeal.Value
public import proofs.«01_k».proof.Proof.LogitsSpec
public import Idealize.ShloMosaic.Lib.Pipeline.ValueKit
public import Idealize.ShloMosaic.Lib.Claim
public import Idealize.ShloMosaic.Lib.Pointwise
public import Idealize.ShloMosaic.Lib.KernelVsHost

@[expose] public section

set_option maxRecDepth 16384

noncomputable section

namespace Cert.LogitsIdeal.Whole

open Idealize.ShloMosaic Idealize.ShloMosaic.Tactic Idealize.SL.Sem
open Cert.LogitsIdeal Cert.LogitsIdeal.Gen Cert.LogitsIdeal.Value Cert.LayerSpec Cert.PostmixSpec Cert.LogitsSpec

theorem idx0 : ∀ t : Fin cfg0.N, win0_0.index t = ![t.val, 0] :=
  (by decide +kernel : ∀ t : Fin grid0.N, _)
theorem idx1 : ∀ t : Fin cfg0.N, win0_1.index t = ![t.val, 0] :=
  (by decide +kernel : ∀ t : Fin grid0.N, _)
theorem idx2 : ∀ t : Fin cfg0.N, win0_2.index t = ![t.val, 6] :=
  (by decide +kernel : ∀ t : Fin grid0.N, _)
theorem idx3 : ∀ t : Fin cfg0.N, win0_3.index t = ![t.val, 0] :=
  (by decide +kernel : ∀ t : Fin grid0.N, _)
theorem idx4 : ∀ t : Fin cfg0.N, win0_4.index t = ![t.val / 2, 0, 0] :=
  (by decide +kernel : ∀ t : Fin grid0.N, _)
theorem idx5 : ∀ t : Fin cfg0.N, win0_5.index t = ![t.val / 2, 0, 0] :=
  (by decide +kernel : ∀ t : Fin grid0.N, _)
theorem idx6 : ∀ t : Fin cfg0.N, win0_6.index t = ![t.val / 2, 0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![0, 0] :=
  (by decide +kernel : ∀ t : Fin grid0.N, _)
theorem idx9 : ∀ t : Fin cfg0.N, win0_9.index t = ![0, 0] :=
  (by decide +kernel : ∀ t : Fin grid0.N, _)
theorem idx10 : ∀ t : Fin cfg0.N, win0_10.index t = ![0, 0] :=
  (by decide +kernel : ∀ t : Fin grid0.N, _)
theorem idx11 : ∀ t : Fin cfg0.N, win0_11.index t = ![0, 0] :=
  (by decide +kernel : ∀ t : Fin grid0.N, _)
theorem idx14 : ∀ t : Fin cfg0.N, win0_14.index t = ![t.val, 0] :=
  (by decide +kernel : ∀ t : Fin grid0.N, _)

theorem row_lt (t : Fin cfg0.N) (r : Fin 1024) : 1024 * t.val + r.val < 16384 := by
  have := t.isLt; have := r.isLt; have h : cfg0.N = 16 := N_0; omega

theorem batch_lt (t : Fin cfg0.N) : t.val / 2 < 8 := by
  have := t.isLt; have h : cfg0.N = 16 := N_0; omega

/-- Row `r` of the point's block of tokens. -/
def row (t : Fin cfg0.N) (r : Fin 1024) : Fin 16384 := ⟨1024 * t.val + r.val, row_lt t r⟩

section Payloads

variable (a b g : FVec Ideal S512x1024 .bf16) (pa wo : FVec Ideal S1024x1024 .bf16) (x v w : FVec Ideal S512x1024 .f32)
  (g1 sc sh : FVec Ideal S1x1x1024 .f32) (q lg lb : FVec Ideal S1x1024 .f32) (s : FVec Ideal S512x1 .f32) (r : Fin 512) (e : Fin 1024)

theorem pay4_apply : k0_pay4 (F := Ideal) a pa b g wo (ix2 r e)
    = mix (fun x => a (ix2 r x)) (fun x => b (ix2 r x)) (fun x => g (ix2 r x)) (fun j k => pa (ix2 j k)) (fun k e => wo (ix2 k e)) e := by
  unfold mix
  pointwise [k0_pay4]

theorem pay5_apply : k0_pay5 (F := Ideal) a pa b g wo (ix2 r e)
    = mix (fun x => a (ix2 r x)) (fun x => b (ix2 r x)) (fun x => g (ix2 r x)) (fun j k => pa (ix2 j k)) (fun k e => wo (ix2 k e)) e := by
  unfold mix
  pointwise [k0_pay5]

theorem pay6_apply : k0_pay6 (F := Ideal) x (ix2 r e) = Ideal.ofBits .f32 0x3F9837F0#32 * x (ix2 r e) := by
  pointwise [k0_pay6]

theorem pay13_apply : k0_pay13 (F := Ideal) x (ix2 r e) = Ideal.ofBits .f32 0x3F9837F0#32 * x (ix2 r e) := by
  pointwise [k0_pay13]

theorem pay14_apply : k0_pay14 (F := Ideal) g1 (ix2 0 e) = g1 (ix3 0 0 e) := by
  pointwise [k0_pay14]

theorem pay7_apply : k0_pay7 (F := Ideal) v w g1 lg lb (ix2 r e)
    = lnorm (fun d => w (ix2 r d) + g1 (ix3 0 0 d) * v (ix2 r d)) e * lg (ix2 0 e) + lb (ix2 0 e) := by
  unfold lnorm centred
  pointwise [k0_pay7]

theorem pay15_apply : k0_pay15 (F := Ideal) v w q lg lb (ix2 r e)
    = lnorm (fun d => w (ix2 r d) + q (ix2 0 d) * v (ix2 r d)) e * lg (ix2 0 e) + lb (ix2 0 e) := by
  unfold lnorm centred
  pointwise [k0_pay15]

theorem pay8_apply : k0_pay8 (F := Ideal) v w g1 lg lb (ix2 r e) = centred (fun d => k0_pay7 (F := Ideal) v w g1 lg lb (ix2 r d)) e := by
  unfold centred
  pointwise [k0_pay8]

theorem pay9_apply : k0_pay9 (F := Ideal) v w g1 lg lb (ix2 r 0)
    = Ideal.rsqrt (Ideal.div (∑ x, centred (fun d => k0_pay7 (F := Ideal) v w g1 lg lb (ix2 r d)) x
        * centred (fun d => k0_pay7 (F := Ideal) v w g1 lg lb (ix2 r d)) x) (Ideal.ofBits .f32 0x44800000#32) + Ideal.ofBits .f32 0x3727C5AC#32) := by
  pointwise [k0_pay9]
  simp only [pay8_apply]

theorem pay16_apply : k0_pay16 (F := Ideal) v w q lg lb (ix2 r e) = centred (fun d => k0_pay15 (F := Ideal) v w q lg lb (ix2 r d)) e := by
  unfold centred
  pointwise [k0_pay16]

theorem pay17_apply : k0_pay17 (F := Ideal) v w q lg lb (ix2 r e)
    = Ideal.rsqrt (Ideal.div (∑ x, centred (fun d => k0_pay15 (F := Ideal) v w q lg lb (ix2 r d)) x
        * centred (fun d => k0_pay15 (F := Ideal) v w q lg lb (ix2 r d)) x) (Ideal.ofBits .f32 0x44800000#32) + Ideal.ofBits .f32 0x3727C5AC#32) := by
  pointwise [k0_pay17]
  simp only [pay16_apply]

theorem pay10_apply : k0_pay10 (F := Ideal) v s sc sh (ix2 r e)
    = v (ix2 r e) * s (ix2 r 0) * (1 + sc (ix3 0 0 e)) + sh (ix3 0 0 e) := by
  pointwise [k0_pay10]

theorem pay1_apply : k0_pay1 (F := Ideal) v w sc sh (ix2 r e)
    = v (ix2 r e) * w (ix2 r e) * (1 + sc (ix3 0 0 e)) + sh (ix3 0 0 e) := by
  pointwise [k0_pay1]

variable (p : FVec Ideal S1024x128 .bf16)

theorem pay3_apply (l : Fin 128) : k0_pay3 (F := Ideal) v w sc sh p p (ix2 r l)
    = products (fun k => k0_pay1 (F := Ideal) v w sc sh (ix2 r k)) (fun k l => p (ix2 k l)) l := by
  unfold products
  pointwise [k0_pay3]
  simp only [show l.val + 128 - 64 = l.val + 64 by omega]

theorem pay12_apply (l : Fin 128) : k0_pay12 (F := Ideal) v s sc sh p p (ix2 r l)
    = products (fun k => k0_pay10 (F := Ideal) v s sc sh (ix2 r k)) (fun k l => p (ix2 k l)) l := by
  unfold products
  pointwise [k0_pay12]
  simp only [show l.val + 128 - 64 = l.val + 64 by omega]

end Payloads

section Blocks

variable (x0 x1 x2 : FVec Ideal S1024x1024 .bf16) (x3 : FVec Ideal S1024x1024 .f32) (x4 x5 x6 : FVec Ideal S1x1x1024 .f32)
  (x7 x8 : FVec Ideal S1x1024 .f32) (x9 x10 : FVec Ideal S1024x1024 .bf16) (x11 : FVec Ideal S1024x128 .bf16)

/-- The first block's row, of the blocks read. -/
def blockRow (r e : Fin 1024) : EReal :=
  norm1 (fun x => x3 (ix2 r x)) (fun x => x4 (ix3 0 0 x))
    (mix (fun x => x0 (ix2 r x)) (fun x => x1 (ix2 r x)) (fun x => x2 (ix2 r x)) (fun j k => x9 (ix2 j k)) (fun k e => x10 (ix2 k e)))
    (fun x => x7 (ix2 0 x)) (fun x => x8 (ix2 0 x)) e

/-- The second result's row, of the blocks read. -/
def blockRow2 (r e : Fin 1024) : EReal :=
  modulated (blockRow x0 x1 x2 x3 x4 x7 x8 x9 x10 r) (fun x => x5 (ix3 0 0 x)) (fun x => x6 (ix3 0 0 x)) e

/-- The block written at a point, of the blocks read. -/
def block (y : S1024x128.Idx) : EReal := products (blockRow2 x0 x1 x2 x3 x4 x5 x6 x7 x8 x9 x10 (y 0)) (fun k l => x11 (ix2 k l)) (y 1)

/-- Row `r` of a piece of 512 rows that starts at row `o`. -/
theorem emb_at (o : ℕ) (ho : o + 512 ≤ 1024) (inb : ∀ a, (![o, 0] : Fin 2 → ℕ) a + S512x1024.size a ≤ S1024x1024.size a) (r : Fin 512) (e : Fin 1024) :
    (Rect.unit (s := S1024x1024) ![o, 0] S512x1024.size inb).idx (ix2 r e) = ix2 ⟨o + r.val, by omega⟩ e := by
  funext a
  apply Fin.ext
  match a with
  | ⟨0, _⟩ => show o + 1 * r.val = o + r.val; omega
  | ⟨1, _⟩ => show 0 + 1 * e.val = e.val; omega

/-- The same of the lanes. -/
theorem emb_lane (o : ℕ) (ho : o + 512 ≤ 1024) (inb : ∀ a, (![o, 0] : Fin 2 → ℕ) a + S512x128.size a ≤ S1024x128.size a) (r : Fin 512) (l : Fin 128) :
    (Rect.unit (s := S1024x128) ![o, 0] S512x128.size inb).idx (ix2 r l) = ix2 ⟨o + r.val, by omega⟩ l := by
  funext a
  apply Fin.ext
  match a with
  | ⟨0, _⟩ => show o + 1 * r.val = o + r.val; omega
  | ⟨1, _⟩ => show 0 + 1 * l.val = l.val; omega

theorem ld_router (x : FVec Ideal S1024x128 .bf16) : View.ld (Val := Elt Ideal) (e' := .bf16) x r0_5 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem ld_vec (x : FVec Ideal S1x1x1024 .f32) : View.ld (Val := Elt Ideal) (e' := .f32) x r0_3 = x := by
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem ld_ln (x : FVec Ideal S1x1024 .f32) : View.ld (Val := Elt Ideal) (e' := .f32) x r0_4 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem ld_mat (x : FVec Ideal S1024x1024 .bf16) : View.ld (Val := Elt Ideal) (e' := .bf16) x r0_1 = x := by
  funext y
  refine congrArg x (funext fun a => Fin.ext ?_)
  match a with
  | ⟨0, _⟩ => show 0 + 1 * (y 0).val = (y 0).val; omega
  | ⟨1, _⟩ => show 0 + 1 * (y 1).val = (y 1).val; omega

/-- A piece's row of the first result. -/
theorem first (o : ℕ) (ho : o + 512 ≤ 1024) (inb : ∀ a, (![o, 0] : Fin 2 → ℕ) a + S512x1024.size a ≤ S1024x1024.size a) (r : Fin 512) (e : Fin 1024) :
    k0_pay7 (F := Ideal) (k0_pay4 (fun y => x0 ((Rect.unit (s := S1024x1024) ![o, 0] S512x1024.size inb).idx y)) x9 (fun y => x1 ((Rect.unit (s := S1024x1024) ![o, 0] S512x1024.size inb).idx y)) (fun y => x2 ((Rect.unit (s := S1024x1024) ![o, 0] S512x1024.size inb).idx y)) x10)
        (k0_pay6 (fun y => x3 ((Rect.unit (s := S1024x1024) ![o, 0] S512x1024.size inb).idx y))) x4 x7 x8 (ix2 r e)
      = blockRow x0 x1 x2 x3 x4 x7 x8 x9 x10 ⟨o + r.val, by omega⟩ e := by
  simp only [pay7_apply, pay4_apply, pay6_apply, emb_at o ho]
  rfl

/-- The other half's row of the first result. -/
theorem first' (o : ℕ) (ho : o + 512 ≤ 1024) (inb : ∀ a, (![o, 0] : Fin 2 → ℕ) a + S512x1024.size a ≤ S1024x1024.size a) (r : Fin 512) (e : Fin 1024) :
    k0_pay15 (F := Ideal) (k0_pay5 (fun y => x0 ((Rect.unit (s := S1024x1024) ![o, 0] S512x1024.size inb).idx y)) x9 (fun y => x1 ((Rect.unit (s := S1024x1024) ![o, 0] S512x1024.size inb).idx y)) (fun y => x2 ((Rect.unit (s := S1024x1024) ![o, 0] S512x1024.size inb).idx y)) x10)
        (k0_pay13 (fun y => x3 ((Rect.unit (s := S1024x1024) ![o, 0] S512x1024.size inb).idx y))) (k0_pay14 x4) x7 x8 (ix2 r e)
      = blockRow x0 x1 x2 x3 x4 x7 x8 x9 x10 ⟨o + r.val, by omega⟩ e := by
  simp only [pay15_apply, pay5_apply, pay13_apply, pay14_apply, emb_at o ho]
  rfl

theorem out14_eq (y : S1024x128.Idx) : out0_14 (F := Ideal) x0 x1 x2 x3 x4 x5 x6 x7 x8 x9 x10 x11 y = block x0 x1 x2 x3 x4 x5 x6 x7 x8 x9 x10 x11 y := by
  unfold_out out0_14
  simp only [ld_vec, ld_ln, ld_mat, ld_router]
  refine View.canon_apply_of_pieces (Val := Elt Ideal) (block x0 x1 x2 x3 x4 x5 x6 x7 x8 x9 x10 x11) _ ?_ y (cover0_14 _ _ y)
  intro p hp x
  simp only [List.mem_cons, List.not_mem_nil, or_false] at hp
  rcases hp with rfl | rfl
  all_goals
    obtain ⟨r, l, rfl⟩ : ∃ (r : Fin 512) (l : Fin 128), x = ix2 r l := ⟨x 0, x 1, (ix2_eta (n0 := 512) (n1 := 128) x).symm⟩
  · refine Eq.trans ?_ (congrArg (block x0 x1 x2 x3 x4 x5 x6 x7 x8 x9 x10 x11) (emb_lane 512 (by omega) (by decide) r l)).symm
    refine (pay3_apply _ _ _ _ r _ l).trans ?_
    refine congrArg (fun z => products z (fun k l => x11 (ix2 k l)) l) (funext fun e => ?_)
    refine (pay1_apply _ _ _ _ r e).trans ?_
    rw [pay16_apply, pay17_apply]
    exact congrArg (fun z => modulated z (fun x => x5 (ix3 0 0 x)) (fun x => x6 (ix3 0 0 x)) e) (funext fun d => first' x0 x1 x2 x3 x4 x7 x8 x9 x10 512 (by omega) (by decide) r d)
  · refine Eq.trans ?_ (congrArg (block x0 x1 x2 x3 x4 x5 x6 x7 x8 x9 x10 x11) (emb_lane 0 (by omega) (by decide) r l)).symm
    refine (pay12_apply _ _ _ _ r _ l).trans ?_
    refine congrArg (fun z => products z (fun k l => x11 (ix2 k l)) l) (funext fun e => ?_)
    refine (pay10_apply _ _ _ _ r e).trans ?_
    rw [pay8_apply, pay9_apply]
    exact congrArg (fun z => modulated z (fun x => x5 (ix3 0 0 x)) (fun x => x6 (ix3 0 0 x)) e) (funext fun d => first x0 x1 x2 x3 x4 x7 x8 x9 x10 0 (by omega) (by decide) r d)

end Blocks

variable (m : (ℓ : Loc nD τ sig) → Buf (Elt Ideal) ℓ) (c : Dev nD)

theorem read0 (t : Fin cfg0.N) (r x : Fin 1024) : iblk m c 0 t (ix2 r x) = m ((c.tc : Thread nD τ).loc main_arg0) (ix2 (row t r) x) := by
  unfold row
  blk_point [iblk, V, idx0 t]

theorem read1 (t : Fin cfg0.N) (r x : Fin 1024) : iblk m c 1 t (ix2 r x) = m ((c.tc : Thread nD τ).loc main_arg1) (ix2 (row t r) x) := by
  unfold row
  blk_point [iblk, V, idx1 t]

theorem read2 (t : Fin cfg0.N) (r x : Fin 1024) : iblk m c 2 t (ix2 r x)
    = m ((c.tc : Thread nD τ).loc main_arg2) (ix2 (row t r) ⟨6144 + x.val, by omega⟩) := by
  unfold row
  blk_point [iblk, V, idx2 t]

theorem read3 (t : Fin cfg0.N) (r x : Fin 1024) : iblk m c 3 t (ix2 r x)
    = m ((c.tc : Thread nD τ).loc main_arg3) (ix3 ⟨(row t r).val / 2048, by omega⟩ ⟨(row t r).val % 2048, by omega⟩ x) := by
  have e : ∀ n : Fin 16384, V m c (Pipeline.arrRef spec0 3) (ix2 n x)
      = m ((c.tc : Thread nD τ).loc main_arg3) (ix3 ⟨n / 2048, by omega⟩ ⟨n % 2048, by omega⟩ x) := by
    intro n
    entry_read
    pointwise
  rw [← e]
  unfold row
  blk_point [iblk, idx3 t]

theorem read4 (t : Fin cfg0.N) (x : Fin 1024) :
    iblk m c 4 t (ix3 0 0 x) = m ((c.tc : Thread nD τ).loc main_arg4) (ix2 ⟨t.val / 2, batch_lt t⟩ x) := by
  blk_point [iblk, V, idx4 t]

theorem read5 (t : Fin cfg0.N) (x : Fin 1024) :
    iblk m c 5 t (ix3 0 0 x) = m ((c.tc : Thread nD τ).loc main_arg5) (ix2 ⟨t.val / 2, batch_lt t⟩ x) := by
  blk_point [iblk, V, idx5 t]

theorem read6 (t : Fin cfg0.N) (x : Fin 1024) :
    iblk m c 6 t (ix3 0 0 x) = m ((c.tc : Thread nD τ).loc main_arg6) (ix2 ⟨t.val / 2, batch_lt t⟩ x) := by
  blk_point [iblk, V, idx6 t]

theorem read7 (t : Fin cfg0.N) (x : Fin 1024) : iblk m c 7 t (ix2 0 x) = m ((c.tc : Thread nD τ).loc main_arg7) (ix1 x) := by
  blk_point [iblk, V, idx7 t]

theorem read8 (t : Fin cfg0.N) (x : Fin 1024) : iblk m c 8 t (ix2 0 x) = m ((c.tc : Thread nD τ).loc main_arg8) (ix1 x) := by
  blk_point [iblk, V, idx8 t]

theorem read9 (t : Fin cfg0.N) (x e : Fin 1024) : iblk m c 9 t (ix2 x e) = m ((c.tc : Thread nD τ).loc main_arg9) (ix2 x e) := by
  blk_point [iblk, V, idx9 t]

theorem read10 (t : Fin cfg0.N) (x e : Fin 1024) : iblk m c 10 t (ix2 x e) = m ((c.tc : Thread nD τ).loc main_arg10) (ix2 x e) := by
  blk_point [iblk, V, idx10 t]

theorem read11 (t : Fin cfg0.N) (x : Fin 1024) (l : Fin 128) :
    iblk m c 11 t (ix2 x l) = lane (m ((c.tc : Thread nD τ).loc main_arg11)) x l := by
  have e : V m c (Pipeline.arrRef spec0 11) (ix2 x l) = lane (m ((c.tc : Thread nD τ).loc main_arg11)) x l := by
    entry_read
    unfold lane
    pointwise
  rw [← e]
  blk_point [iblk, idx11 t]

theorem batch_eq (t : Fin cfg0.N) (r : Fin 1024) : (⟨t.val / 2, batch_lt t⟩ : Fin 8) = ⟨(row t r).val / 2048, by omega⟩ := Fin.ext (by
  show t.val / 2 = (1024 * t.val + r.val) / 2048; omega)

theorem row_at (t : Fin cfg0.N) (r e : Fin 1024) : blockRow (iblk m c 0 t) (iblk m c 1 t) (iblk m c 2 t) (iblk m c 3 t) (iblk m c 4 t) (iblk m c 7 t) (iblk m c 8 t) (iblk m c 9 t) (iblk m c 10 t) r e = row1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (row t r) e := by
  unfold blockRow row1
  refine congrFun (congr (congr (congr (congr (congrArg norm1 ?_) ?_) ?_) ?_) ?_) e
  · exact funext fun x => read3 m c t r x
  · exact funext fun x => (read4 m c t x).trans (by rw [batch_eq t r])
  · refine congr (congr (congr (congr (congrArg mix ?_) ?_) ?_) ?_) ?_
    · exact funext fun x => read0 m c t r x
    · exact funext fun x => read1 m c t r x
    · exact funext fun x => read2 m c t r x
    · exact funext fun j => funext fun k => read9 m c t j k
    · exact funext fun j => funext fun k => read10 m c t j k
  · exact funext fun x => read7 m c t x
  · exact funext fun x => read8 m c t x

theorem second_at (t : Fin cfg0.N) (r e : Fin 1024) :
    blockRow2 (iblk m c 0 t) (iblk m c 1 t) (iblk m c 2 t) (iblk m c 3 t) (iblk m c 4 t) (iblk m c 5 t) (iblk m c 6 t) (iblk m c 7 t) (iblk m c 8 t) (iblk m c 9 t) (iblk m c 10 t) r e = row2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (row t r) e := by
  unfold blockRow2 row2
  refine congrFun (congr (congr (congrArg modulated ?_) ?_) ?_) e
  · exact funext fun x => row_at m c t r x
  · exact funext fun x => (read5 m c t x).trans (by rw [batch_eq t r])
  · exact funext fun x => (read6 m c t x).trans (by rw [batch_eq t r])

theorem third_at (h : AllReal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (t : Fin cfg0.N) (r : Fin 1024) (l : Fin 128) :
    block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r l) = logit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (row t r) l := by
  refine Eq.trans ?_ (products_eq (row2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (row t r)) (real_row2 h (row t r)) h.w l)
  exact congrFun (congr (congrArg products (funext fun e => second_at m c t r e)) (funext fun k => funext fun j => read11 m c t k j)) l

/-- The array after the run. -/
theorem whole14 (h : AllReal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) : (dats m 0 c).arrAt 14 cfg0.N = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (dats m 0 c).arrAt_eq_of_covers 14 _ (by decide +kernel) fun t hf y => ?_
  rw [after0_14]
  blk_simp [idx14 t]
  obtain ⟨r, l, rfl⟩ : ∃ (r : Fin 1024) (l : Fin 128), y = ix2 r l := ⟨y 0, y 1, (ix2_eta (n0 := 1024) (n1 := 128) y).symm⟩
  refine (out14_eq _ _ _ _ _ _ _ _ _ _ _ _ (ix2 r l)).trans ?_
  refine (third_at m c h t r l).trans ?_
  refine congrArg (result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (a₁ := ix2 (row t r) l) ?_
  funext a
  apply Fin.ext
  match a with
  | ⟨0, _⟩ => blk_simp [idx14 t, row]; show 1024 * t.val + r.val = t.val * 1024 + r.val; omega
  | ⟨1, _⟩ => blk_simp [idx14 t, row]

end Cert.LogitsIdeal.Whole

end
-- ==== Proof.LogitsRef.lean ====
/- What the reference of the merge's third result computes, at each token and column. -/
module

public import proofs.«01_k».proof.Proof.Gen.LogitsRefIdeal.Run
public import proofs.«01_k».proof.Proof.LogitsSpec

@[expose] public section

set_option maxRecDepth 16384

noncomputable section

namespace Cert.LogitsRefIdeal.Point

open Idealize.ShloMosaic Cert.LogitsRefIdeal Cert.LogitsRefIdeal.Gen Cert.LogitsRefIdeal.Value Cert.LayerSpec Cert.PostmixSpec Cert.LogitsSpec

/-- The merged branches through the output projection. -/
def mixed (Y A : FVec Ideal S16384x1024 .bf16) (P : FVec Ideal S16384x7168 .bf16) (Pa Wo : FVec Ideal S1024x1024 .bf16) :
    FVec Ideal S16384x1024 .f32 :=
  Host.dotGeneral dot_S16384x1024_S1024x1024_S16384x1024_1_0_0_1_n_n none (addf (extf .f32 A bitsLt_bf16_f32) (mulf (extf .f32 (extractStridedSlice S16384x1024 ![0, 6144] P slices_S16384x7168_S16384x1024_0_6144) bitsLt_bf16_f32) (Host.dotGeneral dot_S16384x1024_S1024x1024_S16384x1024_1_0_0_1_n_n none (extf .f32 Y bitsLt_bf16_f32) (extf .f32 Pa bitsLt_bf16_f32)))) (extf .f32 Wo bitsLt_bf16_f32)

/-- The residual stream and the gated branches, before the normalization. -/
def summed (X : FVec Ideal S8x2048x1024 .f32) (G : FVec Ideal S8x1024 .f32) (M : FVec Ideal S16384x1024 .f32) : FVec Ideal S8x2048x1024 .f32 :=
  addf (mulf (broadcastInDim S8x2048x1024 ![] bcast_S_S8x2048x1024 (constant S_ .f32 0x3F9837F0#32)) X) (mulf (broadcastInDim S8x2048x1024 ![0, 1, 2] bcast_S8x1x1024_S8x2048x1024_0_1_2 (broadcastInDim S8x1x1024 ![0, 2] bcast_S8x1024_S8x1x1024_0_2 G)) (shapeCast _ M shapeCasts_S16384x1024_S8x2048x1024))

/-- An array less its rows' means. -/
def less (Z : FVec Ideal S8x2048x1024 .f32) : FVec Ideal S8x2048x1024 .f32 :=
  subf Z (broadcastInDim S8x2048x1024 ![0, 1, 2] bcast_S8x2048x1_S8x2048x1024_0_1_2 (Host.divf (broadcastInDim S8x2048x1 ![0, 1] bcast_S8x2048_S8x2048x1_0_1 (Host.reduceAdd Z (constant S_ .f32 0x00000000#32) reducesTo_S8x2048x1024_S8x2048_d2 h_S_)) (broadcastInDim S8x2048x1 ![] bcast_S_S8x2048x1 (constant S_ .f32 0x44800000#32))))

/-- A centred array scaled by its rows' deviations, then by the norm's own weights. -/
def affine (XC : FVec Ideal S8x2048x1024 .f32) (lg lb : FVec Ideal S1024 .f32) : FVec Ideal S8x2048x1024 .f32 :=
  addf (mulf (mulf XC (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf XC XC) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 lg))) (broadcastInDim S8x2048x1024 ![0, 1, 2] bcast_S1x1x1024_S8x2048x1024_0_1_2 (broadcastInDim S1x1x1024 ![2] bcast_S1024_S1x1x1024_2 lb))

/-- A centred array scaled by its rows' deviations, then modulated. -/
def scaled (XC : FVec Ideal S8x2048x1024 .f32) (sh sc : FVec Ideal S8x1024 .f32) : FVec Ideal S8x2048x1024 .f32 :=
  addf (mulf (mulf XC (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf XC XC) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 sc)))) (broadcastInDim S8x2048x1024 ![0, 1, 2] bcast_S8x1x1024_S8x2048x1024_0_1_2 (broadcastInDim S8x1x1024 ![0, 2] bcast_S8x1024_S8x1x1024_0_2 sh))

/-- An array with a row per token. -/
def flat (Z : FVec Ideal S8x2048x1024 .f32) : FVec Ideal S16384x1024 .f32 := shapeCast _ Z shapeCasts_S8x2048x1024_S16384x1024

/-- Each row's products with the router's columns, given twice. -/
def twice (U : FVec Ideal S16384x1024 .f32) (W : FVec Ideal S1024x64 .f32) : FVec Ideal S16384x128 .f32 :=
  shapeCast _ (broadcastInDim S1x16384x2x64 ![0, 1, 2, 3] bcast_S1x16384x1x64_S1x16384x2x64_0_1_2_3 (shapeCast _ (Host.dotGeneral dot_S16384x1024_S1024x64_S16384x64_1_0_0_1_n_n none U W) shapeCasts_S16384x64_S1x16384x1x64)) shapeCasts_S1x16384x2x64_S16384x128

theorem mixed_apply (Y A P Pa Wo) (n : Fin 16384) (e : Fin 1024) : mixed Y A P Pa Wo (ix2 n e)
    = mix (fun x => Y (ix2 n x)) (fun x => A (ix2 n x)) (fun x => P (ix2 n ⟨6144 + x.val, by omega⟩))
      (fun j k => Pa (ix2 j k)) (fun k e => Wo (ix2 k e)) e := by
  unfold mixed mix
  pointwise

theorem summed_apply (X G M) (b : Fin 8) (r : Fin 2048) (d : Fin 1024) : summed X G M (ix3 b r d)
    = Ideal.ofBits .f32 0x3F9837F0#32 * X (ix3 b r d) + G (ix2 b d) * M (ix2 ⟨b.val * 2048 + r.val, by omega⟩ d) := by
  unfold summed
  pointwise

theorem less_apply (Z) (b : Fin 8) (r : Fin 2048) (d : Fin 1024) :
    less Z (ix3 b r d) = centred (fun x => Z (ix3 b r x)) d := by
  unfold less centred
  pointwise

theorem affine_apply (Z lg lb) (b : Fin 8) (r : Fin 2048) (d : Fin 1024) :
    affine (less Z) lg lb (ix3 b r d) = lnorm (fun x => Z (ix3 b r x)) d * lg (ix1 d) + lb (ix1 d) := by
  unfold affine lnorm
  pointwise
  simp only [less_apply]

theorem scaled_apply (Z sh sc) (b : Fin 8) (r : Fin 2048) (d : Fin 1024) :
    scaled (less Z) sh sc (ix3 b r d)
      = modulated (fun x => Z (ix3 b r x)) (fun x => sh (ix2 b x)) (fun x => sc (ix2 b x)) d := by
  unfold scaled modulated lnorm
  pointwise
  simp only [less_apply]

theorem flat_apply (Z) (n : Fin 16384) (e : Fin 1024) :
    flat Z (ix2 n e) = Z (ix3 ⟨n / 2048, by omega⟩ ⟨n % 2048, by omega⟩ e) := by
  unfold flat
  pointwise

theorem twice_apply (U W) (n : Fin 16384) (l : Fin 128) :
    twice U W (ix2 n l) = ∑ k, U (ix2 n k) * W (ix2 k ⟨l % 64, Nat.mod_lt _ (by decide)⟩) := by
  unfold twice
  pointwise

section Rows

variable (Y A : FVec Ideal S16384x1024 .bf16) (P : FVec Ideal S16384x7168 .bf16) (X : FVec Ideal S8x2048x1024 .f32)
  (G : FVec Ideal S8x1024 .f32) (Lg Lb : FVec Ideal S1024 .f32) (Pa Wo : FVec Ideal S1024x1024 .bf16)

/-- The normalized rows. -/
def normed : FVec Ideal S8x2048x1024 .f32 := affine (less (summed X G (mixed Y A P Pa Wo))) Lg Lb

theorem summed_at (n : Fin 16384) (d : Fin 1024) : summed X G (mixed Y A P Pa Wo) (ix3 ⟨n / 2048, by omega⟩ ⟨n % 2048, by omega⟩ d)
    = Ideal.ofBits .f32 0x3F9837F0#32 * X (ix3 ⟨n / 2048, by omega⟩ ⟨n % 2048, by omega⟩ d)
      + G (ix2 ⟨n / 2048, by omega⟩ d)
        * mix (fun x => Y (ix2 n x)) (fun x => A (ix2 n x)) (fun x => P (ix2 n ⟨6144 + x.val, by omega⟩))
          (fun j k => Pa (ix2 j k)) (fun k e => Wo (ix2 k e)) d := by
  refine (summed_apply X G _ _ _ d).trans ?_
  rw [show (⟨(n.val / 2048) * 2048 + n.val % 2048, by omega⟩ : Fin 16384) = n from Fin.ext (by show n.val / 2048 * 2048 + n.val % 2048 = n.val; omega)]
  rw [mixed_apply]

theorem normed_apply (n : Fin 16384) (d : Fin 1024) :
    normed Y A P X G Lg Lb Pa Wo (ix3 ⟨n / 2048, by omega⟩ ⟨n % 2048, by omega⟩ d) = row1 Y A P X G Lg Lb Pa Wo n d := by
  unfold normed
  rw [affine_apply]
  simp only [summed_at]
  rfl

end Rows

variable (m : (ℓ : Loc nD τ sig) → Buf (Elt Ideal) ℓ) (c : Dev nD)

set_option maxHeartbeats 4000000 in
/-- The result in these words. -/
theorem parts : res_main_v67 m c = twice (flat (scaled (less (normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)))) (m ((c.tc : Thread nD τ).loc main_arg5)) (m ((c.tc : Thread nD τ).loc main_arg6)))) (m ((c.tc : Thread nD τ).loc main_arg11)) := by
  unfold res_main_v67 twice flat scaled normed affine less summed mixed
  rfl

/-- It is the specified one. -/
theorem value : res_main_v67 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [parts]
  funext i
  obtain ⟨n, l, rfl⟩ : ∃ (n : Fin 16384) (l : Fin 128), i = ix2 n l := ⟨i 0, i 1, (ix2_eta i).symm⟩
  refine (twice_apply _ _ n l).trans ?_
  simp only [flat_apply, scaled_apply, normed_apply]
  rfl

end Cert.LogitsRefIdeal.Point

end
-- ==== Proof.RouteOrder.lean ====
/- The order of a top-k: greater values first, and of equal values the lower place first. A round that takes the greatest value
   left, at its lowest place, and overwrites it with minus infinity takes the places in this order, and so does a stable sort. -/
module

public import Idealize.ShloMosaic.Lib.SortPrefix
public import Idealize.ShloMosaic.PureOps.Ideal

@[expose] public section

noncomputable section

namespace Cert.RouteOrder

open Idealize.ShloMosaic
open scoped Classical

variable {n : ℕ}

/-- Place `i` comes before place `j`: its value is greater, or equal and `i` is the lower place. -/
def Ahead (f : Fin n → EReal) (i j : Fin n) : Prop := f j < f i ∨ (f i = f j ∧ i < j)

theorem ahead_irrefl (f : Fin n → EReal) (i : Fin n) : ¬ Ahead f i i := by
  rintro (h | ⟨-, h⟩) <;> exact lt_irrefl _ h

theorem ahead_trans {f : Fin n → EReal} {i j k : Fin n} (h : Ahead f i j) (h' : Ahead f j k) : Ahead f i k := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem ahead_total (f : Fin n → EReal) {i j : Fin n} (h : i ≠ j) : Ahead f i j ∨ Ahead f j i := by
  rcases lt_trichotomy (f i) (f j) with hf | hf | hf
  · exact .inr (.inl hf)
  · rcases lt_or_gt_of_ne h with hl | hl
    · exact .inl (.inr ⟨hf, hl⟩)
    · exact .inr (.inr ⟨hf.symm, hl⟩)
  · exact .inl (.inl hf)

/-- How many places come before a place. -/
def rank (f : Fin n → EReal) (i : Fin n) : ℕ := (Finset.univ.filter fun j => Ahead f j i).card

theorem rank_lt_of_ahead {f : Fin n → EReal} {i j : Fin n} (h : Ahead f i j) : rank f i < rank f j :=
  Finset.card_lt_card ⟨fun k hk => by
      simp only [Finset.mem_filter, Finset.mem_univ, true_and] at hk ⊢
      exact ahead_trans hk h,
    fun hs => ahead_irrefl f i (by
      have := hs (show i ∈ _ by simpa using h)
      simpa using this)⟩

theorem rank_injective (f : Fin n → EReal) : Function.Injective (rank f) := fun i j h => by
  by_contra hne
  rcases ahead_total f hne with ha | ha
  · exact absurd h (rank_lt_of_ahead ha).ne
  · exact absurd h (rank_lt_of_ahead ha).ne'

theorem ahead_of_rank_lt {f : Fin n → EReal} {i j : Fin n} (h : rank f i < rank f j) : Ahead f i j := by
  rcases ahead_total f (i := i) (j := j) (fun e => by rw [e] at h; exact lt_irrefl _ h) with ha | ha
  · exact ha
  · exact absurd h (rank_lt_of_ahead ha).asymm

theorem rank_lt (f : Fin n → EReal) (i : Fin n) : rank f i < n := by
  have h : rank f i < (Finset.univ : Finset (Fin n)).card :=
    Finset.card_lt_card ⟨Finset.filter_subset _ _, fun hs => ahead_irrefl f i (by
      have := hs (Finset.mem_univ i)
      simpa using this)⟩
  simpa using h

/-- Every number below `n` is the rank of one place. -/
theorem exists_rank (f : Fin n → EReal) (r : Fin n) : ∃ i, rank f i = r.val := by
  have hi : Function.Injective (fun i => (⟨rank f i, rank_lt f i⟩ : Fin n)) := fun i j h =>
    rank_injective f (congrArg Fin.val h)
  obtain ⟨i, hi⟩ := Finite.surjective_of_injective hi r
  exact ⟨i, congrArg Fin.val hi⟩

/-- A place whose value is minus infinity comes after at least as many places as hold other values. -/
theorem card_le_rank (f : Fin n → EReal) {i : Fin n} (hi : f i = ⊥) :
    (Finset.univ.filter fun j => f j ≠ ⊥).card ≤ rank f i :=
  Finset.card_le_card fun j hj => by
    simp only [Finset.mem_filter, Finset.mem_univ, true_and] at hj ⊢
    exact .inl (by rw [hi]; exact bot_lt_iff_ne_bot.2 hj)

/-! ## The stable sort -/

theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The place that a stable sort, greater values first, puts at `r` is the place of rank `r`. -/
theorem rank_sortedFrom (f : Fin n → EReal) (B : Fin n → Fin n → Bool) (hB : ∀ k k', B k k' = decide (f k' < f k)) (r : Fin n) :
    rank f (sortedFrom B r) = r.val := by
  have e : sortedFrom B = sortedFrom fun k k' => decide (Ahead f k k') := by
    have hs : sortPositions n B = sortPositions n fun k k' => decide (Ahead f k k') := by
      refine stableSort_congr_later _ _ _ ((List.pairwise_lt_finRange n).imp fun {a b} hab => ?_)
      rw [hB]
      refine decide_eq_decide.2 ⟨.inl, ?_⟩
      rintro (h | ⟨-, h⟩)
      · exact h
      · exact absurd hab h.asymm
    funext k
    unfold sortedFrom
    rw [List.get_of_eq hs]
    rfl
  have hS : StrictTotalBefore fun k k' : Fin n => decide (Ahead f k k') :=
    ⟨fun a => by simpa using ahead_irrefl f a, fun a b c h h' => by
      simp only [decide_eq_true_eq] at h h' ⊢; exact ahead_trans h h',
     fun a b h => by simpa using ahead_total f h⟩
  choose σ hσ using exists_rank f
  have h := hS.sortedFrom_eq_of_prefix (le_refl n) σ
    (fun a b h => Fin.ext (by rw [← hσ a, ← hσ b, h]))
    (fun i j hij => by
      simp only [decide_eq_false_iff_not]
      intro ha
      have := rank_lt_of_ahead ha
      rw [hσ, hσ] at this
      exact absurd hij (by exact_mod_cast this.asymm))
    (fun i p hp => by
      exfalso
      refine hp ⟨rank f p, rank_lt f p⟩ (rank_injective f ?_)
      rw [hσ]) r
  rw [e]
  have h2 : (sortedFrom (fun k k' => decide (Ahead f k k')) r) = σ r := h
  rw [h2, hσ]

/-! ## The rounds -/

/-- A place as a number of the extended reals. -/
def num (i : ℕ) : EReal := ((i : ℝ) : EReal)

theorem num_le {i j : ℕ} : num i ≤ num j ↔ i ≤ j := by
  unfold num
  rw [EReal.coe_le_coe_iff, Nat.cast_le]

theorem num_inj {i j : ℕ} : num i = num j ↔ i = j := by
  unfold num
  rw [EReal.coe_eq_coe_iff, Nat.cast_inj]

/-- The greatest value. -/
def top (v : Fin n → EReal) : EReal := Finset.univ.fold max ⊥ v

/-- The lowest place of the greatest value, as a number. -/
def best (v : Fin n → EReal) : EReal := Finset.univ.fold min ⊤ fun i => if v i = top v then num i.val else num n

/-- A place is the one that a round takes. -/
def Hit (v : Fin n → EReal) (i : Fin n) : Prop := num i.val = best v

/-- The values after a round. -/
def cut (v : Fin n → EReal) (i : Fin n) : EReal := if Hit v i then ⊥ else v i

/-- The values without the first `k` places of the order. -/
def after (f : Fin n → EReal) (k : ℕ) (i : Fin n) : EReal := if rank f i < k then ⊥ else f i

theorem after_zero (f : Fin n → EReal) : after f 0 = f := by
  funext i
  simp [after]

theorem fold_max_eq {v : Fin n → EReal} {x : EReal} (h : ∀ i, v i ≤ x) {i : Fin n} (hi : v i = x) :
    Finset.univ.fold max ⊥ v = x := by
  refine le_antisymm ?_ ?_
  · rw [Finset.fold_max_le]
    exact ⟨bot_le, fun i _ => h i⟩
  · rw [Finset.le_fold_max]
    exact .inr ⟨i, Finset.mem_univ _, hi.ge⟩

theorem fold_min_eq {v : Fin n → EReal} {x : EReal} (h : ∀ i, x ≤ v i) {i : Fin n} (hi : v i = x) :
    Finset.univ.fold min ⊤ v = x := by
  refine le_antisymm ?_ ?_
  · rw [Finset.fold_min_le]
    exact .inr ⟨i, Finset.mem_univ _, hi.le⟩
  · rw [Finset.le_fold_min]
    exact ⟨le_top, fun i _ => h i⟩

/-- After `k` rounds the greatest value is that of the place of rank `k`, if there is one that is not minus infinity. -/
theorem top_after {f : Fin n → EReal} {k : ℕ} {p : Fin n} (hp : rank f p = k) : top (after f k) = f p := by
  refine fold_max_eq (i := p) (fun i => ?_) ?_
  · unfold after
    split
    · exact bot_le
    · next h =>
      rcases eq_or_ne i p with rfl | hne
      · exact le_refl _
      · have : rank f p < rank f i := by
          have hn : rank f i ≠ rank f p := fun e => hne (rank_injective f e)
          omega
        rcases ahead_of_rank_lt this with h | ⟨h, -⟩
        · exact h.le
        · exact h.ge
  · simp [after, hp]

theorem hit_after {f : Fin n → EReal} {k : ℕ} {p : Fin n} (hp : rank f p = k) (hb : f p ≠ ⊥) (i : Fin n) :
    Hit (after f k) i ↔ rank f i = k := by
  have hbest : best (after f k) = num p.val := by
    refine fold_min_eq (i := p) (fun i => ?_) ?_
    · rw [top_after hp]
      split
      · next h =>
        rw [num_le]
        unfold after at h
        split at h
        · exact absurd h.symm hb
        · next hr =>
          rcases eq_or_ne i p with rfl | hne
          · exact le_refl _
          · have : rank f p < rank f i := by
              have hn : rank f i ≠ rank f p := fun e => hne (rank_injective f e)
              omega
            rcases ahead_of_rank_lt this with h' | ⟨-, h'⟩
            · exact absurd h h'.ne
            · exact h'.le
      · exact num_le.2 p.isLt.le
    · rw [top_after hp, if_pos]
      simp [after, hp]
  unfold Hit
  rw [hbest, num_inj, ← hp]
  exact ⟨fun h => by rw [Fin.ext h], fun h => congrArg Fin.val (rank_injective f h)⟩

/-- A round takes the next place of the order. -/
theorem cut_after {f : Fin n → EReal} {k : ℕ} {p : Fin n} (hp : rank f p = k) (hb : f p ≠ ⊥) :
    cut (after f k) = after f (k + 1) := by
  funext i
  unfold cut
  simp only [hit_after hp hb]
  unfold after
  rcases lt_trichotomy (rank f i) k with h | h | h
  · rw [if_neg h.ne, if_pos h, if_pos (by omega)]
  · rw [if_pos h, if_pos (by omega)]
  · rw [if_neg h.ne', if_neg (by omega), if_neg (by omega)]

end Cert.RouteOrder

end
-- ==== Proof.RouteSpec.lean ====
/- The routing of one token, of its experts' weights and the biases their choice adds: the four groups of eight experts whose two
   greatest biased weights add up to most, the eight experts of these with the greatest biased weights, and their weights' shares. -/
module

public import proofs.«01_k».proof.Proof.RouteOrder
public import Idealize.ShloMosaic.Lib.Pointwise

@[expose] public section

noncomputable section

namespace Cert.RouteSpec

open Idealize.ShloMosaic Cert.RouteOrder
open scoped Classical

/-- The expert at place `j` of group `g`. -/
def expert (g j : Fin 8) : Fin 64 := ⟨8 * g.val + j.val, by omega⟩

/-- An expert's group. -/
def groupOf (e : Fin 64) : Fin 8 := ⟨e.val / 8, by omega⟩

/-- An expert's place in its group. -/
def placeOf (e : Fin 64) : Fin 8 := ⟨e.val % 8, by omega⟩

theorem expert_eta (e : Fin 64) : expert (groupOf e) (placeOf e) = e := Fin.ext (by
  show 8 * (e.val / 8) + e.val % 8 = e.val; omega)
theorem groupOf_expert (g j : Fin 8) : groupOf (expert g j) = g := Fin.ext (by
  show (8 * g.val + j.val) / 8 = g.val; omega)
theorem placeOf_expert (g j : Fin 8) : placeOf (expert g j) = j := Fin.ext (by
  show (8 * g.val + j.val) % 8 = j.val; omega)

/-- The place of a rank. -/
def place {n : ℕ} (f : Fin n → EReal) (r : Fin n) : Fin n := (exists_rank f r).choose

theorem rank_place {n : ℕ} (f : Fin n → EReal) (r : Fin n) : rank f (place f r) = r.val := (exists_rank f r).choose_spec

theorem place_eq {n : ℕ} {f : Fin n → EReal} {r i : Fin n} (h : rank f i = r.val) : place f r = i :=
  rank_injective f ((rank_place f r).trans h.symm)

/-- A group's score: its two greatest values added. -/
def pair (f : Fin 8 → EReal) : EReal := f (place f 0) + f (place f 1)

/-- The groups' scores. -/
def scores (f : Fin 64 → EReal) (g : Fin 8) : EReal := pair fun j => f (expert g j)

/-- The values of the experts of the groups kept, minus infinity at the others. -/
def masked (f : Fin 64 → EReal) (e : Fin 64) : EReal := if rank (scores f) (groupOf e) < 4 then f e else ⊥

/-- The weights of the experts chosen, zero at the others. -/
def picked (s f : Fin 64 → EReal) (e : Fin 64) : EReal := if rank (masked f) e < 8 then s e else 0

/-- The gate of an expert. -/
def gate (s f : Fin 64 → EReal) (e : Fin 64) : EReal :=
  Ideal.div (picked s f e) (∑ x, picked s f x) * Ideal.ofBits .f32 0x40200000#32

/-! ## What is not minus infinity -/

theorem pair_ne {f : Fin 8 → EReal} (h : ∀ j, f j ≠ ⊥) : pair f ≠ ⊥ := by
  unfold pair
  rw [Ne, EReal.add_eq_bot_iff]
  rintro (e | e)
  · exact h _ e
  · exact h _ e

theorem scores_ne {f : Fin 64 → EReal} (h : ∀ e, f e ≠ ⊥) (g : Fin 8) : scores f g ≠ ⊥ := pair_ne fun _ => h _

/-- The groups kept have more than eight experts. -/
theorem masked_ne {f : Fin 64 → EReal} (h : ∀ e, f e ≠ ⊥) {e : Fin 64} (he : rank (masked f) e < 8) : masked f e ≠ ⊥ := by
  intro hb
  have hc := card_le_rank (masked f) hb
  have hi : Function.Injective fun j : Fin 8 => expert (place (scores f) 0) j := fun a b hab => by
    have := congrArg placeOf hab
    simpa only [placeOf_expert] using this
  have : 8 ≤ (Finset.univ.filter fun j => masked f j ≠ ⊥).card := by
    have h8 : (Finset.univ.image fun j : Fin 8 => expert (place (scores f) 0) j).card = 8 := by
      rw [Finset.card_image_of_injective _ hi]; rfl
    rw [← h8]
    refine Finset.card_le_card fun x hx => ?_
    simp only [Finset.mem_image, Finset.mem_univ, true_and] at hx
    obtain ⟨j, rfl⟩ := hx
    simp only [Finset.mem_filter, Finset.mem_univ, true_and]
    unfold masked
    rw [groupOf_expert, rank_place, if_pos (by decide)]
    exact h _
  omega

/-- The weights chosen do not add up to zero. -/
theorem total_ne {s f : Fin 64 → EReal} (hs : ∀ e, 0 < s e) : (∑ x, picked s f x) ≠ 0 := by
  have hn : ∀ x, 0 ≤ picked s f x := fun x => by
    unfold picked
    split
    · exact (hs x).le
    · exact le_refl _
  have hle : picked s f (place (masked f) 0) ≤ ∑ x, picked s f x :=
    Finset.single_le_sum (fun x _ => hn x) (Finset.mem_univ _)
  have hp : 0 < picked s f (place (masked f) 0) := by
    unfold picked
    rw [rank_place, if_pos (by decide)]
    exact hs _
  exact (hp.trans_le hle).ne'

/-! ## By rounds -/

theorem top_zero {n : ℕ} {f : Fin n → EReal} (r : Fin n) (h : r.val = 0) : top f = f (place f r) := by
  have := top_after (f := f) (k := 0) (p := place f r) ((rank_place f r).trans h)
  rwa [after_zero] at this

theorem cut_iter {n : ℕ} {f : Fin n → EReal} : ∀ k : ℕ, k ≤ n → (∀ i, rank f i < k → f i ≠ ⊥) → cut^[k] f = after f k
  | 0, _, _ => (after_zero f).symm
  | k + 1, hk, h => by
    rw [Function.iterate_succ', Function.comp_apply, cut_iter k (by omega) fun i hi => h i (by omega)]
    have hr := rank_place f ⟨k, hk⟩
    exact cut_after hr (h _ (by rw [hr]; exact Nat.lt_succ_self k))

theorem hit_iter {n : ℕ} {f : Fin n → EReal} (k : ℕ) (hk : k < n) (h : ∀ i, rank f i ≤ k → f i ≠ ⊥) (i : Fin n) :
    Hit (cut^[k] f) i ↔ rank f i = k := by
  rw [cut_iter k hk.le fun i hi => h i hi.le]
  have hr := rank_place f ⟨k, hk⟩
  exact hit_after hr (h _ hr.le) i

/-- A group's score by two rounds. -/
theorem pair_eq {f : Fin 8 → EReal} (h : ∀ j, f j ≠ ⊥) : top f + top (cut f) = pair f := by
  have e1 : cut f = after f 1 := cut_iter 1 (by decide) fun i _ => h i
  rw [e1, top_after (k := 1) (rank_place f 1), top_zero 0 rfl]
  rfl

/-- The weights of the places that `k` rounds have taken. -/
def taken {n : ℕ} (s f : Fin n → EReal) : ℕ → Fin n → EReal
  | 0 => fun _ => 0
  | k + 1 => fun i => if Hit (cut^[k] f) i then s i else taken s f k i

theorem taken_eq {n : ℕ} {s f : Fin n → EReal} : ∀ k : ℕ, k ≤ n → (∀ i, rank f i < k → f i ≠ ⊥) →
    ∀ i, taken s f k i = if rank f i < k then s i else 0
  | 0, _, _, i => (if_neg (Nat.not_lt_zero _)).symm
  | k + 1, hk, h, i => by
    show (if Hit (cut^[k] f) i then s i else taken s f k i) = _
    rw [taken_eq k (by omega) (fun i hi => h i (by omega)) i]
    simp only [hit_iter k (by omega) (fun i hi => h i (by omega)) i]
    rcases lt_trichotomy (rank f i) k with hl | hl | hl
    · rw [if_neg hl.ne, if_pos hl, if_pos (by omega)]
    · rw [if_pos hl, if_pos (by omega)]
    · rw [if_neg hl.ne', if_neg (by omega), if_neg (by omega)]

/-- The places that four rounds take. -/
theorem four {n : ℕ} {f : Fin n → EReal} (hn : 4 ≤ n) (h : ∀ i, f i ≠ ⊥) (i : Fin n) :
    (((Hit f i ∨ Hit (cut f) i) ∨ Hit (cut (cut f)) i) ∨ Hit (cut (cut (cut f))) i) ↔ rank f i < 4 := by
  have h0 := hit_iter 0 (by omega) (fun i _ => h i) i
  have h1 := hit_iter 1 (by omega) (fun i _ => h i) i
  have h2 := hit_iter 2 (by omega) (fun i _ => h i) i
  have h3 := hit_iter 3 (by omega) (fun i _ => h i) i
  simp only [Function.iterate_succ, Function.iterate_zero, Function.comp_apply, id_eq] at h0 h1 h2 h3
  rw [h0, h1, h2, h3]
  omega

/-- The gates of a token by rounds. -/
theorem picked_eq {s f : Fin 64 → EReal} (h : ∀ e, f e ≠ ⊥) (e : Fin 64) : taken s (masked f) 8 e = picked s f e :=
  taken_eq 8 (by decide) (fun _ hi => masked_ne h hi) e

/-! ## By the ranks' places -/

/-- The weights of the chosen added by rank. -/
theorem total_eq (s f : Fin 64 → EReal) : (∑ r : Fin 8, s (place (masked f) (r.castLE (by decide)))) = ∑ x, picked s f x := by
  unfold picked
  rw [← Finset.sum_filter]
  refine Finset.sum_bij (fun r _ => place (masked f) (r.castLE (by decide))) ?_ ?_ ?_ ?_
  · intro r _
    simp only [Finset.mem_filter, Finset.mem_univ, true_and, rank_place]
    exact r.isLt
  · intro r _ r' _ hr
    have := congrArg (rank (masked f)) hr
    rw [rank_place, rank_place] at this
    exact Fin.ext this
  · intro x hx
    simp only [Finset.mem_filter, Finset.mem_univ, true_and] at hx
    exact ⟨⟨rank (masked f) x, hx⟩, Finset.mem_univ _, place_eq rfl⟩
  · intro _ _
    rfl

/-- The gates by rank: of the expert of each rank its share, at its own place. -/
theorem gate_eq {s f : Fin 64 → EReal} (hs : ∀ e, 0 < s e) (e : Fin 64) :
    (∑ r : Fin 8, (if place (masked f) (r.castLE (by decide)) = e then (1 : EReal) else 0)
      * (Ideal.div (s (place (masked f) (r.castLE (by decide)))) (∑ x, picked s f x) * Ideal.ofBits .f32 0x40200000#32)) = gate s f e := by
  unfold gate
  by_cases he : rank (masked f) e < 8
  · rw [Finset.sum_eq_single (⟨rank (masked f) e, he⟩ : Fin 8)]
    · rw [place_eq (i := e) rfl, if_pos rfl, one_mul]
      congr 2
      unfold picked
      rw [if_pos he]
    · intro r _ hr
      rw [if_neg, zero_mul]
      rintro rfl
      refine hr (Fin.ext ?_)
      show r.val = rank (masked f) _
      rw [rank_place]
      rfl
    · intro h
      exact absurd (Finset.mem_univ _) h
  · rw [Finset.sum_eq_zero]
    · have : picked s f e = 0 := if_neg he
      rw [this, Ideal.div, if_neg (total_ne hs), zero_mul, zero_mul]
    · intro r _
      rw [if_neg, zero_mul]
      rintro rfl
      refine he ?_
      rw [rank_place]
      exact r.isLt

/-! ## Of the arrays -/

variable (L : FVec Ideal ⟨2, ![16384, 128]⟩ .f32) (B : FVec Ideal ⟨1, ![64]⟩ .f32)

/-- A token's weights. -/
def weight (n : Fin 16384) (e : Fin 64) : EReal := Ideal.logistic (L (ix2 n ⟨e.val, by omega⟩))

/-- A token's biased weights. -/
def biased (n : Fin 16384) (e : Fin 64) : EReal := weight L n e + B (ix1 e)

/-- The result: a token's gates, then the shared expert's, which is one, then zeros. -/
def result (i : (⟨2, ![16384, 128]⟩ : Shape).Idx) : EReal :=
  if h : (i 1).val < 64 then gate (weight L (i 0)) (biased L B (i 0)) ⟨(i 1).val, h⟩ else if (i 1).val = 64 then 1 else 0

variable {L B}

theorem weight_pos (h : ∀ (n : Fin 16384) (e : Fin 64), L (ix2 n ⟨e.val, by omega⟩) ≠ ⊥) (n : Fin 16384) (e : Fin 64) : 0 < weight L n e := by
  unfold weight
  have := h n e
  revert this
  generalize L (ix2 n ⟨e.val, by omega⟩) = x
  intro hx
  induction x using EReal.rec with
  | bot => exact absurd rfl hx
  | coe r =>
    rw [Ideal.logistic_coe]
    rw [EReal.coe_pos]
    positivity
  | top => rw [Ideal.logistic_top]; exact zero_lt_one

theorem biased_ne (h : ∀ (n : Fin 16384) (e : Fin 64), L (ix2 n ⟨e.val, by omega⟩) ≠ ⊥) (h' : ∀ e, B (ix1 e) ≠ ⊥) (n : Fin 16384) (e : Fin 64) : biased L B n e ≠ ⊥ := by
  unfold biased
  rw [Ne, EReal.add_eq_bot_iff]
  rintro (e' | e')
  · exact absurd (weight_pos h n e) (by rw [e']; exact not_lt_bot)
  · exact h' _ e'

end Cert.RouteSpec

end
-- ==== Proof.RouteAbove.lean ====
/- What the routing's precondition says: no logit of an expert and no element of the bias is minus infinity. -/
module

public import proofs.«01_k».proof.Pre_above
public import proofs.«01_k».proof.Proof.RouteSpec
public import Idealize.ShloMosaic.Lib.ReduceAll

@[expose] public section

noncomputable section

namespace Cert.RouteAbove

open Idealize.ShloMosaic Cert.Pre_above Cert.RouteSpec

theorem bot_eq : Ideal.ofBits .f32 0xFF800000#32 = (⊥ : EReal) := by
  simp [Ideal.ofBits, Ideal.ieee]

/-- An element greater than minus infinity is not minus infinity. -/
theorem ne_of_gt (x : EReal) (h : Ideal.cmp .ogt x ⊥ = 1#1) : x ≠ ⊥ := by
  rintro rfl
  simp [Ideal.cmp] at h

/-- The one index of a result without axes. -/
instance : Subsingleton S_.Idx := ⟨fun a b => funext fun k => k.elim0⟩

/-- One array's test. -/
theorem ne_of_all {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .ogt x (broadcastInDim s ![] b (constant S_ .f32 0xFF800000#32))) (constantI S_ 1 1#1) h hu j = 1#1)
    (i : s.Idx) : x i ≠ (⊥ : EReal) := by
  have e' := Host.reduce_andi_all _ _ _ _ j e i
  refine ne_of_gt (x i) ?_
  rw [← bot_eq]
  exact e'

variable [Facts] (L : FVec Ideal S16384x128 .f32) (B : FVec Ideal S64 .f32)

theorem above (h : fn (F := Ideal) L B = fun _ => 1#1) :
    (∀ (n : Fin 16384) (e : Fin 64), L (ix2 n ⟨e.val, by omega⟩) ≠ (⊥ : EReal)) ∧ ∀ e : Fin 64, B (ix1 e) ≠ (⊥ : EReal) := by
  have j : S_.Idx := fun k => k.elim0
  have e := congrFun h j
  unfold fn at e
  obtain ⟨e0, e1⟩ := IntOp.andi_eq_one.1 e
  refine ⟨fun n e => ?_, fun e => ne_of_all _ _ _ _ j e1 (ix1 e)⟩
  refine fun hn => ne_of_all _ _ _ _ j e0 (ix2 n e) (Eq.trans (congrArg L ?_) hn)
  funext a
  apply Fin.ext
  match a with
  | ⟨0, _⟩ => show 0 + n.val = n.val; omega
  | ⟨1, _⟩ => show 0 + e.val = e.val; omega

end Cert.RouteAbove

end
-- ==== Proof.RouteRounds.lean ====
/- The rounds of the routing's body, at a token of the block. -/
module

public import proofs.«01_k».proof.Proof.Gen.RouteIdeal.Frame
public import proofs.«01_k».proof.Proof.RouteSpec
public import Idealize.ShloMosaic.Lib.Pointwise

@[expose] public section

set_option maxRecDepth 16384

noncomputable section

namespace Cert.RouteIdeal.Rounds

open Idealize.ShloMosaic Cert.RouteIdeal Cert.RouteIdeal.Gen Cert.RouteOrder Cert.RouteSpec
open scoped Classical

theorem bot_eq : Ideal.ofBits .f32 0xFF800000#32 = (⊥ : EReal) := by
  simp [Ideal.ofBits, Ideal.ieee]

theorem top_eq : Ideal.ofBits .f32 0x7F800000#32 = (⊤ : EReal) := by
  simp [Ideal.ofBits, Ideal.ieee]

/-- The values of a token's experts. -/
def lane (v : FVec Ideal S8x8x2048 .f32) (t : Fin 2048) (e : Fin 64) : EReal := v (ix3 (groupOf e) (placeOf e) t)

theorem lane_expert (v : FVec Ideal S8x8x2048 .f32) (t : Fin 2048) (g j : Fin 8) : lane v t (expert g j) = v (ix3 g j t) := by
  unfold lane
  rw [groupOf_expert, placeOf_expert]

/-- The values of a token's groups. -/
def groups (v : FVec Ideal S8x1x2048 .f32) (t : Fin 2048) (g : Fin 8) : EReal := v (ix3 g 0 t)

/-- A fold over the experts by group. -/
theorem fold_max_expert (f : Fin 64 → EReal) :
    (Finset.univ.fold max ⊥ fun g : Fin 8 => Finset.univ.fold max ⊥ fun j : Fin 8 => f (expert g j)) = Finset.univ.fold max ⊥ f := by
  refine le_antisymm ?_ ?_
  · rw [Finset.fold_max_le]
    refine ⟨bot_le, fun g _ => ?_⟩
    rw [Finset.fold_max_le]
    refine ⟨bot_le, fun j _ => ?_⟩
    rw [Finset.le_fold_max]
    exact .inr ⟨_, Finset.mem_univ _, le_refl _⟩
  · rw [Finset.fold_max_le]
    refine ⟨bot_le, fun e _ => ?_⟩
    rw [Finset.le_fold_max]
    refine .inr ⟨groupOf e, Finset.mem_univ _, ?_⟩
    rw [Finset.le_fold_max]
    refine .inr ⟨placeOf e, Finset.mem_univ _, ?_⟩
    rw [expert_eta]

theorem fold_min_expert (f : Fin 64 → EReal) :
    (Finset.univ.fold min ⊤ fun g : Fin 8 => Finset.univ.fold min ⊤ fun j : Fin 8 => f (expert g j)) = Finset.univ.fold min ⊤ f := by
  refine le_antisymm ?_ ?_
  · rw [Finset.le_fold_min]
    refine ⟨le_top, fun e _ => ?_⟩
    rw [Finset.fold_min_le]
    refine .inr ⟨groupOf e, Finset.mem_univ _, ?_⟩
    rw [Finset.fold_min_le]
    refine .inr ⟨placeOf e, Finset.mem_univ _, ?_⟩
    rw [expert_eta]
  · rw [Finset.le_fold_min]
    refine ⟨le_top, fun g _ => ?_⟩
    rw [Finset.le_fold_min]
    refine ⟨le_top, fun j _ => ?_⟩
    rw [Finset.fold_min_le]
    exact .inr ⟨_, Finset.mem_univ _, le_refl _⟩

theorem sum_expert (f : Fin 64 → EReal) : (∑ g : Fin 8, ∑ j : Fin 8, f (expert g j)) = ∑ e, f e := by
  rw [← Fintype.sum_prod_type']
  refine Fintype.sum_bijective (fun p : Fin 8 × Fin 8 => expert p.1 p.2) ?_ _ _ fun _ => rfl
  refine ⟨fun p q h => ?_, fun e => ⟨(groupOf e, placeOf e), expert_eta e⟩⟩
  have h1 := congrArg groupOf h
  have h2 := congrArg placeOf h
  simp only [groupOf_expert, placeOf_expert] at h1 h2
  exact Prod.ext h1 h2

theorem sitofp_num (i : ℕ) (h : i < 64) : FloatOps.sitofp (F := Ideal) .f32 (BitVec.ofNat 32 i) = num i := by
  show (((BitVec.ofNat 32 i).toInt : ℝ) : EReal) = num i
  have e : (BitVec.ofNat 32 i).toInt = (i : ℤ) := by
    rw [BitVec.toInt_eq_toNat_of_lt] <;> simp only [BitVec.toNat_ofNat] <;> omega
  rw [e]
  unfold num
  norm_cast

theorem ofBits_8 : Ideal.ofBits .f32 0x41000000#32 = num 8 := by
  unfold num
  simp only [Ideal.ofBits, Ideal.ieee, BitVec.extractLsb', BitVec.toNat_ofNat, Nat.shiftRight_eq_div_pow]
  norm_num

theorem ofBits_64 : Ideal.ofBits .f32 0x42800000#32 = num 64 := by
  unfold num
  simp only [Ideal.ofBits, Ideal.ieee, BitVec.extractLsb', BitVec.toNat_ofNat, Nat.shiftRight_eq_div_pow]
  norm_num

theorem pay5_apply (g j : Fin 8) (t : Fin 2048) : k0_pay5 (F := Ideal) (ix3 g j t) = num j.val := by
  pointwise [k0_pay5]
  exact sitofp_num _ (by omega)

theorem pay6_apply (g j : Fin 8) (t : Fin 2048) : k0_pay6 (F := Ideal) (ix3 g j t) = num (expert g j).val := by
  pointwise [k0_pay6]
  rw [pay5_apply, sitofp_num _ (by omega), ofBits_8]
  unfold num expert
  rw [← EReal.coe_mul, ← EReal.coe_add]
  congr 1
  push_cast
  ring

theorem pay8_apply (g : Fin 8) (t : Fin 2048) : k0_pay8 (F := Ideal) (ix3 g 0 t) = num g.val := by
  pointwise [k0_pay8]
  exact sitofp_num _ (by omega)

/-- The place that a round takes. -/
theorem hit_apply (v : FVec Ideal S8x8x2048 .f32) (g j : Fin 8) (t : Fin 2048) :
    k0_pay13 (F := Ideal) k0_pay6 v (ix3 g j t) = BitVec.ofBool (decide (Hit (lane v t) (expert g j))) := by
  pointwise [k0_pay13]
  simp only [pay6_apply, bot_eq, top_eq, ofBits_64]
  simp only [← lane_expert v]
  rw [fold_max_expert]
  rw [fold_min_expert fun e => if lane v t e = Finset.univ.fold max ⊥ (lane v t) then num e.val else num 64]
  congr 1
  exact decide_eq_decide.2 Iff.rfl

theorem select_hit (p : Prop) [Decidable p] (x y : EReal) : Scalar.select (BitVec.ofBool (decide p)) x y = if p then x else y := by
  by_cases h : p <;> simp [h, Scalar.select]

/-- The values after a round. -/
theorem cut_apply (v : FVec Ideal S8x8x2048 .f32) (t : Fin 2048) : lane (k0_pay14 (F := Ideal) k0_pay6 v) t = cut (lane v t) := by
  funext e
  obtain ⟨g, j, rfl⟩ : ∃ g j, e = expert g j := ⟨_, _, (expert_eta e).symm⟩
  rw [lane_expert]
  pointwise [k0_pay14]
  rw [hit_apply, select_hit, bot_eq, ← lane_expert v]
  rfl

/-- The weights that a round adds. -/
def add (s w v : FVec Ideal S8x8x2048 .f32) : FVec Ideal S8x8x2048 .f32 := select (k0_pay13 (F := Ideal) k0_pay6 v) s w

theorem add_apply (s w v : FVec Ideal S8x8x2048 .f32) (t : Fin 2048) (e : Fin 64) :
    lane (add s w v) t e = if Hit (lane v t) e then lane s t e else lane w t e := by
  obtain ⟨g, j, rfl⟩ : ∃ g j, e = expert g j := ⟨_, _, (expert_eta e).symm⟩
  simp only [lane_expert]
  unfold add
  pointwise
  rw [hit_apply, select_hit]

/-- The values after a number of rounds. -/
def cuts (v : FVec Ideal S8x8x2048 .f32) : ℕ → FVec Ideal S8x8x2048 .f32
  | 0 => v
  | k + 1 => k0_pay14 (F := Ideal) k0_pay6 (cuts v k)

/-- The weights after a number of rounds. -/
def adds (s v : FVec Ideal S8x8x2048 .f32) : ℕ → FVec Ideal S8x8x2048 .f32
  | 0 => k0_pay12 (F := Ideal)
  | k + 1 => add s (adds s v k) (cuts v k)

theorem cuts_apply (v : FVec Ideal S8x8x2048 .f32) (t : Fin 2048) : ∀ k, lane (cuts v k) t = cut^[k] (lane v t)
  | 0 => rfl
  | k + 1 => by
    rw [Function.iterate_succ', Function.comp_apply, ← cuts_apply v t k]
    exact cut_apply _ t

theorem adds_apply (s v : FVec Ideal S8x8x2048 .f32) (t : Fin 2048) : ∀ k, lane (adds s v k) t = taken (lane s t) (lane v t) k
  | 0 => by
    funext e
    unfold lane
    show k0_pay12 (F := Ideal) _ = 0
    pointwise [k0_pay12]
  | k + 1 => by
    funext e
    refine (add_apply s _ _ t e).trans ?_
    rw [cuts_apply, adds_apply s v t k]
    rfl

section Same

variable (s v w : FVec Ideal S8x8x2048 .f32)

theorem pay15_eq : k0_pay15 (F := Ideal) w v = k0_pay13 w (k0_pay14 w v) := rfl
theorem pay17_eq : k0_pay17 (F := Ideal) w v = k0_pay14 w (k0_pay14 w v) := rfl
theorem pay16_eq (z) : k0_pay16 (F := Ideal) s w v z = select (k0_pay13 w (k0_pay14 w v)) s (select (k0_pay13 w v) s z) := rfl
theorem pay19_eq : k0_pay19 (F := Ideal) w (k0_pay18 w v) = k0_pay13 w (k0_pay17 w v) := rfl
theorem pay20_eq : k0_pay20 (F := Ideal) w (k0_pay17 w v) (k0_pay18 w v) = k0_pay14 w (k0_pay17 w v) := rfl
theorem pay21_eq (a b) : k0_pay21 (F := Ideal) w a b = k0_pay13 w (k0_pay20 w a b) := rfl
theorem pay22_eq (a b) : k0_pay22 (F := Ideal) w a b = k0_pay14 w (k0_pay20 w a b) := rfl
theorem pay23_eq (a b) : k0_pay23 (F := Ideal) w a b = k0_pay13 w (k0_pay22 w a b) := rfl
theorem pay25_eq (a b) : k0_pay25 (F := Ideal) w a b = k0_pay14 w (k0_pay22 w a b) := rfl
theorem pay24_eq (z a b) : k0_pay24 (F := Ideal) s w z a b
    = select (k0_pay23 w a b) s (select (k0_pay21 w a b) s (select (k0_pay19 w b) s z)) := rfl
theorem pay27_eq (z a b) : k0_pay27 (F := Ideal) s w z (k0_pay25 w a b) (k0_pay26 w a b)
    = select (k0_pay13 w (k0_pay14 w (k0_pay14 w (k0_pay25 w a b)))) s
        (select (k0_pay13 w (k0_pay14 w (k0_pay25 w a b))) s (select (k0_pay13 w (k0_pay25 w a b)) s z)) := rfl

end Same

variable (x0 : FVec Ideal S2048x128 .f32) (x1 : FVec Ideal S64x1 .f32)

/-- The body's weights are those of eight rounds. -/
theorem rounds_eq (s v : FVec Ideal S8x8x2048 .f32) :
    k0_pay27 (F := Ideal) s k0_pay6 (k0_pay24 s k0_pay6 (k0_pay16 s k0_pay6 v k0_pay12) (k0_pay17 k0_pay6 v) (k0_pay18 k0_pay6 v))
      (k0_pay25 k0_pay6 (k0_pay17 k0_pay6 v) (k0_pay18 k0_pay6 v)) (k0_pay26 k0_pay6 (k0_pay17 k0_pay6 v) (k0_pay18 k0_pay6 v))
      = adds s v 8 := by
  rw [pay27_eq, pay24_eq, pay16_eq]
  simp only [pay25_eq, pay23_eq, pay22_eq, pay21_eq, pay19_eq, pay20_eq]
  simp only [pay17_eq]
  simp only [adds, cuts, add]

/-! ## The groups -/

/-- The group that a round takes. -/
def groupHit (v : FVec Ideal S8x1x2048 .f32) : IVec S8x1x2048 1 :=
  cmpf .oeq (k0_pay8 (F := Ideal)) (broadcastTo S8x1x2048 (shapeCast S1x1x2048 (multiReduction .minimumf [0] S1x2048
    (select (cmpf .oeq v (broadcastTo S8x1x2048 (shapeCast S1x1x2048 (multiReduction .maximumf [0] S1x2048 v 0xFF800000#32 reduces_S8x1x2048_S1x2048 (.inl rfl) rfl) shapeCasts_S1x2048_S1x1x2048) broadcasts_S1x1x2048_S8x1x2048))
      (k0_pay8 (F := Ideal)) (broadcast S8x1x2048 (Scalar.ofBits .f32 0x41000000#32)))
    0x7F800000#32 reduces_S8x1x2048_S1x2048 (.inl rfl) rfl) shapeCasts_S1x2048_S1x1x2048) broadcasts_S1x1x2048_S8x1x2048)

/-- The groups' values after a round. -/
def groupCut (v : FVec Ideal S8x1x2048 .f32) : FVec Ideal S8x1x2048 .f32 :=
  select (groupHit v) (broadcast S8x1x2048 (Scalar.ofBits .f32 0xFF800000#32)) v

/-- The values of the groups that four rounds take. -/
def keep (v : FVec Ideal S8x8x2048 .f32) (u : FVec Ideal S8x1x2048 .f32) : FVec Ideal S8x8x2048 .f32 :=
  select (broadcastTo S8x8x2048 (shapeCast S8x1x2048 (ori (ori (ori (ori k0_pay9 (groupHit u)) (groupHit (groupCut u)))
    (groupHit (groupCut (groupCut u)))) (groupHit (groupCut (groupCut (groupCut u))))) shapeCasts_S8x1x2048_S8x1x2048) broadcasts_S8x1x2048_S8x8x2048)
    v (broadcast S8x8x2048 (Scalar.ofBits .f32 0xFF800000#32))

theorem pay10_eq : k0_pay10 (F := Ideal) x0 x1 = groupHit (k0_pay7 (F := Ideal) x0 x1) := rfl

theorem pay11_eq (v u) : k0_pay11 (F := Ideal) v u k0_pay8 k0_pay9 (groupHit u) = keep v u := rfl

theorem groupHit_apply (v : FVec Ideal S8x1x2048 .f32) (g : Fin 8) (t : Fin 2048) :
    groupHit v (ix3 g 0 t) = BitVec.ofBool (decide (Hit (groups v t) g)) := by
  unfold groupHit
  pointwise
  simp only [pay8_apply, bot_eq, top_eq, ofBits_8]
  congr 1
  exact decide_eq_decide.2 Iff.rfl

theorem groupCut_apply (v : FVec Ideal S8x1x2048 .f32) (t : Fin 2048) : groups (groupCut v) t = cut (groups v t) := by
  funext g
  unfold groups groupCut
  pointwise
  rw [groupHit_apply, select_hit, bot_eq]
  rfl

theorem ori_hit (p q : Prop) [Decidable p] [Decidable q] : IntOp.ori (BitVec.ofBool (decide p)) (BitVec.ofBool (decide q)) = BitVec.ofBool (decide (p ∨ q)) := by
  by_cases hp : p <;> by_cases hq : q <;> simp [hp, hq, IntOp.ori]

theorem ori_false (p : Prop) [Decidable p] : IntOp.ori 0#1 (BitVec.ofBool (decide p)) = BitVec.ofBool (decide p) := by
  by_cases hp : p <;> simp [hp, IntOp.ori]

theorem keep_apply (v : FVec Ideal S8x8x2048 .f32) (u : FVec Ideal S8x1x2048 .f32) (t : Fin 2048) (h : ∀ g, groups u t g ≠ ⊥) (e : Fin 64) :
    lane (keep v u) t e = if rank (groups u t) (groupOf e) < 4 then lane v t e else ⊥ := by
  obtain ⟨g, j, rfl⟩ : ∃ g j, e = expert g j := ⟨_, _, (expert_eta e).symm⟩
  simp only [lane_expert, groupOf_expert]
  unfold keep
  pointwise [k0_pay9]
  simp only [groupHit_apply, groupCut_apply, ori_false, ori_hit]
  rw [select_hit, bot_eq]
  simp only [four (by decide) h g]

/-- A row's weights, and its biased weights. -/
def weights (t : Fin 2048) (e : Fin 64) : EReal := Ideal.logistic (x0 (ix2 t ⟨e.val, by omega⟩))

def biasedWeights (t : Fin 2048) (e : Fin 64) : EReal := weights x0 t e + x1 (ix2 e 0)

theorem pay4_apply (t : Fin 2048) : lane (k0_pay4 (F := Ideal) x0) t = weights x0 t := by
  funext e
  obtain ⟨g, j, rfl⟩ : ∃ g j, e = expert g j := ⟨_, _, (expert_eta e).symm⟩
  rw [lane_expert]
  unfold weights
  pointwise [k0_pay4, k0_pay2]
  simp only [expert, Nat.mul_comm g.val 8]

theorem pay3_apply (t : Fin 2048) : lane (k0_pay3 (F := Ideal) x0 x1) t = biasedWeights x0 x1 t := by
  funext e
  obtain ⟨g, j, rfl⟩ : ∃ g j, e = expert g j := ⟨_, _, (expert_eta e).symm⟩
  rw [lane_expert]
  unfold biasedWeights weights
  pointwise [k0_pay3, k0_pay2]
  simp only [expert, Nat.mul_comm g.val 8]

theorem pay7_apply (t : Fin 2048) (h : ∀ e, biasedWeights x0 x1 t e ≠ ⊥) :
    groups (k0_pay7 (F := Ideal) x0 x1) t = scores (biasedWeights x0 x1 t) := by
  funext g
  unfold groups
  pointwise [k0_pay7]
  simp only [pay5_apply, bot_eq, top_eq, ofBits_8, select_hit]
  simp only [← lane_expert, pay3_apply]
  refine Eq.trans ?_ (pair_eq (f := fun j => biasedWeights x0 x1 t (expert g j)) fun j => h (expert g j))
  refine congrArg₂ (· + ·) rfl (congrArg (fun v => Finset.fold max ⊥ v Finset.univ) (funext fun j => ?_))
  unfold cut Hit best top
  congr!

theorem masked_apply (t : Fin 2048) (h : ∀ e, biasedWeights x0 x1 t e ≠ ⊥) :
    lane (keep (k0_pay3 (F := Ideal) x0 x1) (k0_pay7 (F := Ideal) x0 x1)) t = masked (biasedWeights x0 x1 t) := by
  funext e
  rw [keep_apply _ _ t (by rw [pay7_apply x0 x1 t h]; exact scores_ne h), pay7_apply x0 x1 t h, pay3_apply]
  rfl

theorem picked_apply (t : Fin 2048) (h : ∀ e, biasedWeights x0 x1 t e ≠ ⊥) :
    lane (adds (k0_pay4 (F := Ideal) x0) (keep (k0_pay3 (F := Ideal) x0 x1) (k0_pay7 (F := Ideal) x0 x1)) 8) t
      = picked (weights x0 t) (biasedWeights x0 x1 t) := by
  funext e
  rw [adds_apply, masked_apply x0 x1 t h, pay4_apply]
  exact picked_eq h e

theorem shared_apply (l : ℕ) (h : l < 64) : FloatOps.sitofp (F := Ideal) FTy.f32 (BitVec.setWidth 32 (IntOp.cmpi CmpIPredicate.eq (BitVec.ofNat 32 l) 0#32))
    = if l = 0 then (1 : EReal) else 0 := by
  have e : ∀ k : Fin 64, (BitVec.setWidth 32 (IntOp.cmpi CmpIPredicate.eq (BitVec.ofNat 32 k.val) 0#32)).toInt = if k.val = 0 then 1 else 0 := by decide
  show (((BitVec.setWidth 32 (IntOp.cmpi CmpIPredicate.eq (BitVec.ofNat 32 l) 0#32)).toInt : ℝ) : EReal) = _
  rw [e ⟨l, h⟩]
  show (((if l = 0 then 1 else 0 : ℤ) : ℝ) : EReal) = _
  by_cases hl : l = 0
  · rw [if_pos hl, if_pos hl]; norm_num
  · rw [if_neg hl, if_neg hl]; norm_num

theorem pay1_apply (v : FVec Ideal S8x8x2048 .f32) (t : Fin 2048) (l : Fin 128) : k0_pay1 (F := Ideal) v (ix2 t l)
    = if h : l.val < 64 then Ideal.div (lane v t ⟨l.val, h⟩) (∑ e, lane v t e) * Ideal.ofBits .f32 0x40200000#32
      else if l.val = 64 then 1 else 0 := by
  pointwise [k0_pay1]
  by_cases h : l.val < 64
  · rw [dif_pos h, dif_pos h]
    simp only [← lane_expert]
    rw [sum_expert]
    exact congrArg (fun e => Ideal.div (lane v t e) (∑ e, lane v t e) * Ideal.ofBits .f32 0x40200000#32) (expert_eta ⟨l.val, h⟩)
  · rw [dif_neg h, dif_neg h, shared_apply _ (by omega)]
    refine if_congr ?_ rfl rfl
    omega

/-- The block's row. -/
def block (y : S2048x128.Idx) : EReal :=
  if h : (y 1).val < 64 then gate (weights x0 (y 0)) (biasedWeights x0 x1 (y 0)) ⟨(y 1).val, h⟩ else if (y 1).val = 64 then 1 else 0

theorem ld0 (x : FVec Ideal S2048x128 .f32) : View.ld (Val := Elt Ideal) (e' := .f32) x r0_0 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem ld1 (x : FVec Ideal S64x1 .f32) : View.ld (Val := Elt Ideal) (e' := .f32) x r0_1 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem emb (t : Fin 2048) (l : Fin 128) : r0_0.idx (ix2 t l) = ix2 t l := by
  funext a
  apply Fin.ext
  match a with
  | ⟨0, _⟩ => show 0 + 1 * t.val = t.val; omega
  | ⟨1, _⟩ => show 0 + 1 * l.val = l.val; omega

theorem out2_eq (h : ∀ t e, biasedWeights x0 x1 t e ≠ ⊥) (y : S2048x128.Idx) : out0_2 (F := Ideal) x0 x1 y = block x0 x1 y := by
  unfold_out out0_2
  simp only [ld0, ld1]
  rw [pay10_eq, pay11_eq, rounds_eq]
  refine View.canon_apply_of_pieces (Val := Elt Ideal) (block x0 x1) _ ?_ y (cover0_2 _ y)
  intro p hp x
  simp only [List.mem_cons, List.not_mem_nil, or_false] at hp
  subst hp
  obtain ⟨r, l, rfl⟩ : ∃ (r : Fin 2048) (l : Fin 128), x = ix2 r l := ⟨x 0, x 1, (ix2_eta (n0 := 2048) (n1 := 128) x).symm⟩
  refine Eq.trans ?_ (congrArg (block x0 x1) (emb r l)).symm
  refine (pay1_apply _ r l).trans ?_
  rw [picked_apply x0 x1 r (h r)]
  rfl

end Cert.RouteIdeal.Rounds

end
-- ==== Proof.RouteValue.lean ====
/- What the routing's array holds after the call, where no logit of an expert and no element of the bias is minus infinity. -/
module

public import proofs.«01_k».proof.Proof.Gen.RouteIdeal.Value
public import proofs.«01_k».proof.Proof.RouteRounds
public import Idealize.ShloMosaic.Lib.Pipeline.ValueKit
public import Idealize.ShloMosaic.Lib.Claim
public import Idealize.ShloMosaic.Lib.Pointwise
public import Idealize.ShloMosaic.Lib.KernelVsHost

@[expose] public section

set_option maxRecDepth 16384

noncomputable section

namespace Cert.RouteIdeal.Whole

open Idealize.ShloMosaic Idealize.ShloMosaic.Tactic Idealize.SL.Sem
open Cert.RouteIdeal Cert.RouteIdeal.Gen Cert.RouteIdeal.Value Cert.RouteSpec Cert.RouteIdeal.Rounds

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)

variable (m : (ℓ : Loc nD τ sig) → Buf (Elt Ideal) ℓ) (c : Dev nD)

theorem N_eq : cfg0.N = 8 := by decide +kernel

/-- The row of the array at a point's row. -/
def row (t : Fin cfg0.N) (r : Fin 2048) : Fin 16384 := ⟨2048 * t.val + r.val, by have := N_eq; omega⟩

theorem read0 (t : Fin cfg0.N) (r : Fin 2048) (l : Fin 128) :
    iblk m c 0 t (ix2 r l) = m ((c.tc : Thread nD τ).loc main_arg0) (ix2 (row t r) l) := by
  unfold row
  blk_point [iblk, V, idx0 t]

theorem read1 (t : Fin cfg0.N) (e : Fin 64) :
    iblk m c 1 t (ix2 e 0) = m ((c.tc : Thread nD τ).loc main_arg1) (ix1 e) := by
  have h : V m c (Pipeline.arrRef spec0 1) (ix2 e 0) = m ((c.tc : Thread nD τ).loc main_arg1) (ix1 e) := by
    entry_read
    pointwise
  rw [← h]
  blk_point [iblk, idx1 t]

theorem weights_at (t : Fin cfg0.N) (r : Fin 2048) :
    weights (iblk m c 0 t) r = weight (m ((c.tc : Thread nD τ).loc main_arg0)) (row t r) :=
  funext fun e => congrArg Ideal.logistic (read0 m c t r _)

theorem biased_at (t : Fin cfg0.N) (r : Fin 2048) : biasedWeights (iblk m c 0 t) (iblk m c 1 t) r
    = biased (m ((c.tc : Thread nD τ).loc main_arg0)) (m ((c.tc : Thread nD τ).loc main_arg1)) (row t r) :=
  funext fun e => congrArg₂ (· + ·) (congrFun (weights_at m c t r) e) (read1 m c t e)

theorem block_at (t : Fin cfg0.N) (r : Fin 2048) (l : Fin 128) : block (iblk m c 0 t) (iblk m c 1 t) (ix2 r l)
    = result (m ((c.tc : Thread nD τ).loc main_arg0)) (m ((c.tc : Thread nD τ).loc main_arg1)) (ix2 (row t r) l) := by
  have e : block (iblk m c 0 t) (iblk m c 1 t) (ix2 r l)
      = if h : l.val < 64 then gate (weights (iblk m c 0 t) r) (biasedWeights (iblk m c 0 t) (iblk m c 1 t) r) ⟨l.val, h⟩
        else if l.val = 64 then 1 else 0 := rfl
  rw [e, weights_at, biased_at]
  rfl

/-- The array after the run. -/
theorem whole2 (h : ∀ (n : Fin 16384) (e : Fin 64), biased (m ((c.tc : Thread nD τ).loc main_arg0)) (m ((c.tc : Thread nD τ).loc main_arg1)) n e ≠ ⊥) :
    (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  rw [after0_2]
  blk_simp [idx2 t]
  obtain ⟨r, l, rfl⟩ : ∃ (r : Fin 2048) (l : Fin 128), y = ix2 r l := ⟨y 0, y 1, (ix2_eta (n0 := 2048) (n1 := 128) y).symm⟩
  refine (out2_eq _ _ (fun r e => by rw [biased_at]; exact h _ e) (ix2 r l)).trans ?_
  refine (block_at m c t r l).trans ?_
  refine congrArg (result (m ((c.tc : Thread nD τ).loc main_arg0)) (m ((c.tc : Thread nD τ).loc main_arg1))) ?_
  funext a
  apply Fin.ext
  match a with
  | ⟨0, _⟩ => blk_simp [idx2 t, row]; show 2048 * t.val + r.val = t.val * 2048 + r.val; omega
  | ⟨1, _⟩ => blk_simp [idx2 t, row]

end Cert.RouteIdeal.Whole

end
-- ==== Proof.RouteRef.lean ====
/- What the reference of the routing computes, at each token and lane, where no logit of an expert and no element of the bias is minus infinity. -/
module

public import proofs.«01_k».proof.Proof.Gen.RouteRefIdeal.Run
public import proofs.«01_k».proof.Proof.RouteSpec
public import Idealize.ShloMosaic.Lib.ReduceAll

@[expose] public section

set_option maxRecDepth 16384

noncomputable section

namespace Cert.RouteRefIdeal.Point

open Idealize.ShloMosaic Cert.RouteRefIdeal Cert.RouteRefIdeal.Gen Cert.RouteRefIdeal.Value Cert.RouteOrder Cert.RouteSpec

/-- The weights. -/
def sigm (L : FVec Ideal S16384x128 .f32) : FVec Ideal S16384x64 .f32 :=
  Host.divf (broadcastInDim S16384x64 ![] bcast_S_S16384x64 (constant S_ .f32 0x3F800000#32)) (addf (broadcastInDim S16384x64 ![] bcast_S_S16384x64 (constant S_ .f32 0x3F800000#32)) (Host.exp (Host.negf (extractStridedSlice S16384x64 ![0, 0] L slices_S16384x128_S16384x64_0_0))))

/-- The biased weights. -/
def sel (S : FVec Ideal S16384x64 .f32) (B : FVec Ideal S64 .f32) : FVec Ideal S16384x64 .f32 :=
  addf S (broadcastInDim S16384x64 ![0, 1] bcast_S1x64_S16384x64_0_1 (broadcastInDim S1x64 ![1] bcast_S64_S1x64_1 B))

/-- A group's two greatest. -/
def two (V : FVec Ideal S16384x64 .f32) : FVec Ideal S16384x8x2 .f32 :=
  (Host.topK S16384x8x2 2 (FloatOps.cmpfTotal .gt) (shapeCast _ V shapeCasts_S16384x64_S16384x8x8) sliceFits_S16384x8x8_S16384x8x2).1

/-- The groups' scores. -/
def grps (T : FVec Ideal S16384x8x2 .f32) : FVec Ideal S16384x8 .f32 :=
  Host.reduceAdd T (constant S_ .f32 0x00000000#32) reducesTo_S16384x8x2_S16384x8_d2 h_S_

/-- The four groups of the greatest scores. -/
def gidx (G : FVec Ideal S16384x8 .f32) : IVec S16384x4 32 :=
  (Host.topK S16384x4 1 (FloatOps.cmpfTotal .gt) G sliceFits_S16384x8_S16384x4).2

/-- How often a group is among them. -/
def kept (I : IVec S16384x4 32) : FVec Ideal S16384x8 .f32 :=
  Host.reduceAdd (uitofp .f32 (cmpi .eq (broadcastInDim S16384x4x8 ![0, 1, 2] bcast_S16384x4x1_S16384x4x8_0_1_2 (broadcastInDim S16384x4x1 ![0, 1] bcast_S16384x4_S16384x4x1_0_1 I)) (broadcastInDim S16384x4x8 ![0, 1, 2] bcast_S1x1x8_S16384x4x8_0_1_2 (iotaInDim S1x1x8 32 2)))) (constant S_ .f32 0x00000000#32) reducesTo_S16384x4x8_S16384x8_d1 h_S_

/-- The biased weights of the groups kept, minus infinity elsewhere. -/
def mask (K : FVec Ideal S16384x8 .f32) (V : FVec Ideal S16384x64 .f32) : FVec Ideal S16384x64 .f32 :=
  select (shapeCast _ (broadcastInDim S16384x8x8 ![0, 1] bcast_S16384x8_S16384x8x8_0_1 (cmpf .ogt K (broadcastInDim S16384x8 ![] bcast_S_S16384x8 (constant S_ .f32 0x00000000#32)))) shapeCasts_S16384x8x8_S16384x64) V (broadcastInDim S16384x64 ![] bcast_S_S16384x64 (id (constant S_ .f32 0xFF800000#32)))

/-- The eight experts of the greatest. -/
def eidx (V : FVec Ideal S16384x64 .f32) : IVec S16384x8 32 :=
  (Host.topK S16384x8 1 (FloatOps.cmpfTotal .gt) V sliceFits_S16384x64_S16384x8).2

/-- The places to read, counted from the end when negative. -/
def wrap (I : IVec S16384x8 32) : IVec S16384x8x1 32 :=
  shapeCast _ (select (cmpi .slt I (broadcastInDim S16384x8 ![] bcast_S_S16384x8 (constantI S_ 32 0#32))) (addi I (broadcastInDim S16384x8 ![] bcast_S_S16384x8 (constantI S_ 32 64#32))) I) shapeCasts_S16384x8_S16384x8x1

/-- Whether a place is inside. -/
def inside (I : IVec S16384x8x1 32) : IVec S16384x8 1 :=
  Host.reduce IntOp.andi (andi (cmpi .sge I (broadcastInDim S16384x8x1 ![] bcast_S_S16384x8x1 (constantI S_ 32 0#32))) (cmpi .sle I (broadcastInDim S16384x8x1 ![0, 1, 2] bcast_S1x1x1_S16384x8x1_0_1_2 (broadcastInDim S1x1x1 ![2] bcast_S1_S1x1x1_2 (constantI S1 32 63#32))))) (constantI S_ 1 1#1) reducesTo_S16384x8x1_S16384x8_d2 h_S_

/-- The elements read. -/
def gathered (S : FVec Ideal S16384x64 .f32) (I : IVec S16384x8x1 32) : FVec Ideal S16384x8 .f32 :=
  Host.gather gather_S16384x64_S16384x8x1_S16384x8_n_1_0_0_1_2_11 S I

/-- The weights of the places chosen. -/
def chosen (S : FVec Ideal S16384x64 .f32) (I : IVec S16384x8x1 32) : FVec Ideal S16384x8 .f32 :=
  select (inside I) (gathered S I) (broadcastInDim S16384x8 ![] bcast_S_S16384x8 (constant S_ .f32 0x7FC00000#32))

/-- Their shares. -/
def shares (W : FVec Ideal S16384x8 .f32) : FVec Ideal S16384x8 .f32 :=
  mulf (Host.divf W (broadcastInDim S16384x8 ![0, 1] bcast_S16384x1_S16384x8_0_1 (broadcastInDim S16384x1 ![0] bcast_S16384_S16384x1_0 (Host.reduceAdd W (constant S_ .f32 0x00000000#32) reducesTo_S16384x8_S16384_d1 h_S_)))) (broadcastInDim S16384x8 ![] bcast_S_S16384x8 (constant S_ .f32 0x40200000#32))

/-- The shares at their places. -/
def spread (I : IVec S16384x8 32) (W : FVec Ideal S16384x8 .f32) : FVec Ideal S16384x64 .f32 :=
  Host.reduceAdd (mulf (uitofp .f32 (cmpi .eq (broadcastInDim S16384x8x64 ![0, 1, 2] bcast_S16384x8x1_S16384x8x64_0_1_2 (broadcastInDim S16384x8x1 ![0, 1] bcast_S16384x8_S16384x8x1_0_1 I)) (broadcastInDim S16384x8x64 ![0, 1, 2] bcast_S1x1x64_S16384x8x64_0_1_2 (iotaInDim S1x1x64 32 2)))) (broadcastInDim S16384x8x64 ![0, 1, 2] bcast_S16384x8x1_S16384x8x64_0_1_2 (broadcastInDim S16384x8x1 ![0, 1] bcast_S16384x8_S16384x8x1_0_1 W))) (constant S_ .f32 0x00000000#32) reducesTo_S16384x8x64_S16384x64_d1 h_S_

/-- The lanes after the gates: a one, then zeros. -/
def lanes (G : FVec Ideal S16384x64 .f32) : FVec Ideal S16384x128 .f32 :=
  pad S16384x128 ![0, 0] ![0, 63] ![0, 0] (pad S16384x65 ![0, 0] ![0, 1] ![0, 0] G (constant S_ .f32 0x3F800000#32) pads_S16384x64_S16384x65_000_010 h_S_) (constant S_ .f32 0x00000000#32) pads_S16384x65_S16384x128_000_0630 h_S_

/-! ## The sorts -/

theorem gt_eq (x y : EReal) : ((FloatOps.cmpfTotal (F := Ideal) (φ := FTy.f32) .gt x y) == 1#1) = decide (y < x) := by
  show (BitVec.ofBool (decide (y < x)) == 1#1) = decide (y < x)
  cases decide (y < x) <;> rfl

/-- The place a stable sort along the last axis puts at `r`. -/
theorem from_eq {n : ℕ} (f : Fin n → EReal) (r : Fin n) :
    sortedFrom (fun k k' => (FloatOps.cmpfTotal (F := Ideal) (φ := FTy.f32) .gt (f k) (f k')) == 1#1) r = place f r :=
  (place_eq (rank_sortedFrom f _ (fun k k' => gt_eq (f k) (f k')) r)).symm

theorem along2 {a b : ℕ} (n : Fin a) (r k : Fin b) :
    Shape.Idx.along (s := ⟨2, ![a, b]⟩) (ix2 n r) (1 : Fin 2) k = ix2 n k := by
  funext x
  unfold Shape.Idx.along
  match x with
  | (0 : Fin 2) => exact Function.update_of_ne (show (0 : Fin 2) ≠ 1 by decide) _ _
  | (1 : Fin 2) => exact Function.update_self _ _ _

theorem along3 {a b d : ℕ} (n : Fin a) (g : Fin b) (r k : Fin d) :
    Shape.Idx.along (s := ⟨3, ![a, b, d]⟩) (ix3 n g r) (2 : Fin 3) k = ix3 n g k := by
  funext x
  unfold Shape.Idx.along
  match x with
  | (0 : Fin 3) => exact Function.update_of_ne (show (0 : Fin 3) ≠ 2 by decide) _ _
  | (1 : Fin 3) => exact Function.update_of_ne (show (1 : Fin 3) ≠ 2 by decide) _ _
  | (2 : Fin 3) => exact Function.update_self _ _ _

/-- A family read at the place a stable sort puts at `r`, and another carried. -/
theorem at_place {ι α : Type} {n : ℕ} (X : ι → EReal) (Y : ι → α) (al f : Fin n → ι) (h : al = f) (r : Fin n) :
    Y (al (sortedFrom (fun k k' => (FloatOps.cmpfTotal (F := Ideal) (φ := FTy.f32) .gt (X (al k)) (X (al k'))) == 1#1) r))
      = Y (f (place (fun j => X (f j)) r)) := by
  subst h
  rw [from_eq fun j => X (al j)]

/-- The values sorted along the last of three axes. -/
theorem sorted3 {a b d : ℕ} (X : (⟨3, ![a, b, d]⟩ : Shape).Idx → EReal) (Y : (⟨3, ![a, b, d]⟩ : Shape).Idx → BitVec 32) (n : Fin a) (g : Fin b) (r : Fin d) :
    (Host.sort2 ⟨3, ![a, b, d]⟩ 2 (fun l r => FloatOps.cmpfTotal (F := Ideal) (φ := FTy.f32) .gt l.1 r.1) X Y).1 (ix3 n g r)
      = X (ix3 n g (place (fun j => X (ix3 n g j)) r)) :=
  at_place X X (fun k : Fin d => Shape.Idx.along (s := ⟨3, ![a, b, d]⟩) (ix3 n g r) (2 : Fin 3) k) (fun k => ix3 n g k) (funext fun k => along3 n g r k) r

/-- What is carried, sorted along the last of two axes. -/
theorem sorted2 {a b : ℕ} (X : (⟨2, ![a, b]⟩ : Shape).Idx → EReal) (Y : (⟨2, ![a, b]⟩ : Shape).Idx → BitVec 32) (n : Fin a) (r : Fin b) :
    (Host.sort2 ⟨2, ![a, b]⟩ 1 (fun l r => FloatOps.cmpfTotal (F := Ideal) (φ := FTy.f32) .gt l.1 r.1) X Y).2 (ix2 n r)
      = Y (ix2 n (place (fun j => X (ix2 n j)) r)) :=
  at_place X Y (fun k : Fin b => Shape.Idx.along (s := ⟨2, ![a, b]⟩) (ix2 n r) (1 : Fin 2) k) (fun k => ix2 n k) (funext fun k => along2 n r k) r

theorem first3 {a b d d' : ℕ} {α : Type} (hd : d' ≤ d) (X : (⟨3, ![a, b, d]⟩ : Shape).Idx → α)
    (h : (⟨3, ![a, b, d]⟩ : Shape).Slices (fun _ => 0) ⟨3, ![a, b, d']⟩) (n : Fin a) (g : Fin b) (r : Fin d') :
    extractStridedSlice ⟨3, ![a, b, d']⟩ (fun _ => 0) X h (ix3 n g r) = X (ix3 n g (r.castLE hd)) := by
  refine congrArg X (funext fun x => Fin.ext ?_)
  match x with
  | (0 : Fin 3) => show 0 + n.val = n.val; omega
  | (1 : Fin 3) => show 0 + g.val = g.val; omega
  | (2 : Fin 3) => show 0 + r.val = r.val; omega

theorem first2 {a b b' : ℕ} {α : Type} (hb : b' ≤ b) (X : (⟨2, ![a, b]⟩ : Shape).Idx → α)
    (h : (⟨2, ![a, b]⟩ : Shape).Slices (fun _ => 0) ⟨2, ![a, b']⟩) (n : Fin a) (r : Fin b') :
    extractStridedSlice ⟨2, ![a, b']⟩ (fun _ => 0) X h (ix2 n r) = X (ix2 n (r.castLE hb)) := by
  refine congrArg X (funext fun x => Fin.ext ?_)
  match x with
  | (0 : Fin 2) => show 0 + n.val = n.val; omega
  | (1 : Fin 2) => show 0 + r.val = r.val; omega

/-- The positions of the greatest. -/
theorem positions {a b b' : ℕ} (hb : b' ≤ b) (X : (⟨2, ![a, b]⟩ : Shape).Idx → EReal)
    (h : (⟨2, ![a, b]⟩ : Shape).Slices (fun _ => 0) ⟨2, ![a, b']⟩) (n : Fin a) (r : Fin b') :
    (Host.topK ⟨2, ![a, b']⟩ 1 (FloatOps.cmpfTotal (F := Ideal) (φ := FTy.f32) .gt) X h).2 (ix2 n r)
      = BitVec.ofNat 32 (place (fun j => X (ix2 n j)) (r.castLE hb)).val := by
  let I : (⟨2, ![a, b]⟩ : Shape).Idx → BitVec 32 := fun i => if hd : 1 < (⟨2, ![a, b]⟩ : Shape).rank then iotaInDim ⟨2, ![a, b]⟩ 32 ⟨1, hd⟩ i else 0#32
  refine (first2 hb (Host.sort2 ⟨2, ![a, b]⟩ 1 (fun l r => FloatOps.cmpfTotal (F := Ideal) (φ := FTy.f32) .gt l.1 r.1) X I).2 h n r).trans ?_
  exact sorted2 X I n (r.castLE hb)

/-- The greatest. -/
theorem greatest {a b d d' : ℕ} (hd : d' ≤ d) (X : (⟨3, ![a, b, d]⟩ : Shape).Idx → EReal)
    (h : (⟨3, ![a, b, d]⟩ : Shape).Slices (fun _ => 0) ⟨3, ![a, b, d']⟩) (n : Fin a) (g : Fin b) (r : Fin d') :
    (Host.topK ⟨3, ![a, b, d']⟩ 2 (FloatOps.cmpfTotal (F := Ideal) (φ := FTy.f32) .gt) X h).1 (ix3 n g r)
      = X (ix3 n g (place (fun j => X (ix3 n g j)) (r.castLE hd))) := by
  let I : (⟨3, ![a, b, d]⟩ : Shape).Idx → BitVec 32 := fun i => if hd : 2 < (⟨3, ![a, b, d]⟩ : Shape).rank then iotaInDim ⟨3, ![a, b, d]⟩ 32 ⟨2, hd⟩ i else 0#32
  exact (first3 hd (Host.sort2 ⟨3, ![a, b, d]⟩ 2 (fun l r => FloatOps.cmpfTotal (F := Ideal) (φ := FTy.f32) .gt l.1 r.1) X I).1 h n g r).trans (sorted3 X I n g (r.castLE hd))

theorem by_group (V : FVec Ideal S16384x64 .f32) (n : Fin 16384) (g j : Fin 8) :
    shapeCast S16384x8x8 V shapeCasts_S16384x64_S16384x8x8 (ix3 n g j) = V (ix2 n (expert g j)) := by
  pointwise
  simp only [expert, Nat.mul_comm g.val 8]

theorem two_apply (V) (n : Fin 16384) (g : Fin 8) (r : Fin 2) :
    two V (ix3 n g r) = V (ix2 n (expert g (place (fun j => V (ix2 n (expert g j))) (r.castLE (by decide))))) := by
  unfold two
  refine (greatest (by decide) _ _ n g r).trans ?_
  simp only [by_group]

theorem gidx_apply (G) (n : Fin 16384) (r : Fin 4) :
    gidx G (ix2 n r) = BitVec.ofNat 32 (place (fun j => G (ix2 n j)) (r.castLE (by decide))).val :=
  positions (by decide) G _ n r

theorem eidx_apply (V) (n : Fin 16384) (r : Fin 8) :
    eidx V (ix2 n r) = BitVec.ofNat 32 (place (fun j => V (ix2 n j)) (r.castLE (by decide))).val :=
  positions (by decide) V _ n r

/-! ## The other operations -/

theorem bot_eq : Ideal.ofBits .f32 0xFF800000#32 = (⊥ : EReal) := by
  simp [Ideal.ofBits, Ideal.ieee]

theorem sigm_apply (L) (n : Fin 16384) (e : Fin 64) : sigm L (ix2 n e) = weight L n e := by
  unfold sigm weight Ideal.logistic
  pointwise

theorem sel_apply (S B) (n : Fin 16384) (e : Fin 64) : sel S B (ix2 n e) = S (ix2 n e) + B (ix1 e) := by
  unfold sel
  pointwise

theorem grps_apply (T) (n : Fin 16384) (g : Fin 8) : grps T (ix2 n g) = T (ix3 n g 0) + T (ix3 n g 1) := by
  unfold grps
  pointwise
  rw [Fin.sum_univ_two]

/-- A one where the two words are the same number, else a zero. -/
theorem hot {a b : ℕ} (ha : a < 64) (hb : b < 64) : FloatOps.uitofp (F := Ideal) FTy.f32 (IntOp.cmpi CmpIPredicate.eq (BitVec.ofNat 32 a) (BitVec.ofNat 32 b))
    = if a = b then (1 : EReal) else 0 := by
  have e : ∀ a b : Fin 64, (IntOp.cmpi CmpIPredicate.eq (BitVec.ofNat 32 a.val) (BitVec.ofNat 32 b.val)).toNat = if a.val = b.val then 1 else 0 := by decide +kernel
  show (((IntOp.cmpi CmpIPredicate.eq (BitVec.ofNat 32 a) (BitVec.ofNat 32 b)).toNat : ℝ) : EReal) = _
  rw [e ⟨a, ha⟩ ⟨b, hb⟩]
  show (((if a = b then 1 else 0 : ℕ) : ℝ) : EReal) = _
  by_cases hl : a = b
  · rw [if_pos hl, if_pos hl]; norm_num
  · rw [if_neg hl, if_neg hl]; norm_num

theorem kept_apply (I) (n : Fin 16384) (g : Fin 8) : kept I (ix2 n g)
    = ∑ r : Fin 4, FloatOps.uitofp (F := Ideal) FTy.f32 (IntOp.cmpi CmpIPredicate.eq (I (ix2 n r)) (BitVec.ofNat 32 g.val)) := by
  unfold kept
  pointwise

theorem mask_apply (K V) (n : Fin 16384) (e : Fin 64) : mask K V (ix2 n e) = if 0 < K (ix2 n (groupOf e)) then V (ix2 n e) else ⊥ := by
  unfold mask groupOf
  pointwise
  exact if_congr Iff.rfl rfl bot_eq

theorem shares_apply (W) (n : Fin 16384) (r : Fin 8) : shares W (ix2 n r)
    = Ideal.div (W (ix2 n r)) (∑ x, W (ix2 n x)) * Ideal.ofBits .f32 0x40200000#32 := by
  unfold shares
  pointwise

theorem spread_apply (I W) (n : Fin 16384) (e : Fin 64) : spread I W (ix2 n e)
    = ∑ r : Fin 8, FloatOps.uitofp (F := Ideal) FTy.f32 (IntOp.cmpi CmpIPredicate.eq (I (ix2 n r)) (BitVec.ofNat 32 e.val)) * W (ix2 n r) := by
  unfold spread
  pointwise

theorem lanes_apply (G) (n : Fin 16384) (l : Fin 128) : lanes G (ix2 n l)
    = if h : l.val < 64 then G (ix2 n ⟨l.val, h⟩) else if l.val = 64 then 1 else 0 := by
  unfold lanes
  pointwise
  by_cases h : l.val < 64
  · rw [dif_pos h, dif_pos (by omega), dif_pos h]
  · rw [dif_neg h]
    by_cases h' : l.val = 64
    · rw [dif_pos (by omega), dif_neg h, if_pos h']
    · rw [dif_neg (by omega), if_neg h']

theorem wrap_apply (I) (n : Fin 16384) (r : Fin 8) (k : Fin 64) (h : I (ix2 n r) = BitVec.ofNat 32 k.val) : wrap I (ix3 n r 0) = BitVec.ofNat 32 k.val := by
  have e : ∀ k : Fin 64, Scalar.select (IntOp.cmpi CmpIPredicate.slt (BitVec.ofNat 32 k.val) 0#32) (IntOp.addi (BitVec.ofNat 32 k.val) 64#32) (BitVec.ofNat 32 k.val)
      = BitVec.ofNat 32 k.val := by decide +kernel
  refine Eq.trans ?_ (e k)
  rw [← h]
  unfold wrap
  pointwise

theorem inside_apply (I) (h : ∀ (n : Fin 16384) (r : Fin 8), ∃ k : Fin 64, I (ix3 n r 0) = BitVec.ofNat 32 k.val) (j : S16384x8.Idx) : inside I j = 1#1 := by
  have e : ∀ k : Fin 64, IntOp.andi (IntOp.cmpi CmpIPredicate.sge (BitVec.ofNat 32 k.val) 0#32) (IntOp.cmpi CmpIPredicate.sle (BitVec.ofNat 32 k.val) 63#32) = 1#1 := by decide +kernel
  refine Host.reduce_andi_one _ _ _ _ j ?_ ?_
  · rfl
  · intro i
    obtain ⟨n, r, z, rfl⟩ : ∃ (n : Fin 16384) (r : Fin 8) (z : Fin 1), i = ix3 n r z := ⟨i 0, i 1, i 2, (ix3_eta i).symm⟩
    obtain rfl : z = 0 := Subsingleton.elim _ _
    obtain ⟨k, hk⟩ := h n r
    refine Eq.trans ?_ (e k)
    rw [← hk]
    rfl

theorem gathered_apply (S I) (n : Fin 16384) (r : Fin 8) (k : Fin 64) (h : I (ix3 n r 0) = BitVec.ofNat 32 k.val) : gathered S I (ix2 n r) = S (ix2 n k) := by
  have hj : ∀ c, gather_S16384x64_S16384x8x1_S16384x8_n_1_0_0_1_2_11.siIdx (ix2 n r) c = ix3 n r 0 := by
    intro c
    funext x
    apply Fin.ext
    match x with
    | ⟨0, _⟩ => rfl
    | ⟨1, _⟩ => rfl
    | ⟨2, _⟩ => exact Nat.lt_one_iff.mp c.isLt
  have hk : ∀ k : Fin 64, (BitVec.ofNat 32 k.val).toInt.toNat = k.val := by decide +kernel
  refine congrArg S (funext fun x => Fin.ext ?_)
  match x with
  | ⟨0, _⟩ => show 0 + n.val + 0 = n.val; omega
  | ⟨1, _⟩ =>
    show min (I (gather_S16384x64_S16384x8x1_S16384x8_n_1_0_0_1_2_11.siIdx (ix2 n r) _)).toInt.toNat (64 - 1) + 0 + 0 = k.val
    rw [hj, h, hk]
    have := k.isLt
    omega

/-! ## Together -/

section Rows

variable (S V : FVec Ideal S16384x64 .f32)

/-- The groups' scores, of the biased weights. -/
theorem scores_at (n : Fin 16384) (g : Fin 8) : grps (two V) (ix2 n g) = scores (fun e => V (ix2 n e)) g := by
  rw [grps_apply, two_apply, two_apply]
  rfl

/-- A group is among the four when its rank is below four. -/
theorem kept_at (G : FVec Ideal S16384x8 .f32) (n : Fin 16384) (g : Fin 8) : 0 < kept (gidx G) (ix2 n g) ↔ rank (fun j => G (ix2 n j)) g < 4 := by
  rw [kept_apply]
  simp only [gidx_apply]
  have e : ∀ r : Fin 4, FloatOps.uitofp (F := Ideal) FTy.f32 (IntOp.cmpi CmpIPredicate.eq (BitVec.ofNat 32 (place (fun j => G (ix2 n j)) (r.castLE (by decide))).val) (BitVec.ofNat 32 g.val))
      = if place (fun j => G (ix2 n j)) (r.castLE (by decide)) = g then (1 : EReal) else 0 := fun r =>
    (hot (by omega) (by omega)).trans (if_congr Fin.ext_iff.symm rfl rfl)
  simp only [e]
  constructor
  · intro h
    by_contra hn
    refine absurd h (not_lt_of_ge (le_of_eq (Finset.sum_eq_zero fun r _ => if_neg fun hr => hn ?_)))
    rw [← hr, rank_place]
    exact r.isLt
  · intro h
    refine lt_of_lt_of_le (zero_lt_one (α := EReal)) ?_
    refine le_trans (le_of_eq ?_) (Finset.single_le_sum (f := fun r : Fin 4 => if place (fun j => G (ix2 n j)) (r.castLE (by decide)) = g then (1 : EReal) else 0)
      (fun r _ => ?_) (Finset.mem_univ (⟨_, h⟩ : Fin 4)))
    · exact (if_pos (place_eq rfl)).symm
    · show 0 ≤ if _ then (1 : EReal) else 0
      split
      · exact zero_le_one
      · exact le_refl _

/-- The masked weights. -/
theorem masked_at (n : Fin 16384) : (fun e => mask (kept (gidx (grps (two V)))) V (ix2 n e)) = masked (fun e => V (ix2 n e)) := by
  funext e
  rw [mask_apply]
  refine if_congr ((kept_at _ n _).trans ?_) rfl rfl
  rw [show (fun j => grps (two V) (ix2 n j)) = scores (fun e => V (ix2 n e)) from funext fun g => scores_at V n g]

/-- The weights chosen, of the places of the eight greatest. -/
theorem chosen_at (n : Fin 16384) (r : Fin 8) : chosen S (wrap (eidx V)) (ix2 n r) = S (ix2 n (place (fun j => V (ix2 n j)) (r.castLE (by decide)))) := by
  have w : ∀ (n : Fin 16384) (r : Fin 8), wrap (eidx V) (ix3 n r 0) = BitVec.ofNat 32 (place (fun j => V (ix2 n j)) (r.castLE (by decide))).val :=
    fun n r => wrap_apply _ n r _ (eidx_apply V n r)
  have i := inside_apply (wrap (eidx V)) (fun n r => ⟨_, w n r⟩) (ix2 n r)
  have e : chosen S (wrap (eidx V)) (ix2 n r)
      = Scalar.select (inside (wrap (eidx V)) (ix2 n r)) (gathered S (wrap (eidx V)) (ix2 n r)) (Ideal.ofBits .f32 0x7FC00000#32) := rfl
  rw [e, i, gathered_apply S _ n r _ (w n r)]
  rfl

/-- The gates, of the weights and the biased weights. -/
theorem gates_at (n : Fin 16384) (e : Fin 64) (h : ∀ e, 0 < S (ix2 n e)) :
    spread (eidx (mask (kept (gidx (grps (two V)))) V)) (shares (chosen S (wrap (eidx (mask (kept (gidx (grps (two V)))) V))))) (ix2 n e)
      = gate (fun e => S (ix2 n e)) (fun e => V (ix2 n e)) e := by
  have p : ∀ r : Fin 8, place (fun j => mask (kept (gidx (grps (two V)))) V (ix2 n j)) (r.castLE (by decide))
      = place (masked fun e => V (ix2 n e)) (r.castLE (by decide)) := fun r => by rw [masked_at]
  rw [spread_apply]
  refine Eq.trans (Finset.sum_congr rfl fun r _ => ?_) (gate_eq (s := fun e => S (ix2 n e)) (f := fun e => V (ix2 n e)) h e)
  refine congrArg₂ (· * ·) ?_ ?_
  · rw [eidx_apply, p]
    exact (hot (by omega) (by omega)).trans (if_congr Fin.ext_iff.symm rfl rfl)
  · rw [shares_apply]
    simp only [chosen_at, p]
    rw [total_eq (fun e => S (ix2 n e)) (fun e => V (ix2 n e))]

end Rows

variable (m : (ℓ : Loc nD τ sig) → Buf (Elt Ideal) ℓ) (c : Dev nD)

/-- The masked weights, of the arguments. -/
def best8 (L : FVec Ideal S16384x128 .f32) (B : FVec Ideal S64 .f32) : FVec Ideal S16384x64 .f32 :=
  mask (kept (gidx (grps (two (sel (sigm L) B))))) (sel (sigm L) B)

set_option maxHeartbeats 4000000 in
/-- The result in these words. -/
theorem parts : res_main_v32 m c = lanes (spread (eidx (best8 (m ((c.tc : Thread nD τ).loc main_arg0)) (m ((c.tc : Thread nD τ).loc main_arg1)))) (shares (chosen (sigm (m ((c.tc : Thread nD τ).loc main_arg0))) (wrap (eidx (best8 (m ((c.tc : Thread nD τ).loc main_arg0)) (m ((c.tc : Thread nD τ).loc main_arg1)))))))) := by
  unfold res_main_v32 lanes spread shares chosen inside gathered wrap eidx best8 mask kept gidx grps two sel sigm
  rfl

/-- It is the specified one. -/
theorem value (h : ∀ (n : Fin 16384) (e : Fin 64), (m ((c.tc : Thread nD τ).loc main_arg0)) (ix2 n ⟨e.val, by omega⟩) ≠ (⊥ : EReal)) : res_main_v32 m c = result (m ((c.tc : Thread nD τ).loc main_arg0)) (m ((c.tc : Thread nD τ).loc main_arg1)) := by
  rw [parts]
  funext i
  obtain ⟨n, l, rfl⟩ : ∃ (n : Fin 16384) (l : Fin 128), i = ix2 n l := ⟨i 0, i 1, (ix2_eta i).symm⟩
  refine (lanes_apply _ n l).trans ?_
  have w : (fun e => sigm (m ((c.tc : Thread nD τ).loc main_arg0)) (ix2 n e)) = weight (m ((c.tc : Thread nD τ).loc main_arg0)) n := funext fun e => sigm_apply _ n e
  have b : (fun e => sel (sigm (m ((c.tc : Thread nD τ).loc main_arg0))) (m ((c.tc : Thread nD τ).loc main_arg1)) (ix2 n e)) = biased (m ((c.tc : Thread nD τ).loc main_arg0)) (m ((c.tc : Thread nD τ).loc main_arg1)) n := funext fun e => (sel_apply _ _ n e).trans (by rw [sigm_apply]; rfl)
  have g : ∀ e, spread (eidx (best8 (m ((c.tc : Thread nD τ).loc main_arg0)) (m ((c.tc : Thread nD τ).loc main_arg1)))) (shares (chosen (sigm (m ((c.tc : Thread nD τ).loc main_arg0))) (wrap (eidx (best8 (m ((c.tc : Thread nD τ).loc main_arg0)) (m ((c.tc : Thread nD τ).loc main_arg1))))))) (ix2 n e)
      = gate (weight (m ((c.tc : Thread nD τ).loc main_arg0)) n) (biased (m ((c.tc : Thread nD τ).loc main_arg0)) (m ((c.tc : Thread nD τ).loc main_arg1)) n) e := fun e => by
    refine (gates_at (sigm (m ((c.tc : Thread nD τ).loc main_arg0))) (sel (sigm (m ((c.tc : Thread nD τ).loc main_arg0))) (m ((c.tc : Thread nD τ).loc main_arg1))) n e (fun e => by rw [sigm_apply]; exact weight_pos h n e)).trans ?_
    rw [w, b]
  simp only [g]
  rfl

end Cert.RouteRefIdeal.Point

end
-- ==== Proof.lean ====
/- The claims, assembled: for each call its two frames, the frame of its reference, and the equality of their results. -/
module

public import proofs.«01_k».proof.Defs
public import proofs.«01_k».proof.Proof.MoeTable
public import proofs.«01_k».proof.Proof.MoeValue
public import proofs.«01_k».proof.Proof.MoeRef
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.InprojValue
public import proofs.«01_k».proof.Proof.InprojRef
public import proofs.«01_k».proof.Proof.Gen.Postmix
public import proofs.«01_k».proof.Proof.Gen.Postmix.Skeleton
public import proofs.«01_k».proof.Proof.Gen.Postmix.Launch
public import proofs.«01_k».proof.Proof.Gen.Postmix.Points
public import proofs.«01_k».proof.Proof.Gen.Postmix.Frame
public import proofs.«01_k».proof.Proof.Gen.PostmixIdeal
public import proofs.«01_k».proof.Proof.Gen.PostmixIdeal.Skeleton
public import proofs.«01_k».proof.Proof.Gen.PostmixIdeal.Launch
public import proofs.«01_k».proof.Proof.Gen.PostmixIdeal.Points
public import proofs.«01_k».proof.Proof.Gen.PostmixIdeal.Frame
public import proofs.«01_k».proof.Proof.Gen.PostmixIdeal.Value
public import proofs.«01_k».proof.Proof.Gen.PostmixRefIdeal
public import proofs.«01_k».proof.Proof.Gen.PostmixRefIdeal.Run
public import proofs.«01_k».proof.Proof.PostmixValue
public import proofs.«01_k».proof.Proof.PostmixRef
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.AdaValue
public import proofs.«01_k».proof.Proof.AdaRef
public import proofs.«01_k».proof.Proof.Gen.Logits
public import proofs.«01_k».proof.Proof.Gen.Logits.Skeleton
public import proofs.«01_k».proof.Proof.Gen.Logits.Launch
public import proofs.«01_k».proof.Proof.Gen.Logits.Points
public import proofs.«01_k».proof.Proof.Gen.Logits.Frame
public import proofs.«01_k».proof.Proof.Gen.LogitsIdeal
public import proofs.«01_k».proof.Proof.Gen.LogitsIdeal.Skeleton
public import proofs.«01_k».proof.Proof.Gen.LogitsIdeal.Launch
public import proofs.«01_k».proof.Proof.Gen.LogitsIdeal.Points
public import proofs.«01_k».proof.Proof.Gen.LogitsIdeal.Frame
public import proofs.«01_k».proof.Proof.Gen.LogitsIdeal.Value
public import proofs.«01_k».proof.Proof.Gen.LogitsRefIdeal
public import proofs.«01_k».proof.Proof.Gen.LogitsRefIdeal.Run
public import proofs.«01_k».proof.Proof.Gen.Pre_finite
public import proofs.«01_k».proof.Proof.LogitsFinite
public import proofs.«01_k».proof.Proof.LogitsValue
public import proofs.«01_k».proof.Proof.LogitsRef
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteIdeal.Value
public import proofs.«01_k».proof.Proof.Gen.RouteRefIdeal
public import proofs.«01_k».proof.Proof.Gen.RouteRefIdeal.Run
public import proofs.«01_k».proof.Proof.Gen.Pre_above
public import proofs.«01_k».proof.Proof.RouteAbove
public import proofs.«01_k».proof.Proof.RouteValue
public import proofs.«01_k».proof.Proof.RouteRef
public import Idealize.ShloMosaic.Adequacy
public import Idealize.ShloMosaic.Init
public import Idealize.ShloMosaic.Lib.Quiescent

@[expose] public section

noncomputable section

namespace Cert.Proof

open Idealize.ShloMosaic Idealize.SL.Sem

theorem quiescent_MoeRefIdeal : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem algebraic_MoeIdeal_MoeRefIdeal : algebraic_MoeIdeal_MoeRefIdeal := by
  intro m ρ m' ρ' _ hagree
  refine ⟨_, (θ_run Cert.MoeIdeal.defs _ _).mono (fun r h c =>
    ⟨((h.1.1 c).1 24).trans (Cert.MoeIdeal.Whole.whole m c), h.2.1 c⟩)
    (θ_run_and (Cert.MoeIdeal.Body.run (F := Ideal) m ρ) (Cert.MoeIdeal.Body.unchanged (F := Ideal) m ρ)), ?_⟩
  refine (θ_run Cert.MoeRefIdeal.defs _ _).mono (fun _ h c => ⟨?_, (h c).2⟩) (Cert.MoeRefIdeal.Value.run (F := Ideal) m' ρ')
  rw [(h c).1, Cert.MoeRefIdeal.Point.value]
  simp only [hagree c]

theorem quiescent_InprojRefIdeal : quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

theorem quiescent_PostmixRefIdeal : quiescent_PostmixRefIdeal := fun m ρ _ =>
  (θ_run Cert.PostmixRefIdeal.defs _ _).mono (fun r h => ⟨fun c => (h c).2.2, sem_eq_zero_of_no_sems (by decide) r.2⟩)
    (Cert.PostmixRefIdeal.Value.run (F := Ideal) m ρ)

theorem quiescent_AdaRefIdeal : quiescent_AdaRefIdeal := fun m ρ _ =>
  (θ_run Cert.AdaRefIdeal.defs _ _).mono (fun r h => ⟨fun c => (h c).2.2.2.2.2.2.2.2, sem_eq_zero_of_no_sems (by decide) r.2⟩)
    (Cert.AdaRefIdeal.Value.run (F := Ideal) m ρ)

theorem algebraic_InprojIdeal_InprojRefIdeal : algebraic_InprojIdeal_InprojRefIdeal := by
  intro m ρ m' ρ' _ hagree
  refine ⟨_, (θ_run Cert.InprojIdeal.defs _ _).mono (fun r h c => ⟨(h c).1.trans (Cert.InprojIdeal.Whole.whole m c), (h c).2⟩)
    (Cert.InprojIdeal.Value.run_blocks (F := Ideal) m ρ), ?_⟩
  refine (θ_run Cert.InprojRefIdeal.defs _ _).mono (fun _ h c => ⟨?_, (h c).2⟩) (Cert.InprojRefIdeal.Value.run (F := Ideal) m' ρ')
  rw [(h c).1, Cert.InprojRefIdeal.Point.value]
  simp only [hagree c]

theorem algebraic_PostmixIdeal_PostmixRefIdeal : algebraic_PostmixIdeal_PostmixRefIdeal := by
  intro m ρ m' ρ' _ hagree
  refine ⟨_, _, (θ_run Cert.PostmixIdeal.defs _ _).mono (fun r h c => ⟨(h c).1.trans (Cert.PostmixIdeal.Whole.whole12 m c), (h c).2.1.trans (Cert.PostmixIdeal.Whole.whole13 m c), (h c).2.2.2⟩)
    (Cert.PostmixIdeal.Value.run_blocks (F := Ideal) m ρ), ?_⟩
  refine (θ_run Cert.PostmixRefIdeal.defs _ _).mono (fun _ h c => ⟨?_, ?_, (h c).2.2⟩) (Cert.PostmixRefIdeal.Value.run (F := Ideal) m' ρ')
  · rw [(h c).1, Cert.PostmixRefIdeal.Point.value0]
    simp only [hagree c]
  · rw [(h c).2.1, Cert.PostmixRefIdeal.Point.value1]
    simp only [hagree c]

theorem algebraic_AdaIdeal_AdaRefIdeal : algebraic_AdaIdeal_AdaRefIdeal := by
  intro m ρ m' ρ' _ hagree
  refine ⟨_, _, _, _, _, _, _, _, (θ_run Cert.AdaIdeal.defs _ _).mono (fun r h c => ⟨(h c).1.trans (Cert.AdaIdeal.Whole.whole10 m c), (h c).2.1.trans (Cert.AdaIdeal.Whole.whole11 m c), (h c).2.2.1.trans (Cert.AdaIdeal.Whole.whole12 m c), (h c).2.2.2.1.trans (Cert.AdaIdeal.Whole.whole13 m c), (h c).2.2.2.2.1.trans (Cert.AdaIdeal.Whole.whole14 m c), (h c).2.2.2.2.2.1.trans (Cert.AdaIdeal.Whole.whole15 m c), (h c).2.2.2.2.2.2.1.trans (Cert.AdaIdeal.Whole.whole16 m c), (h c).2.2.2.2.2.2.2.1.trans (Cert.AdaIdeal.Whole.whole17 m c), (h c).2.2.2.2.2.2.2.2⟩)
    (Cert.AdaIdeal.Value.run_blocks (F := Ideal) m ρ), ?_⟩
  refine (θ_run Cert.AdaRefIdeal.defs _ _).mono (fun _ h c => ⟨?_, ?_, ?_, ?_, ?_, ?_, ?_, ?_, (h c).2.2.2.2.2.2.2.2⟩) (Cert.AdaRefIdeal.Value.run (F := Ideal) m' ρ')
  · rw [(h c).1, Cert.AdaRefIdeal.Point.value]
    simp only [hagree c]
  · rw [(h c).2.1]
    simp only [hagree c]
  · rw [(h c).2.2.1]
    simp only [hagree c]
  · rw [(h c).2.2.2.1]
    simp only [hagree c]
  · rw [(h c).2.2.2.2.1]
    simp only [hagree c]
  · rw [(h c).2.2.2.2.2.1]
    simp only [hagree c]
  · rw [(h c).2.2.2.2.2.2.1]
    simp only [hagree c]
  · rw [(h c).2.2.2.2.2.2.2.1]
    simp only [hagree c]

theorem quiescent_LogitsRefIdeal : quiescent_LogitsRefIdeal := fun m ρ _ =>
  (θ_run Cert.LogitsRefIdeal.defs _ _).mono (fun r h => ⟨fun c => (h c).2, sem_eq_zero_of_no_sems (by decide) r.2⟩)
    (Cert.LogitsRefIdeal.Value.run (F := Ideal) m ρ)

theorem algebraic_LogitsIdeal_LogitsRefIdeal_pre_finite : algebraic_LogitsIdeal_LogitsRefIdeal_pre_finite := by
  intro m ρ m' ρ' hfin hagree
  refine ⟨_, (θ_run Cert.LogitsIdeal.defs _ _).mono (fun r h c => ⟨(h c).2.2.1.trans (Cert.LogitsIdeal.Whole.whole14 m c (Cert.LogitsFinite.allReal _ _ _ _ _ _ _ _ _ _ _ _ (hfin c))), (h c).2.2.2⟩)
    (Cert.LogitsIdeal.Value.run_blocks (F := Ideal) m ρ), ?_⟩
  refine (θ_run Cert.LogitsRefIdeal.defs _ _).mono (fun _ h c => ⟨?_, (h c).2⟩) (Cert.LogitsRefIdeal.Value.run (F := Ideal) m' ρ')
  rw [(h c).1, Cert.LogitsRefIdeal.Point.value]
  simp only [hagree c]

theorem quiescent_RouteRefIdeal : quiescent_RouteRefIdeal := fun m ρ _ =>
  (θ_run Cert.RouteRefIdeal.defs _ _).mono (fun r h => ⟨fun c => (h c).2, sem_eq_zero_of_no_sems (by decide) r.2⟩)
    (Cert.RouteRefIdeal.Value.run (F := Ideal) m ρ)

theorem algebraic_RouteIdeal_RouteRefIdeal_pre_above : algebraic_RouteIdeal_RouteRefIdeal_pre_above := by
  intro m ρ m' ρ' habove hagree
  have hb := fun c => Cert.RouteAbove.above _ _ (habove c)
  refine ⟨_, (θ_run Cert.RouteIdeal.defs _ _).mono (fun r h c => ⟨(h c).1.trans (Cert.RouteIdeal.Whole.whole2 m c (Cert.RouteSpec.biased_ne (hb c).1 (hb c).2)), (h c).2⟩)
    (Cert.RouteIdeal.Value.run_blocks (F := Ideal) m ρ), ?_⟩
  refine (θ_run Cert.RouteRefIdeal.defs _ _).mono (fun _ h c => ⟨?_, (h c).2⟩) (Cert.RouteRefIdeal.Value.run (F := Ideal) m' ρ')
  rw [(h c).1, Cert.RouteRefIdeal.Point.value m' c (fun n e => by rw [(hagree c).1]; exact (hb c).1 n e)]
  simp only [hagree c]

theorem claim : Cert.Claim := ⟨Cert.Moe.Gen.facts, Cert.MoeIdeal.Gen.facts, Cert.MoeRefIdeal.Gen.facts, Cert.Inproj.Gen.facts, Cert.InprojIdeal.Gen.facts, Cert.InprojRefIdeal.Gen.facts, Cert.Postmix.Gen.facts, Cert.PostmixIdeal.Gen.facts, Cert.PostmixRefIdeal.Gen.facts, Cert.Ada.Gen.facts, Cert.AdaIdeal.Gen.facts, Cert.AdaRefIdeal.Gen.facts, Cert.Logits.Gen.facts, Cert.LogitsIdeal.Gen.facts, Cert.LogitsRefIdeal.Gen.facts, Cert.Route.Gen.facts, Cert.RouteIdeal.Gen.facts, Cert.RouteRefIdeal.Gen.facts, Cert.Pre_finite.Gen.facts, Cert.Pre_above.Gen.facts,
  Cert.MoeTable.bits, fun m ρ _ => Cert.MoeIdeal.Body.unchanged (F := Ideal) m ρ, quiescent_MoeRefIdeal,
  fun m ρ _ => Cert.Inproj.Gen.frame m ρ, fun m ρ _ => Cert.InprojIdeal.Gen.frame m ρ, quiescent_InprojRefIdeal,
  fun m ρ _ => Cert.Postmix.Gen.frame m ρ, fun m ρ _ => Cert.PostmixIdeal.Gen.frame m ρ, quiescent_PostmixRefIdeal,
  fun m ρ _ => Cert.Ada.Gen.frame m ρ, fun m ρ _ => Cert.AdaIdeal.Gen.frame m ρ, quiescent_AdaRefIdeal,
  fun m ρ _ => Cert.Logits.Gen.frame m ρ, fun m ρ _ => Cert.LogitsIdeal.Gen.frame m ρ, fun m ρ _ => Cert.LogitsIdeal.Gen.frame m ρ,
  quiescent_LogitsRefIdeal, fun m ρ _ => quiescent_LogitsRefIdeal m ρ trivial,
  fun m ρ _ => Cert.Route.Gen.frame m ρ, fun m ρ _ => Cert.RouteIdeal.Gen.frame m ρ, fun m ρ _ => Cert.RouteIdeal.Gen.frame m ρ,
  quiescent_RouteRefIdeal, fun m ρ _ => quiescent_RouteRefIdeal m ρ trivial,
  (trivial : preserves_Moe_MoeIdeal), algebraic_MoeIdeal_MoeRefIdeal,
  (trivial : preserves_Inproj_InprojIdeal), algebraic_InprojIdeal_InprojRefIdeal,
  (trivial : preserves_Postmix_PostmixIdeal), algebraic_PostmixIdeal_PostmixRefIdeal,
  (trivial : preserves_Ada_AdaIdeal), algebraic_AdaIdeal_AdaRefIdeal,
  (trivial : preserves_Logits_LogitsIdeal), algebraic_LogitsIdeal_LogitsRefIdeal_pre_finite,
  (trivial : preserves_Route_RouteIdeal), algebraic_RouteIdeal_RouteRefIdeal_pre_above⟩

end Cert.Proof

end
